-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v48)) (v3 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_v49) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x256x256 : Shape := ⟨4, ![32, 1, 256, 256]⟩
abbrev S32x17x256x256 : Shape := ⟨4, ![32, 17, 256, 256]⟩
abbrev S32x64 : Shape := ⟨2, ![32, 64]⟩
abbrev S32x4096 : Shape := ⟨2, ![32, 4096]⟩
abbrev S32x16 : Shape := ⟨2, ![32, 16]⟩
abbrev S1 : Shape := ⟨1, ![1]⟩
abbrev S16 : Shape := ⟨1, ![16]⟩
abbrev S_ : Shape := ⟨0, ![]⟩
abbrev S2 : Shape := ⟨1, ![2]⟩
abbrev S1x1x1x1 : Shape := ⟨4, ![1, 1, 1, 1]⟩
abbrev S1x1x1 : Shape := ⟨3, ![1, 1, 1]⟩
abbrev S16x32x65536 : Shape := ⟨3, ![16, 32, 65536]⟩
abbrev S16x32x256x256 : Shape := ⟨4, ![16, 32, 256, 256]⟩
abbrev S32x16x256x256 : Shape := ⟨4, ![32, 16, 256, 256]⟩
abbrev S32x1 : Shape := ⟨2, ![32, 1]⟩
abbrev S32x1x1x1 : Shape := ⟨4, ![32, 1, 1, 1]⟩
abbrev S32 : Shape := ⟨1, ![32]⟩
abbrev S32x65536 : Shape := ⟨2, ![32, 65536]⟩
abbrev S32x16x4 : Shape := ⟨3, ![32, 16, 4]⟩
abbrev S32x16x256 : Shape := ⟨3, ![32, 16, 256]⟩
abbrev S32x16x1 : Shape := ⟨3, ![32, 16, 1]⟩
abbrev S1x16x1 : Shape := ⟨3, ![1, 16, 1]⟩
abbrev S1x1 : Shape := ⟨2, ![1, 1]⟩
abbrev S1x16x256x256 : Shape := ⟨4, ![1, 16, 256, 256]⟩
abbrev S1x1x256x256 : Shape := ⟨4, ![1, 1, 256, 256]⟩
abbrev S1x16x4 : Shape := ⟨3, ![1, 16, 4]⟩
abbrev S1x16x256 : Shape := ⟨3, ![1, 16, 256]⟩
abbrev S16x256x256 : Shape := ⟨3, ![16, 256, 256]⟩
abbrev S16x256 : Shape := ⟨2, ![16, 256]⟩
abbrev S16x1 : Shape := ⟨2, ![16, 1]⟩
abbrev S1x256x256 : Shape := ⟨3, ![1, 256, 256]⟩
abbrev S16x1x1 : Shape := ⟨3, ![16, 1, 1]⟩
abbrev S16x4 : Shape := ⟨2, ![16, 4]⟩

abbrev nBuf : Space → Nat
  | .hbm => 616
  | .vmem => 23
  | .smem => 0
  | _ => 0

abbrev hbmTy0_0 (i : Nat) : BufTy := match i % 128 with
  | 0 => ⟨S32x1x256x256, .f32⟩
  | 1 => ⟨S32x17x256x256, .f32⟩
  | 2 => ⟨S32x64, .f32⟩
  | 3 => ⟨S32x4096, .f32⟩
  | 4 => ⟨S32x16, .f32⟩
  | 5 => ⟨S1, .f32⟩
  | 6 => ⟨S1, .f32⟩
  | 7 => ⟨S16, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .f32⟩
  | 19 => ⟨S_, .f32⟩
  | 20 => ⟨S_, .f32⟩
  | 21 => ⟨S_, .f32⟩
  | 22 => ⟨S1x1x1x1, .f32⟩
  | 23 => ⟨S1x1x1x1, .f32⟩
  | 24 => ⟨S1, .i32⟩
  | 25 => ⟨S_, .i32⟩
  | 26 => ⟨S1, .i32⟩
  | 27 => ⟨S_, .i32⟩
  | 28 => ⟨S32x1x256x256, .i64⟩
  | 29 => ⟨S32x1x256x256, .i64⟩
  | 30 => ⟨S32x1x256x256, .i64⟩
  | 31 => ⟨S32x1x256x256, .i64⟩
  | 32 => ⟨S_, .i64⟩
  | 33 => ⟨S32x1x256x256, .i64⟩
  | 34 => ⟨S32x1x256x256, .i64⟩
  | 35 => ⟨S_, .i64⟩
  | 36 => ⟨S32x1x256x256, .i64⟩
  | 37 => ⟨S32x1x256x256, .i64⟩
  | 38 => ⟨S_, .i64⟩
  | 39 => ⟨S32x1x256x256, .i64⟩
  | 40 => ⟨S32x1x256x256, .i64⟩
  | 41 => ⟨S_, .i64⟩
  | 42 => ⟨S32x1x256x256, .i64⟩
  | 43 => ⟨S32x1x256x256, .i64⟩
  | 44 => ⟨S32x1x256x256, .i64⟩
  | 45 => ⟨S32x1x256x256, .i64⟩
  | 46 => ⟨S32x1x256x256, .i64⟩
  | 47 => ⟨S_, .i64⟩
  | 48 => ⟨S32x1x256x256, .i64⟩
  | 49 => ⟨S32x1x256x256, .i64⟩
  | 50 => ⟨S32x1x256x256, .i32⟩
  | 51 => ⟨S32x1x256x256, .i32⟩
  | 52 => ⟨S_, .i32⟩
  | 53 => ⟨S_, .i32⟩
  | 54 => ⟨S_, .i32⟩
  | 55 => ⟨S32x1x256x256, .i32⟩
  | 56 => ⟨S32x1x256x256, .i32⟩
  | 57 => ⟨S32x1x256x256, .i32⟩
  | 58 => ⟨S32x1x256x256, .i32⟩
  | 59 => ⟨S32x1x256x256, .i32⟩
  | 60 => ⟨S_, .i32⟩
  | 61 => ⟨S32x1x256x256, .i32⟩
  | 62 => ⟨S32x1x256x256, .i32⟩
  | 63 => ⟨S_, .i32⟩
  | 64 => ⟨S32x1x256x256, .i32⟩
  | 65 => ⟨S32x1x256x256, .i32⟩
  | 66 => ⟨S32x1x256x256, .i32⟩
  | 67 => ⟨S32x1x256x256, .i32⟩
  | 68 => ⟨S32x1x256x256, .i32⟩
  | 69 => ⟨S_, .i32⟩
  | 70 => ⟨S32x1x256x256, .i32⟩
  | 71 => ⟨S32x1x256x256, .i32⟩
  | 72 => ⟨S_, .i32⟩
  | 73 => ⟨S32x1x256x256, .i32⟩
  | 74 => ⟨S32x1x256x256, .i32⟩
  | 75 => ⟨S32x1x256x256, .i32⟩
  | 76 => ⟨S32x1x256x256, .i32⟩
  | 77 => ⟨S32x1x256x256, .i32⟩
  | 78 => ⟨S_, .i32⟩
  | 79 => ⟨S32x1x256x256, .i32⟩
  | 80 => ⟨S32x1x256x256, .i32⟩
  | 81 => ⟨S_, .i32⟩
  | 82 => ⟨S32x1x256x256, .i32⟩
  | 83 => ⟨S32x1x256x256, .i32⟩
  | 84 => ⟨S32x1x256x256, .i32⟩
  | 85 => ⟨S32x1x256x256, .i32⟩
  | 86 => ⟨S32x1x256x256, .i32⟩
  | 87 => ⟨S_, .i32⟩
  | 88 => ⟨S32x1x256x256, .i32⟩
  | 89 => ⟨S32x1x256x256, .i32⟩
  | 90 => ⟨S_, .i32⟩
  | 91 => ⟨S32x1x256x256, .i32⟩
  | 92 => ⟨S32x1x256x256, .i32⟩
  | 93 => ⟨S32x1x256x256, .i32⟩
  | 94 => ⟨S32x1x256x256, .i32⟩
  | 95 => ⟨S32x1x256x256, .i32⟩
  | 96 => ⟨S32x1x256x256, .i32⟩
  | 97 => ⟨S32x1x256x256, .i32⟩
  | 98 => ⟨S32x1x256x256, .i32⟩
  | 99 => ⟨S_, .i32⟩
  | 100 => ⟨S32x1x256x256, .i32⟩
  | 101 => ⟨S32x1x256x256, .i32⟩
  | 102 => ⟨S32x1x256x256, .i32⟩
  | 103 => ⟨S_, .i32⟩
  | 104 => ⟨S32x1x256x256, .i32⟩
  | 105 => ⟨S32x1x256x256, .i32⟩
  | 106 => ⟨S_, .i32⟩
  | 107 => ⟨S32x1x256x256, .i32⟩
  | 108 => ⟨S32x1x256x256, .i32⟩
  | 109 => ⟨S32x1x256x256, .i32⟩
  | 110 => ⟨S32x1x256x256, .i32⟩
  | 111 => ⟨S32x1x256x256, .i32⟩
  | 112 => ⟨S_, .i32⟩
  | 113 => ⟨S32x1x256x256, .i32⟩
  | 114 => ⟨S32x1x256x256, .i32⟩
  | 115 => ⟨S_, .i32⟩
  | 116 => ⟨S32x1x256x256, .i32⟩
  | 117 => ⟨S32x1x256x256, .i32⟩
  | 118 => ⟨S32x1x256x256, .i32⟩
  | 119 => ⟨S32x1x256x256, .i32⟩
  | 120 => ⟨S32x1x256x256, .i32⟩
  | 121 => ⟨S_, .i32⟩
  | 122 => ⟨S32x1x256x256, .i32⟩
  | 123 => ⟨S32x1x256x256, .i32⟩
  | 124 => ⟨S_, .i32⟩
  | 125 => ⟨S32x1x256x256, .i32⟩
  | 126 => ⟨S32x1x256x256, .i32⟩
  | 127 => ⟨S32x1x256x256, .i32⟩
  | _ => ⟨S32x1x256x256, .f32⟩

abbrev hbmTy0_1 (i : Nat) : BufTy := match i % 128 with
  | 0 => ⟨S32x1x256x256, .i32⟩
  | 1 => ⟨S32x1x256x256, .i32⟩
  | 2 => ⟨S_, .i32⟩
  | 3 => ⟨S32x1x256x256, .i32⟩
  | 4 => ⟨S32x1x256x256, .i32⟩
  | 5 => ⟨S_, .i32⟩
  | 6 => ⟨S32x1x256x256, .i32⟩
  | 7 => ⟨S32x1x256x256, .i32⟩
  | 8 => ⟨S32x1x256x256, .i32⟩
  | 9 => ⟨S32x1x256x256, .i32⟩
  | 10 => ⟨S32x1x256x256, .i32⟩
  | 11 => ⟨S32x1x256x256, .i32⟩
  | 12 => ⟨S32x1x256x256, .i32⟩
  | 13 => ⟨S32x1x256x256, .i32⟩
  | 14 => ⟨S_, .i32⟩
  | 15 => ⟨S32x1x256x256, .i32⟩
  | 16 => ⟨S32x1x256x256, .i32⟩
  | 17 => ⟨S32x1x256x256, .i32⟩
  | 18 => ⟨S_, .i32⟩
  | 19 => ⟨S32x1x256x256, .i32⟩
  | 20 => ⟨S32x1x256x256, .i32⟩
  | 21 => ⟨S_, .i32⟩
  | 22 => ⟨S32x1x256x256, .i32⟩
  | 23 => ⟨S32x1x256x256, .i32⟩
  | 24 => ⟨S32x1x256x256, .i32⟩
  | 25 => ⟨S32x1x256x256, .i32⟩
  | 26 => ⟨S32x1x256x256, .i32⟩
  | 27 => ⟨S_, .i32⟩
  | 28 => ⟨S32x1x256x256, .i32⟩
  | 29 => ⟨S32x1x256x256, .i32⟩
  | 30 => ⟨S_, .i32⟩
  | 31 => ⟨S32x1x256x256, .i32⟩
  | 32 => ⟨S32x1x256x256, .i32⟩
  | 33 => ⟨S32x1x256x256, .i32⟩
  | 34 => ⟨S32x1x256x256, .i32⟩
  | 35 => ⟨S32x1x256x256, .i32⟩
  | 36 => ⟨S_, .i32⟩
  | 37 => ⟨S32x1x256x256, .i32⟩
  | 38 => ⟨S32x1x256x256, .i32⟩
  | 39 => ⟨S_, .i32⟩
  | 40 => ⟨S32x1x256x256, .i32⟩
  | 41 => ⟨S32x1x256x256, .i32⟩
  | 42 => ⟨S32x1x256x256, .i32⟩
  | 43 => ⟨S32x1x256x256, .i32⟩
  | 44 => ⟨S32x1x256x256, .i32⟩
  | 45 => ⟨S_, .i32⟩
  | 46 => ⟨S32x1x256x256, .i32⟩
  | 47 => ⟨S32x1x256x256, .i32⟩
  | 48 => ⟨S_, .i32⟩
  | 49 => ⟨S32x1x256x256, .i32⟩
  | 50 => ⟨S32x1x256x256, .i32⟩
  | 51 => ⟨S32x1x256x256, .i32⟩
  | 52 => ⟨S32x1x256x256, .i32⟩
  | 53 => ⟨S32x1x256x256, .i32⟩
  | 54 => ⟨S32x1x256x256, .i32⟩
  | 55 => ⟨S32x1x256x256, .i32⟩
  | 56 => ⟨S32x1x256x256, .i32⟩
  | 57 => ⟨S_, .i32⟩
  | 58 => ⟨S32x1x256x256, .i32⟩
  | 59 => ⟨S32x1x256x256, .i32⟩
  | 60 => ⟨S32x1x256x256, .i32⟩
  | 61 => ⟨S_, .i32⟩
  | 62 => ⟨S32x1x256x256, .i32⟩
  | 63 => ⟨S32x1x256x256, .i32⟩
  | 64 => ⟨S_, .i32⟩
  | 65 => ⟨S32x1x256x256, .i32⟩
  | 66 => ⟨S32x1x256x256, .i32⟩
  | 67 => ⟨S32x1x256x256, .i32⟩
  | 68 => ⟨S32x1x256x256, .i32⟩
  | 69 => ⟨S32x1x256x256, .i32⟩
  | 70 => ⟨S_, .i32⟩
  | 71 => ⟨S32x1x256x256, .i32⟩
  | 72 => ⟨S32x1x256x256, .i32⟩
  | 73 => ⟨S_, .i32⟩
  | 74 => ⟨S32x1x256x256, .i32⟩
  | 75 => ⟨S32x1x256x256, .i32⟩
  | 76 => ⟨S32x1x256x256, .i32⟩
  | 77 => ⟨S32x1x256x256, .i32⟩
  | 78 => ⟨S32x1x256x256, .i32⟩
  | 79 => ⟨S_, .i32⟩
  | 80 => ⟨S32x1x256x256, .i32⟩
  | 81 => ⟨S32x1x256x256, .i32⟩
  | 82 => ⟨S_, .i32⟩
  | 83 => ⟨S32x1x256x256, .i32⟩
  | 84 => ⟨S32x1x256x256, .i32⟩
  | 85 => ⟨S32x1x256x256, .i32⟩
  | 86 => ⟨S32x1x256x256, .i32⟩
  | 87 => ⟨S32x1x256x256, .i32⟩
  | 88 => ⟨S_, .i32⟩
  | 89 => ⟨S32x1x256x256, .i32⟩
  | 90 => ⟨S32x1x256x256, .i32⟩
  | 91 => ⟨S_, .i32⟩
  | 92 => ⟨S32x1x256x256, .i32⟩
  | 93 => ⟨S32x1x256x256, .i32⟩
  | 94 => ⟨S32x1x256x256, .i32⟩
  | 95 => ⟨S32x1x256x256, .i32⟩
  | 96 => ⟨S32x1x256x256, .i32⟩
  | 97 => ⟨S32x1x256x256, .i32⟩
  | 98 => ⟨S32x1x256x256, .i32⟩
  | 99 => ⟨S32x1x256x256, .i32⟩
  | 100 => ⟨S_, .i32⟩
  | 101 => ⟨S32x1x256x256, .i32⟩
  | 102 => ⟨S32x1x256x256, .i32⟩
  | 103 => ⟨S32x1x256x256, .i32⟩
  | 104 => ⟨S_, .i32⟩
  | 105 => ⟨S32x1x256x256, .i32⟩
  | 106 => ⟨S32x1x256x256, .i32⟩
  | 107 => ⟨S_, .i32⟩
  | 108 => ⟨S32x1x256x256, .i32⟩
  | 109 => ⟨S32x1x256x256, .i32⟩
  | 110 => ⟨S32x1x256x256, .i32⟩
  | 111 => ⟨S32x1x256x256, .i32⟩
  | 112 => ⟨S32x1x256x256, .i32⟩
  | 113 => ⟨S_, .i32⟩
  | 114 => ⟨S32x1x256x256, .i32⟩
  | 115 => ⟨S32x1x256x256, .i32⟩
  | 116 => ⟨S_, .i32⟩
  | 117 => ⟨S32x1x256x256, .i32⟩
  | 118 => ⟨S32x1x256x256, .i32⟩
  | 119 => ⟨S32x1x256x256, .i32⟩
  | 120 => ⟨S32x1x256x256, .i32⟩
  | 121 => ⟨S32x1x256x256, .i32⟩
  | 122 => ⟨S_, .i32⟩
  | 123 => ⟨S32x1x256x256, .i32⟩
  | 124 => ⟨S32x1x256x256, .i32⟩
  | 125 => ⟨S_, .i32⟩
  | 126 => ⟨S32x1x256x256, .i32⟩
  | 127 => ⟨S32x1x256x256, .i32⟩
  | _ => ⟨S32x1x256x256, .f32⟩

abbrev hbmTy0_2 (i : Nat) : BufTy := match i % 128 with
  | 0 => ⟨S32x1x256x256, .i32⟩
  | 1 => ⟨S32x1x256x256, .i32⟩
  | 2 => ⟨S32x1x256x256, .i32⟩
  | 3 => ⟨S_, .i32⟩
  | 4 => ⟨S32x1x256x256, .i32⟩
  | 5 => ⟨S32x1x256x256, .i32⟩
  | 6 => ⟨S_, .i32⟩
  | 7 => ⟨S32x1x256x256, .i32⟩
  | 8 => ⟨S32x1x256x256, .i32⟩
  | 9 => ⟨S32x1x256x256, .i32⟩
  | 10 => ⟨S32x1x256x256, .i32⟩
  | 11 => ⟨S32x1x256x256, .i32⟩
  | 12 => ⟨S32x1x256x256, .i32⟩
  | 13 => ⟨S32x1x256x256, .i32⟩
  | 14 => ⟨S32x1x256x256, .i32⟩
  | 15 => ⟨S_, .i32⟩
  | 16 => ⟨S32x1x256x256, .i32⟩
  | 17 => ⟨S32x1x256x256, .i32⟩
  | 18 => ⟨S32x1x256x256, .i32⟩
  | 19 => ⟨S_, .i32⟩
  | 20 => ⟨S32x1x256x256, .i32⟩
  | 21 => ⟨S32x1x256x256, .i32⟩
  | 22 => ⟨S_, .i32⟩
  | 23 => ⟨S32x1x256x256, .i32⟩
  | 24 => ⟨S32x1x256x256, .i32⟩
  | 25 => ⟨S32x1x256x256, .f32⟩
  | 26 => ⟨S_, .f32⟩
  | 27 => ⟨S32x1x256x256, .f32⟩
  | 28 => ⟨S32x1x256x256, .f32⟩
  | 29 => ⟨S1x1x1x1, .f32⟩
  | 30 => ⟨S32x1x256x256, .f32⟩
  | 31 => ⟨S32x1x256x256, .f32⟩
  | 32 => ⟨S32x1x256x256, .f32⟩
  | 33 => ⟨S32x1x256x256, .f32⟩
  | 34 => ⟨S32x1x256x256, .f32⟩
  | 35 => ⟨S32x1x256x256, .f32⟩
  | 36 => ⟨S_, .i32⟩
  | 37 => ⟨S_, .i32⟩
  | 38 => ⟨S_, .i32⟩
  | 39 => ⟨S_, .i32⟩
  | 40 => ⟨S1, .i32⟩
  | 41 => ⟨S_, .i32⟩
  | 42 => ⟨S_, .i32⟩
  | 43 => ⟨S_, .i32⟩
  | 44 => ⟨S1, .i32⟩
  | 45 => ⟨S2, .i32⟩
  | 46 => ⟨S_, .f32⟩
  | 47 => ⟨S_, .f32⟩
  | 48 => ⟨S_, .f32⟩
  | 49 => ⟨S1x1x1, .f32⟩
  | 50 => ⟨S1x1x1, .f32⟩
  | 51 => ⟨S1, .i32⟩
  | 52 => ⟨S_, .i32⟩
  | 53 => ⟨S1, .i32⟩
  | 54 => ⟨S_, .i32⟩
  | 55 => ⟨S16x32x65536, .i64⟩
  | 56 => ⟨S16x32x65536, .i64⟩
  | 57 => ⟨S16x32x65536, .i64⟩
  | 58 => ⟨S_, .i64⟩
  | 59 => ⟨S16x32x65536, .i64⟩
  | 60 => ⟨S16x32x65536, .i64⟩
  | 61 => ⟨S_, .i64⟩
  | 62 => ⟨S16x32x65536, .i64⟩
  | 63 => ⟨S16x32x65536, .i64⟩
  | 64 => ⟨S_, .i64⟩
  | 65 => ⟨S16x32x65536, .i64⟩
  | 66 => ⟨S16x32x65536, .i64⟩
  | 67 => ⟨S16x32x65536, .i64⟩
  | 68 => ⟨S16x32x65536, .i64⟩
  | 69 => ⟨S_, .i64⟩
  | 70 => ⟨S16x32x65536, .i64⟩
  | 71 => ⟨S16x32x65536, .i64⟩
  | 72 => ⟨S16x32x65536, .i32⟩
  | 73 => ⟨S16x32x65536, .i32⟩
  | 74 => ⟨S_, .i32⟩
  | 75 => ⟨S_, .i32⟩
  | 76 => ⟨S_, .i32⟩
  | 77 => ⟨S16x32x65536, .i32⟩
  | 78 => ⟨S16x32x65536, .i32⟩
  | 79 => ⟨S16x32x65536, .i32⟩
  | 80 => ⟨S16x32x65536, .i32⟩
  | 81 => ⟨S16x32x65536, .i32⟩
  | 82 => ⟨S_, .i32⟩
  | 83 => ⟨S16x32x65536, .i32⟩
  | 84 => ⟨S16x32x65536, .i32⟩
  | 85 => ⟨S_, .i32⟩
  | 86 => ⟨S16x32x65536, .i32⟩
  | 87 => ⟨S16x32x65536, .i32⟩
  | 88 => ⟨S16x32x65536, .i32⟩
  | 89 => ⟨S16x32x65536, .i32⟩
  | 90 => ⟨S16x32x65536, .i32⟩
  | 91 => ⟨S_, .i32⟩
  | 92 => ⟨S16x32x65536, .i32⟩
  | 93 => ⟨S16x32x65536, .i32⟩
  | 94 => ⟨S_, .i32⟩
  | 95 => ⟨S16x32x65536, .i32⟩
  | 96 => ⟨S16x32x65536, .i32⟩
  | 97 => ⟨S16x32x65536, .i32⟩
  | 98 => ⟨S16x32x65536, .i32⟩
  | 99 => ⟨S16x32x65536, .i32⟩
  | 100 => ⟨S_, .i32⟩
  | 101 => ⟨S16x32x65536, .i32⟩
  | 102 => ⟨S16x32x65536, .i32⟩
  | 103 => ⟨S_, .i32⟩
  | 104 => ⟨S16x32x65536, .i32⟩
  | 105 => ⟨S16x32x65536, .i32⟩
  | 106 => ⟨S16x32x65536, .i32⟩
  | 107 => ⟨S16x32x65536, .i32⟩
  | 108 => ⟨S16x32x65536, .i32⟩
  | 109 => ⟨S_, .i32⟩
  | 110 => ⟨S16x32x65536, .i32⟩
  | 111 => ⟨S16x32x65536, .i32⟩
  | 112 => ⟨S_, .i32⟩
  | 113 => ⟨S16x32x65536, .i32⟩
  | 114 => ⟨S16x32x65536, .i32⟩
  | 115 => ⟨S16x32x65536, .i32⟩
  | 116 => ⟨S16x32x65536, .i32⟩
  | 117 => ⟨S16x32x65536, .i32⟩
  | 118 => ⟨S16x32x65536, .i32⟩
  | 119 => ⟨S16x32x65536, .i32⟩
  | 120 => ⟨S16x32x65536, .i32⟩
  | 121 => ⟨S_, .i32⟩
  | 122 => ⟨S16x32x65536, .i32⟩
  | 123 => ⟨S16x32x65536, .i32⟩
  | 124 => ⟨S16x32x65536, .i32⟩
  | 125 => ⟨S_, .i32⟩
  | 126 => ⟨S16x32x65536, .i32⟩
  | 127 => ⟨S16x32x65536, .i32⟩
  | _ => ⟨S32x1x256x256, .f32⟩

abbrev hbmTy0_3 (i : Nat) : BufTy := match i % 128 with
  | 0 => ⟨S_, .i32⟩
  | 1 => ⟨S16x32x65536, .i32⟩
  | 2 => ⟨S16x32x65536, .i32⟩
  | 3 => ⟨S16x32x65536, .i32⟩
  | 4 => ⟨S16x32x65536, .i32⟩
  | 5 => ⟨S16x32x65536, .i32⟩
  | 6 => ⟨S_, .i32⟩
  | 7 => ⟨S16x32x65536, .i32⟩
  | 8 => ⟨S16x32x65536, .i32⟩
  | 9 => ⟨S_, .i32⟩
  | 10 => ⟨S16x32x65536, .i32⟩
  | 11 => ⟨S16x32x65536, .i32⟩
  | 12 => ⟨S16x32x65536, .i32⟩
  | 13 => ⟨S16x32x65536, .i32⟩
  | 14 => ⟨S16x32x65536, .i32⟩
  | 15 => ⟨S_, .i32⟩
  | 16 => ⟨S16x32x65536, .i32⟩
  | 17 => ⟨S16x32x65536, .i32⟩
  | 18 => ⟨S_, .i32⟩
  | 19 => ⟨S16x32x65536, .i32⟩
  | 20 => ⟨S16x32x65536, .i32⟩
  | 21 => ⟨S16x32x65536, .i32⟩
  | 22 => ⟨S16x32x65536, .i32⟩
  | 23 => ⟨S16x32x65536, .i32⟩
  | 24 => ⟨S_, .i32⟩
  | 25 => ⟨S16x32x65536, .i32⟩
  | 26 => ⟨S16x32x65536, .i32⟩
  | 27 => ⟨S_, .i32⟩
  | 28 => ⟨S16x32x65536, .i32⟩
  | 29 => ⟨S16x32x65536, .i32⟩
  | 30 => ⟨S16x32x65536, .i32⟩
  | 31 => ⟨S16x32x65536, .i32⟩
  | 32 => ⟨S16x32x65536, .i32⟩
  | 33 => ⟨S16x32x65536, .i32⟩
  | 34 => ⟨S16x32x65536, .i32⟩
  | 35 => ⟨S16x32x65536, .i32⟩
  | 36 => ⟨S_, .i32⟩
  | 37 => ⟨S16x32x65536, .i32⟩
  | 38 => ⟨S16x32x65536, .i32⟩
  | 39 => ⟨S16x32x65536, .i32⟩
  | 40 => ⟨S_, .i32⟩
  | 41 => ⟨S16x32x65536, .i32⟩
  | 42 => ⟨S16x32x65536, .i32⟩
  | 43 => ⟨S_, .i32⟩
  | 44 => ⟨S16x32x65536, .i32⟩
  | 45 => ⟨S16x32x65536, .i32⟩
  | 46 => ⟨S16x32x65536, .i32⟩
  | 47 => ⟨S16x32x65536, .i32⟩
  | 48 => ⟨S16x32x65536, .i32⟩
  | 49 => ⟨S_, .i32⟩
  | 50 => ⟨S16x32x65536, .i32⟩
  | 51 => ⟨S16x32x65536, .i32⟩
  | 52 => ⟨S_, .i32⟩
  | 53 => ⟨S16x32x65536, .i32⟩
  | 54 => ⟨S16x32x65536, .i32⟩
  | 55 => ⟨S16x32x65536, .i32⟩
  | 56 => ⟨S16x32x65536, .i32⟩
  | 57 => ⟨S16x32x65536, .i32⟩
  | 58 => ⟨S_, .i32⟩
  | 59 => ⟨S16x32x65536, .i32⟩
  | 60 => ⟨S16x32x65536, .i32⟩
  | 61 => ⟨S_, .i32⟩
  | 62 => ⟨S16x32x65536, .i32⟩
  | 63 => ⟨S16x32x65536, .i32⟩
  | 64 => ⟨S16x32x65536, .i32⟩
  | 65 => ⟨S16x32x65536, .i32⟩
  | 66 => ⟨S16x32x65536, .i32⟩
  | 67 => ⟨S_, .i32⟩
  | 68 => ⟨S16x32x65536, .i32⟩
  | 69 => ⟨S16x32x65536, .i32⟩
  | 70 => ⟨S_, .i32⟩
  | 71 => ⟨S16x32x65536, .i32⟩
  | 72 => ⟨S16x32x65536, .i32⟩
  | 73 => ⟨S16x32x65536, .i32⟩
  | 74 => ⟨S16x32x65536, .i32⟩
  | 75 => ⟨S16x32x65536, .i32⟩
  | 76 => ⟨S16x32x65536, .i32⟩
  | 77 => ⟨S16x32x65536, .i32⟩
  | 78 => ⟨S16x32x65536, .i32⟩
  | 79 => ⟨S_, .i32⟩
  | 80 => ⟨S16x32x65536, .i32⟩
  | 81 => ⟨S16x32x65536, .i32⟩
  | 82 => ⟨S16x32x65536, .i32⟩
  | 83 => ⟨S_, .i32⟩
  | 84 => ⟨S16x32x65536, .i32⟩
  | 85 => ⟨S16x32x65536, .i32⟩
  | 86 => ⟨S_, .i32⟩
  | 87 => ⟨S16x32x65536, .i32⟩
  | 88 => ⟨S16x32x65536, .i32⟩
  | 89 => ⟨S16x32x65536, .i32⟩
  | 90 => ⟨S16x32x65536, .i32⟩
  | 91 => ⟨S16x32x65536, .i32⟩
  | 92 => ⟨S_, .i32⟩
  | 93 => ⟨S16x32x65536, .i32⟩
  | 94 => ⟨S16x32x65536, .i32⟩
  | 95 => ⟨S_, .i32⟩
  | 96 => ⟨S16x32x65536, .i32⟩
  | 97 => ⟨S16x32x65536, .i32⟩
  | 98 => ⟨S16x32x65536, .i32⟩
  | 99 => ⟨S16x32x65536, .i32⟩
  | 100 => ⟨S16x32x65536, .i32⟩
  | 101 => ⟨S_, .i32⟩
  | 102 => ⟨S16x32x65536, .i32⟩
  | 103 => ⟨S16x32x65536, .i32⟩
  | 104 => ⟨S_, .i32⟩
  | 105 => ⟨S16x32x65536, .i32⟩
  | 106 => ⟨S16x32x65536, .i32⟩
  | 107 => ⟨S16x32x65536, .i32⟩
  | 108 => ⟨S16x32x65536, .i32⟩
  | 109 => ⟨S16x32x65536, .i32⟩
  | 110 => ⟨S_, .i32⟩
  | 111 => ⟨S16x32x65536, .i32⟩
  | 112 => ⟨S16x32x65536, .i32⟩
  | 113 => ⟨S_, .i32⟩
  | 114 => ⟨S16x32x65536, .i32⟩
  | 115 => ⟨S16x32x65536, .i32⟩
  | 116 => ⟨S16x32x65536, .i32⟩
  | 117 => ⟨S16x32x65536, .i32⟩
  | 118 => ⟨S16x32x65536, .i32⟩
  | 119 => ⟨S16x32x65536, .i32⟩
  | 120 => ⟨S16x32x65536, .i32⟩
  | 121 => ⟨S16x32x65536, .i32⟩
  | 122 => ⟨S_, .i32⟩
  | 123 => ⟨S16x32x65536, .i32⟩
  | 124 => ⟨S16x32x65536, .i32⟩
  | 125 => ⟨S16x32x65536, .i32⟩
  | 126 => ⟨S_, .i32⟩
  | 127 => ⟨S16x32x65536, .i32⟩
  | _ => ⟨S32x1x256x256, .f32⟩

abbrev hbmTy0_4 (i : Nat) : BufTy := match i % 128 with
  | 0 => ⟨S16x32x65536, .i32⟩
  | 1 => ⟨S_, .i32⟩
  | 2 => ⟨S16x32x65536, .i32⟩
  | 3 => ⟨S16x32x65536, .i32⟩
  | 4 => ⟨S16x32x65536, .i32⟩
  | 5 => ⟨S16x32x65536, .i32⟩
  | 6 => ⟨S16x32x65536, .i32⟩
  | 7 => ⟨S_, .i32⟩
  | 8 => ⟨S16x32x65536, .i32⟩
  | 9 => ⟨S16x32x65536, .i32⟩
  | 10 => ⟨S_, .i32⟩
  | 11 => ⟨S16x32x65536, .i32⟩
  | 12 => ⟨S16x32x65536, .i32⟩
  | 13 => ⟨S16x32x65536, .i32⟩
  | 14 => ⟨S16x32x65536, .i32⟩
  | 15 => ⟨S16x32x65536, .i32⟩
  | 16 => ⟨S_, .i32⟩
  | 17 => ⟨S16x32x65536, .i32⟩
  | 18 => ⟨S16x32x65536, .i32⟩
  | 19 => ⟨S_, .i32⟩
  | 20 => ⟨S16x32x65536, .i32⟩
  | 21 => ⟨S16x32x65536, .i32⟩
  | 22 => ⟨S16x32x65536, .i32⟩
  | 23 => ⟨S16x32x65536, .i32⟩
  | 24 => ⟨S16x32x65536, .i32⟩
  | 25 => ⟨S_, .i32⟩
  | 26 => ⟨S16x32x65536, .i32⟩
  | 27 => ⟨S16x32x65536, .i32⟩
  | 28 => ⟨S_, .i32⟩
  | 29 => ⟨S16x32x65536, .i32⟩
  | 30 => ⟨S16x32x65536, .i32⟩
  | 31 => ⟨S16x32x65536, .i32⟩
  | 32 => ⟨S16x32x65536, .i32⟩
  | 33 => ⟨S16x32x65536, .i32⟩
  | 34 => ⟨S16x32x65536, .i32⟩
  | 35 => ⟨S16x32x65536, .i32⟩
  | 36 => ⟨S16x32x65536, .i32⟩
  | 37 => ⟨S_, .i32⟩
  | 38 => ⟨S16x32x65536, .i32⟩
  | 39 => ⟨S16x32x65536, .i32⟩
  | 40 => ⟨S16x32x65536, .i32⟩
  | 41 => ⟨S_, .i32⟩
  | 42 => ⟨S16x32x65536, .i32⟩
  | 43 => ⟨S16x32x65536, .i32⟩
  | 44 => ⟨S_, .i32⟩
  | 45 => ⟨S16x32x65536, .i32⟩
  | 46 => ⟨S16x32x65536, .i32⟩
  | 47 => ⟨S16x32x65536, .f32⟩
  | 48 => ⟨S_, .f32⟩
  | 49 => ⟨S16x32x65536, .f32⟩
  | 50 => ⟨S16x32x65536, .f32⟩
  | 51 => ⟨S1x1x1, .f32⟩
  | 52 => ⟨S16x32x65536, .f32⟩
  | 53 => ⟨S16x32x65536, .f32⟩
  | 54 => ⟨S16x32x65536, .f32⟩
  | 55 => ⟨S16x32x65536, .f32⟩
  | 56 => ⟨S16x32x65536, .f32⟩
  | 57 => ⟨S16x32x65536, .f32⟩
  | 58 => ⟨S16x32x65536, .f32⟩
  | 59 => ⟨S16x32x65536, .f32⟩
  | 60 => ⟨S16x32x65536, .f32⟩
  | 61 => ⟨S16x32x65536, .f32⟩
  | 62 => ⟨S16x32x256x256, .f32⟩
  | 63 => ⟨S32x16x256x256, .f32⟩
  | 64 => ⟨S_, .f32⟩
  | 65 => ⟨S32x1, .f32⟩
  | 66 => ⟨S32x1x1x1, .f32⟩
  | 67 => ⟨S_, .f32⟩
  | 68 => ⟨S32x1x1x1, .f32⟩
  | 69 => ⟨S32x1x1x1, .i1⟩
  | 70 => ⟨S32x1x1x1, .f32⟩
  | 71 => ⟨S32x1x256x256, .f32⟩
  | 72 => ⟨S32x1x256x256, .f32⟩
  | 73 => ⟨S_, .f32⟩
  | 74 => ⟨S32x1x1x1, .f32⟩
  | 75 => ⟨S32x1x1x1, .f32⟩
  | 76 => ⟨S32x1x256x256, .f32⟩
  | 77 => ⟨S32x1x256x256, .f32⟩
  | 78 => ⟨S32x1x256x256, .f32⟩
  | 79 => ⟨S_, .f32⟩
  | 80 => ⟨S32, .f32⟩
  | 81 => ⟨S32x1x1x1, .f32⟩
  | 82 => ⟨S32x1x256x256, .f32⟩
  | 83 => ⟨S32x1x256x256, .f32⟩
  | 84 => ⟨S32x65536, .f32⟩
  | 85 => ⟨S_, .f32⟩
  | 86 => ⟨S32x65536, .f32⟩
  | 87 => ⟨S32x65536, .f32⟩
  | 88 => ⟨S32x65536, .f32⟩
  | 89 => ⟨S32x1x256x256, .f32⟩
  | 90 => ⟨S32x16x4, .f32⟩
  | 91 => ⟨S32x16x256, .f32⟩
  | 92 => ⟨S32x16x1, .f32⟩
  | 93 => ⟨S1x16x1, .f32⟩
  | 94 => ⟨S1x1, .f32⟩
  | 95 => ⟨S1x1, .f32⟩
  | 96 => ⟨S32x16x4, .f32⟩
  | 97 => ⟨S32x16x256, .f32⟩
  | 98 => ⟨S32x16x1, .f32⟩
  | 99 => ⟨S32x16x1, .f32⟩
  | 100 => ⟨S32x64, .f32⟩
  | 101 => ⟨S32x4096, .f32⟩
  | 102 => ⟨S32x16, .f32⟩
  | 103 => ⟨S32x16, .f32⟩
  | _ => ⟨S32x1x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x1x256x256, .f32⟩

abbrev bufTy : (tb : Table) → Fin (tcTables nBuf tb) → BufTy
  | .hbm, ⟨i, _⟩ => hbmTy i
  | .local _ .vmem, ⟨0, _⟩ => ⟨S1x16x256x256, .f32⟩
  | .local _ .vmem, ⟨1, _⟩ => ⟨S1x16x256x256, .f32⟩
  | .local _ .vmem, ⟨2, _⟩ => ⟨S1x16x256x256, .f32⟩
  | .local _ .vmem, ⟨3, _⟩ => ⟨S1x16x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x16x4, .f32⟩
  | .local _ .vmem, ⟨7, _⟩ => ⟨S1x16x4, .f32⟩
  | .local _ .vmem, ⟨8, _⟩ => ⟨S1x16x256, .f32⟩
  | .local _ .vmem, ⟨9, _⟩ => ⟨S1x16x256, .f32⟩
  | .local _ .vmem, ⟨10, _⟩ => ⟨S1x16x1, .f32⟩
  | .local _ .vmem, ⟨11, _⟩ => ⟨S1x16x1, .f32⟩
  | .local _ .vmem, ⟨12, _⟩ => ⟨S1x16x1, .f32⟩
  | .local _ .vmem, ⟨13, _⟩ => ⟨S1x1, .f32⟩
  | .local _ .vmem, ⟨14, _⟩ => ⟨S1x1, .f32⟩
  | .local _ .vmem, ⟨15, _⟩ => ⟨S1x16x4, .f32⟩
  | .local _ .vmem, ⟨16, _⟩ => ⟨S1x16x4, .f32⟩
  | .local _ .vmem, ⟨17, _⟩ => ⟨S1x16x256, .f32⟩
  | .local _ .vmem, ⟨18, _⟩ => ⟨S1x16x256, .f32⟩
  | .local _ .vmem, ⟨19, _⟩ => ⟨S1x16x1, .f32⟩
  | .local _ .vmem, ⟨20, _⟩ => ⟨S1x16x1, .f32⟩
  | .local _ .vmem, ⟨21, _⟩ => ⟨S1x16x1, .f32⟩
  | .local _ .vmem, ⟨22, _⟩ => ⟨S1x16x1, .f32⟩
  | _, _ => ⟨S32x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c : Ref sig .tc := ⟨.hbm, 32, rfl⟩
abbrev main_call0_v12 : Ref sig .tc := ⟨.hbm, 33, rfl⟩
abbrev main_call0_v13 : Ref sig .tc := ⟨.hbm, 34, rfl⟩
abbrev main_call0_c_0 : Ref sig .tc := ⟨.hbm, 35, rfl⟩
abbrev main_call0_v14 : Ref sig .tc := ⟨.hbm, 36, rfl⟩
abbrev main_call0_v15 : Ref sig .tc := ⟨.hbm, 37, rfl⟩
abbrev main_call0_c_1 : Ref sig .tc := ⟨.hbm, 38, rfl⟩
abbrev main_call0_v16 : Ref sig .tc := ⟨.hbm, 39, rfl⟩
abbrev main_call0_v17 : Ref sig .tc := ⟨.hbm, 40, rfl⟩
abbrev main_call0_c_2 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_v22 : Ref sig .tc := ⟨.hbm, 46, rfl⟩
abbrev main_call0_c_3 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_v26 : Ref sig .tc := ⟨.hbm, 51, rfl⟩
abbrev main_call0_call0_v0 : Ref sig .tc := ⟨.hbm, 52, rfl⟩
abbrev main_call0_call0_c : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_c_0 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_c_1 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_call0_v12 : Ref sig .tc := ⟨.hbm, 67, rfl⟩
abbrev main_call0_call0_v13 : Ref sig .tc := ⟨.hbm, 68, rfl⟩
abbrev main_call0_call0_c_2 : Ref sig .tc := ⟨.hbm, 69, rfl⟩
abbrev main_call0_call0_v14 : Ref sig .tc := ⟨.hbm, 70, rfl⟩
abbrev main_call0_call0_v15 : Ref sig .tc := ⟨.hbm, 71, rfl⟩
abbrev main_call0_call0_c_3 : Ref sig .tc := ⟨.hbm, 72, rfl⟩
abbrev main_call0_call0_v16 : Ref sig .tc := ⟨.hbm, 73, rfl⟩
abbrev main_call0_call0_v17 : Ref sig .tc := ⟨.hbm, 74, rfl⟩
abbrev main_call0_call0_v18 : Ref sig .tc := ⟨.hbm, 75, rfl⟩
abbrev main_call0_call0_v19 : Ref sig .tc := ⟨.hbm, 76, rfl⟩
abbrev main_call0_call0_v20 : Ref sig .tc := ⟨.hbm, 77, rfl⟩
abbrev main_call0_call0_c_4 : Ref sig .tc := ⟨.hbm, 78, rfl⟩
abbrev main_call0_call0_v21 : Ref sig .tc := ⟨.hbm, 79, rfl⟩
abbrev main_call0_call0_v22 : Ref sig .tc := ⟨.hbm, 80, rfl⟩
abbrev main_call0_call0_c_5 : Ref sig .tc := ⟨.hbm, 81, rfl⟩
abbrev main_call0_call0_v23 : Ref sig .tc := ⟨.hbm, 82, rfl⟩
abbrev main_call0_call0_v24 : Ref sig .tc := ⟨.hbm, 83, rfl⟩
abbrev main_call0_call0_v25 : Ref sig .tc := ⟨.hbm, 84, rfl⟩
abbrev main_call0_call0_v26 : Ref sig .tc := ⟨.hbm, 85, rfl⟩
abbrev main_call0_call0_v27 : Ref sig .tc := ⟨.hbm, 86, rfl⟩
abbrev main_call0_call0_c_6 : Ref sig .tc := ⟨.hbm, 87, rfl⟩
abbrev main_call0_call0_v28 : Ref sig .tc := ⟨.hbm, 88, rfl⟩
abbrev main_call0_call0_v29 : Ref sig .tc := ⟨.hbm, 89, rfl⟩
abbrev main_call0_call0_c_7 : Ref sig .tc := ⟨.hbm, 90, rfl⟩
abbrev main_call0_call0_v30 : Ref sig .tc := ⟨.hbm, 91, rfl⟩
abbrev main_call0_call0_v31 : Ref sig .tc := ⟨.hbm, 92, rfl⟩
abbrev main_call0_call0_v32 : Ref sig .tc := ⟨.hbm, 93, rfl⟩
abbrev main_call0_call0_v33 : Ref sig .tc := ⟨.hbm, 94, rfl⟩
abbrev main_call0_call0_v34 : Ref sig .tc := ⟨.hbm, 95, rfl⟩
abbrev main_call0_call0_v35 : Ref sig .tc := ⟨.hbm, 96, rfl⟩
abbrev main_call0_call0_v36 : Ref sig .tc := ⟨.hbm, 97, rfl⟩
abbrev main_call0_call0_v37 : Ref sig .tc := ⟨.hbm, 98, rfl⟩
abbrev main_call0_call0_c_8 : Ref sig .tc := ⟨.hbm, 99, rfl⟩
abbrev main_call0_call0_v38 : Ref sig .tc := ⟨.hbm, 100, rfl⟩
abbrev main_call0_call0_v39 : Ref sig .tc := ⟨.hbm, 101, rfl⟩
abbrev main_call0_call0_v40 : Ref sig .tc := ⟨.hbm, 102, rfl⟩
abbrev main_call0_call0_c_9 : Ref sig .tc := ⟨.hbm, 103, rfl⟩
abbrev main_call0_call0_v41 : Ref sig .tc := ⟨.hbm, 104, rfl⟩
abbrev main_call0_call0_v42 : Ref sig .tc := ⟨.hbm, 105, rfl⟩
abbrev main_call0_call0_c_10 : Ref sig .tc := ⟨.hbm, 106, rfl⟩
abbrev main_call0_call0_v43 : Ref sig .tc := ⟨.hbm, 107, rfl⟩
abbrev main_call0_call0_v44 : Ref sig .tc := ⟨.hbm, 108, rfl⟩
abbrev main_call0_call0_v45 : Ref sig .tc := ⟨.hbm, 109, rfl⟩
abbrev main_call0_call0_v46 : Ref sig .tc := ⟨.hbm, 110, rfl⟩
abbrev main_call0_call0_v47 : Ref sig .tc := ⟨.hbm, 111, rfl⟩
abbrev main_call0_call0_c_11 : Ref sig .tc := ⟨.hbm, 112, rfl⟩
abbrev main_call0_call0_v48 : Ref sig .tc := ⟨.hbm, 113, rfl⟩
abbrev main_call0_call0_v49 : Ref sig .tc := ⟨.hbm, 114, rfl⟩
abbrev main_call0_call0_c_12 : Ref sig .tc := ⟨.hbm, 115, rfl⟩
abbrev main_call0_call0_v50 : Ref sig .tc := ⟨.hbm, 116, rfl⟩
abbrev main_call0_call0_v51 : Ref sig .tc := ⟨.hbm, 117, rfl⟩
abbrev main_call0_call0_v52 : Ref sig .tc := ⟨.hbm, 118, rfl⟩
abbrev main_call0_call0_v53 : Ref sig .tc := ⟨.hbm, 119, rfl⟩
abbrev main_call0_call0_v54 : Ref sig .tc := ⟨.hbm, 120, rfl⟩
abbrev main_call0_call0_c_13 : Ref sig .tc := ⟨.hbm, 121, rfl⟩
abbrev main_call0_call0_v55 : Ref sig .tc := ⟨.hbm, 122, rfl⟩
abbrev main_call0_call0_v56 : Ref sig .tc := ⟨.hbm, 123, rfl⟩
abbrev main_call0_call0_c_14 : Ref sig .tc := ⟨.hbm, 124, rfl⟩
abbrev main_call0_call0_v57 : Ref sig .tc := ⟨.hbm, 125, rfl⟩
abbrev main_call0_call0_v58 : Ref sig .tc := ⟨.hbm, 126, rfl⟩
abbrev main_call0_call0_v59 : Ref sig .tc := ⟨.hbm, 127, rfl⟩
abbrev main_call0_call0_v60 : Ref sig .tc := ⟨.hbm, 128, rfl⟩
abbrev main_call0_call0_v61 : Ref sig .tc := ⟨.hbm, 129, rfl⟩
abbrev main_call0_call0_c_15 : Ref sig .tc := ⟨.hbm, 130, rfl⟩
abbrev main_call0_call0_v62 : Ref sig .tc := ⟨.hbm, 131, rfl⟩
abbrev main_call0_call0_v63 : Ref sig .tc := ⟨.hbm, 132, rfl⟩
abbrev main_call0_call0_c_16 : Ref sig .tc := ⟨.hbm, 133, rfl⟩
abbrev main_call0_call0_v64 : Ref sig .tc := ⟨.hbm, 134, rfl⟩
abbrev main_call0_call0_v65 : Ref sig .tc := ⟨.hbm, 135, rfl⟩
abbrev main_call0_call0_v66 : Ref sig .tc := ⟨.hbm, 136, rfl⟩
abbrev main_call0_call0_v67 : Ref sig .tc := ⟨.hbm, 137, rfl⟩
abbrev main_call0_call0_v68 : Ref sig .tc := ⟨.hbm, 138, rfl⟩
abbrev main_call0_call0_v69 : Ref sig .tc := ⟨.hbm, 139, rfl⟩
abbrev main_call0_call0_v70 : Ref sig .tc := ⟨.hbm, 140, rfl⟩
abbrev main_call0_call0_v71 : Ref sig .tc := ⟨.hbm, 141, rfl⟩
abbrev main_call0_call0_c_17 : Ref sig .tc := ⟨.hbm, 142, rfl⟩
abbrev main_call0_call0_v72 : Ref sig .tc := ⟨.hbm, 143, rfl⟩
abbrev main_call0_call0_v73 : Ref sig .tc := ⟨.hbm, 144, rfl⟩
abbrev main_call0_call0_v74 : Ref sig .tc := ⟨.hbm, 145, rfl⟩
abbrev main_call0_call0_c_18 : Ref sig .tc := ⟨.hbm, 146, rfl⟩
abbrev main_call0_call0_v75 : Ref sig .tc := ⟨.hbm, 147, rfl⟩
abbrev main_call0_call0_v76 : Ref sig .tc := ⟨.hbm, 148, rfl⟩
abbrev main_call0_call0_c_19 : Ref sig .tc := ⟨.hbm, 149, rfl⟩
abbrev main_call0_call0_v77 : Ref sig .tc := ⟨.hbm, 150, rfl⟩
abbrev main_call0_call0_v78 : Ref sig .tc := ⟨.hbm, 151, rfl⟩
abbrev main_call0_call0_v79 : Ref sig .tc := ⟨.hbm, 152, rfl⟩
abbrev main_call0_call0_v80 : Ref sig .tc := ⟨.hbm, 153, rfl⟩
abbrev main_call0_call0_v81 : Ref sig .tc := ⟨.hbm, 154, rfl⟩
abbrev main_call0_call0_c_20 : Ref sig .tc := ⟨.hbm, 155, rfl⟩
abbrev main_call0_call0_v82 : Ref sig .tc := ⟨.hbm, 156, rfl⟩
abbrev main_call0_call0_v83 : Ref sig .tc := ⟨.hbm, 157, rfl⟩
abbrev main_call0_call0_c_21 : Ref sig .tc := ⟨.hbm, 158, rfl⟩
abbrev main_call0_call0_v84 : Ref sig .tc := ⟨.hbm, 159, rfl⟩
abbrev main_call0_call0_v85 : Ref sig .tc := ⟨.hbm, 160, rfl⟩
abbrev main_call0_call0_v86 : Ref sig .tc := ⟨.hbm, 161, rfl⟩
abbrev main_call0_call0_v87 : Ref sig .tc := ⟨.hbm, 162, rfl⟩
abbrev main_call0_call0_v88 : Ref sig .tc := ⟨.hbm, 163, rfl⟩
abbrev main_call0_call0_c_22 : Ref sig .tc := ⟨.hbm, 164, rfl⟩
abbrev main_call0_call0_v89 : Ref sig .tc := ⟨.hbm, 165, rfl⟩
abbrev main_call0_call0_v90 : Ref sig .tc := ⟨.hbm, 166, rfl⟩
abbrev main_call0_call0_c_23 : Ref sig .tc := ⟨.hbm, 167, rfl⟩
abbrev main_call0_call0_v91 : Ref sig .tc := ⟨.hbm, 168, rfl⟩
abbrev main_call0_call0_v92 : Ref sig .tc := ⟨.hbm, 169, rfl⟩
abbrev main_call0_call0_v93 : Ref sig .tc := ⟨.hbm, 170, rfl⟩
abbrev main_call0_call0_v94 : Ref sig .tc := ⟨.hbm, 171, rfl⟩
abbrev main_call0_call0_v95 : Ref sig .tc := ⟨.hbm, 172, rfl⟩
abbrev main_call0_call0_c_24 : Ref sig .tc := ⟨.hbm, 173, rfl⟩
abbrev main_call0_call0_v96 : Ref sig .tc := ⟨.hbm, 174, rfl⟩
abbrev main_call0_call0_v97 : Ref sig .tc := ⟨.hbm, 175, rfl⟩
abbrev main_call0_call0_c_25 : Ref sig .tc := ⟨.hbm, 176, rfl⟩
abbrev main_call0_call0_v98 : Ref sig .tc := ⟨.hbm, 177, rfl⟩
abbrev main_call0_call0_v99 : Ref sig .tc := ⟨.hbm, 178, rfl⟩
abbrev main_call0_call0_v100 : Ref sig .tc := ⟨.hbm, 179, rfl⟩
abbrev main_call0_call0_v101 : Ref sig .tc := ⟨.hbm, 180, rfl⟩
abbrev main_call0_call0_v102 : Ref sig .tc := ⟨.hbm, 181, rfl⟩
abbrev main_call0_call0_v103 : Ref sig .tc := ⟨.hbm, 182, rfl⟩
abbrev main_call0_call0_v104 : Ref sig .tc := ⟨.hbm, 183, rfl⟩
abbrev main_call0_call0_v105 : Ref sig .tc := ⟨.hbm, 184, rfl⟩
abbrev main_call0_call0_c_26 : Ref sig .tc := ⟨.hbm, 185, rfl⟩
abbrev main_call0_call0_v106 : Ref sig .tc := ⟨.hbm, 186, rfl⟩
abbrev main_call0_call0_v107 : Ref sig .tc := ⟨.hbm, 187, rfl⟩
abbrev main_call0_call0_v108 : Ref sig .tc := ⟨.hbm, 188, rfl⟩
abbrev main_call0_call0_c_27 : Ref sig .tc := ⟨.hbm, 189, rfl⟩
abbrev main_call0_call0_v109 : Ref sig .tc := ⟨.hbm, 190, rfl⟩
abbrev main_call0_call0_v110 : Ref sig .tc := ⟨.hbm, 191, rfl⟩
abbrev main_call0_call0_c_28 : Ref sig .tc := ⟨.hbm, 192, rfl⟩
abbrev main_call0_call0_v111 : Ref sig .tc := ⟨.hbm, 193, rfl⟩
abbrev main_call0_call0_v112 : Ref sig .tc := ⟨.hbm, 194, rfl⟩
abbrev main_call0_call0_v113 : Ref sig .tc := ⟨.hbm, 195, rfl⟩
abbrev main_call0_call0_v114 : Ref sig .tc := ⟨.hbm, 196, rfl⟩
abbrev main_call0_call0_v115 : Ref sig .tc := ⟨.hbm, 197, rfl⟩
abbrev main_call0_call0_c_29 : Ref sig .tc := ⟨.hbm, 198, rfl⟩
abbrev main_call0_call0_v116 : Ref sig .tc := ⟨.hbm, 199, rfl⟩
abbrev main_call0_call0_v117 : Ref sig .tc := ⟨.hbm, 200, rfl⟩
abbrev main_call0_call0_c_30 : Ref sig .tc := ⟨.hbm, 201, rfl⟩
abbrev main_call0_call0_v118 : Ref sig .tc := ⟨.hbm, 202, rfl⟩
abbrev main_call0_call0_v119 : Ref sig .tc := ⟨.hbm, 203, rfl⟩
abbrev main_call0_call0_v120 : Ref sig .tc := ⟨.hbm, 204, rfl⟩
abbrev main_call0_call0_v121 : Ref sig .tc := ⟨.hbm, 205, rfl⟩
abbrev main_call0_call0_v122 : Ref sig .tc := ⟨.hbm, 206, rfl⟩
abbrev main_call0_call0_c_31 : Ref sig .tc := ⟨.hbm, 207, rfl⟩
abbrev main_call0_call0_v123 : Ref sig .tc := ⟨.hbm, 208, rfl⟩
abbrev main_call0_call0_v124 : Ref sig .tc := ⟨.hbm, 209, rfl⟩
abbrev main_call0_call0_c_32 : Ref sig .tc := ⟨.hbm, 210, rfl⟩
abbrev main_call0_call0_v125 : Ref sig .tc := ⟨.hbm, 211, rfl⟩
abbrev main_call0_call0_v126 : Ref sig .tc := ⟨.hbm, 212, rfl⟩
abbrev main_call0_call0_v127 : Ref sig .tc := ⟨.hbm, 213, rfl⟩
abbrev main_call0_call0_v128 : Ref sig .tc := ⟨.hbm, 214, rfl⟩
abbrev main_call0_call0_v129 : Ref sig .tc := ⟨.hbm, 215, rfl⟩
abbrev main_call0_call0_c_33 : Ref sig .tc := ⟨.hbm, 216, rfl⟩
abbrev main_call0_call0_v130 : Ref sig .tc := ⟨.hbm, 217, rfl⟩
abbrev main_call0_call0_v131 : Ref sig .tc := ⟨.hbm, 218, rfl⟩
abbrev main_call0_call0_c_34 : Ref sig .tc := ⟨.hbm, 219, rfl⟩
abbrev main_call0_call0_v132 : Ref sig .tc := ⟨.hbm, 220, rfl⟩
abbrev main_call0_call0_v133 : Ref sig .tc := ⟨.hbm, 221, rfl⟩
abbrev main_call0_call0_v134 : Ref sig .tc := ⟨.hbm, 222, rfl⟩
abbrev main_call0_call0_v135 : Ref sig .tc := ⟨.hbm, 223, rfl⟩
abbrev main_call0_call0_v136 : Ref sig .tc := ⟨.hbm, 224, rfl⟩
abbrev main_call0_call0_v137 : Ref sig .tc := ⟨.hbm, 225, rfl⟩
abbrev main_call0_call0_v138 : Ref sig .tc := ⟨.hbm, 226, rfl⟩
abbrev main_call0_call0_v139 : Ref sig .tc := ⟨.hbm, 227, rfl⟩
abbrev main_call0_call0_c_35 : Ref sig .tc := ⟨.hbm, 228, rfl⟩
abbrev main_call0_call0_v140 : Ref sig .tc := ⟨.hbm, 229, rfl⟩
abbrev main_call0_call0_v141 : Ref sig .tc := ⟨.hbm, 230, rfl⟩
abbrev main_call0_call0_v142 : Ref sig .tc := ⟨.hbm, 231, rfl⟩
abbrev main_call0_call0_c_36 : Ref sig .tc := ⟨.hbm, 232, rfl⟩
abbrev main_call0_call0_v143 : Ref sig .tc := ⟨.hbm, 233, rfl⟩
abbrev main_call0_call0_v144 : Ref sig .tc := ⟨.hbm, 234, rfl⟩
abbrev main_call0_call0_c_37 : Ref sig .tc := ⟨.hbm, 235, rfl⟩
abbrev main_call0_call0_v145 : Ref sig .tc := ⟨.hbm, 236, rfl⟩
abbrev main_call0_call0_v146 : Ref sig .tc := ⟨.hbm, 237, rfl⟩
abbrev main_call0_call0_v147 : Ref sig .tc := ⟨.hbm, 238, rfl⟩
abbrev main_call0_call0_v148 : Ref sig .tc := ⟨.hbm, 239, rfl⟩
abbrev main_call0_call0_v149 : Ref sig .tc := ⟨.hbm, 240, rfl⟩
abbrev main_call0_call0_c_38 : Ref sig .tc := ⟨.hbm, 241, rfl⟩
abbrev main_call0_call0_v150 : Ref sig .tc := ⟨.hbm, 242, rfl⟩
abbrev main_call0_call0_v151 : Ref sig .tc := ⟨.hbm, 243, rfl⟩
abbrev main_call0_call0_c_39 : Ref sig .tc := ⟨.hbm, 244, rfl⟩
abbrev main_call0_call0_v152 : Ref sig .tc := ⟨.hbm, 245, rfl⟩
abbrev main_call0_call0_v153 : Ref sig .tc := ⟨.hbm, 246, rfl⟩
abbrev main_call0_call0_v154 : Ref sig .tc := ⟨.hbm, 247, rfl⟩
abbrev main_call0_call0_v155 : Ref sig .tc := ⟨.hbm, 248, rfl⟩
abbrev main_call0_call0_v156 : Ref sig .tc := ⟨.hbm, 249, rfl⟩
abbrev main_call0_call0_c_40 : Ref sig .tc := ⟨.hbm, 250, rfl⟩
abbrev main_call0_call0_v157 : Ref sig .tc := ⟨.hbm, 251, rfl⟩
abbrev main_call0_call0_v158 : Ref sig .tc := ⟨.hbm, 252, rfl⟩
abbrev main_call0_call0_c_41 : Ref sig .tc := ⟨.hbm, 253, rfl⟩
abbrev main_call0_call0_v159 : Ref sig .tc := ⟨.hbm, 254, rfl⟩
abbrev main_call0_call0_v160 : Ref sig .tc := ⟨.hbm, 255, rfl⟩
abbrev main_call0_call0_v161 : Ref sig .tc := ⟨.hbm, 256, rfl⟩
abbrev main_call0_call0_v162 : Ref sig .tc := ⟨.hbm, 257, rfl⟩
abbrev main_call0_call0_v163 : Ref sig .tc := ⟨.hbm, 258, rfl⟩
abbrev main_call0_call0_c_42 : Ref sig .tc := ⟨.hbm, 259, rfl⟩
abbrev main_call0_call0_v164 : Ref sig .tc := ⟨.hbm, 260, rfl⟩
abbrev main_call0_call0_v165 : Ref sig .tc := ⟨.hbm, 261, rfl⟩
abbrev main_call0_call0_c_43 : Ref sig .tc := ⟨.hbm, 262, rfl⟩
abbrev main_call0_call0_v166 : Ref sig .tc := ⟨.hbm, 263, rfl⟩
abbrev main_call0_call0_v167 : Ref sig .tc := ⟨.hbm, 264, rfl⟩
abbrev main_call0_call0_v168 : Ref sig .tc := ⟨.hbm, 265, rfl⟩
abbrev main_call0_call0_v169 : Ref sig .tc := ⟨.hbm, 266, rfl⟩
abbrev main_call0_call0_v170 : Ref sig .tc := ⟨.hbm, 267, rfl⟩
abbrev main_call0_v27_0 : Ref sig .tc := ⟨.hbm, 268, rfl⟩
abbrev main_call0_call0_v172 : Ref sig .tc := ⟨.hbm, 269, rfl⟩
abbrev main_call0_call0_v173 : Ref sig .tc := ⟨.hbm, 270, rfl⟩
abbrev main_call0_call0_c_44 : Ref sig .tc := ⟨.hbm, 271, rfl⟩
abbrev main_call0_call0_v174 : Ref sig .tc := ⟨.hbm, 272, rfl⟩
abbrev main_call0_v27_1 : Ref sig .tc := ⟨.hbm, 273, rfl⟩
abbrev main_call0_v28 : Ref sig .tc := ⟨.hbm, 274, rfl⟩
abbrev main_call0_c_4 : Ref sig .tc := ⟨.hbm, 275, rfl⟩
abbrev main_call0_v29 : Ref sig .tc := ⟨.hbm, 276, rfl⟩
abbrev main_call0_v30 : Ref sig .tc := ⟨.hbm, 277, rfl⟩
abbrev main_call0_c_5 : Ref sig .tc := ⟨.hbm, 278, rfl⟩
abbrev main_call0_v31 : Ref sig .tc := ⟨.hbm, 279, rfl⟩
abbrev main_call0_v32 : Ref sig .tc := ⟨.hbm, 280, rfl⟩
abbrev main_call0_v33 : Ref sig .tc := ⟨.hbm, 281, rfl⟩
abbrev main_call0_cst : Ref sig .tc := ⟨.hbm, 282, rfl⟩
abbrev main_call0_v34 : Ref sig .tc := ⟨.hbm, 283, rfl⟩
abbrev main_call0_v35 : Ref sig .tc := ⟨.hbm, 284, rfl⟩
abbrev main_call0_v36 : Ref sig .tc := ⟨.hbm, 285, rfl⟩
abbrev main_call0_v37 : Ref sig .tc := ⟨.hbm, 286, rfl⟩
abbrev main_call0_v38 : Ref sig .tc := ⟨.hbm, 287, rfl⟩
abbrev main_call0_v39 : Ref sig .tc := ⟨.hbm, 288, rfl⟩
abbrev main_call0_v40 : Ref sig .tc := ⟨.hbm, 289, rfl⟩
abbrev main_call0_v41 : Ref sig .tc := ⟨.hbm, 290, rfl⟩
abbrev main_v7 : Ref sig .tc := ⟨.hbm, 291, rfl⟩
abbrev main_c_3 : Ref sig .tc := ⟨.hbm, 292, rfl⟩
abbrev main_c_4 : Ref sig .tc := ⟨.hbm, 293, rfl⟩
abbrev main_v8 : Ref sig .tc := ⟨.hbm, 294, rfl⟩
abbrev main_v9 : Ref sig .tc := ⟨.hbm, 295, rfl⟩
abbrev main_v10 : Ref sig .tc := ⟨.hbm, 296, rfl⟩
abbrev main_c_5 : Ref sig .tc := ⟨.hbm, 297, rfl⟩
abbrev main_v11 : Ref sig .tc := ⟨.hbm, 298, rfl⟩
abbrev main_v12 : Ref sig .tc := ⟨.hbm, 299, rfl⟩
abbrev main_v13 : Ref sig .tc := ⟨.hbm, 300, rfl⟩
abbrev main_v14 : Ref sig .tc := ⟨.hbm, 301, rfl⟩
abbrev main_call1_cst : Ref sig .tc := ⟨.hbm, 302, rfl⟩
abbrev main_call1_cst_0 : Ref sig .tc := ⟨.hbm, 303, rfl⟩
abbrev main_call1_call0_v0 : Ref sig .tc := ⟨.hbm, 304, rfl⟩
abbrev main_call1_call0_v1 : Ref sig .tc := ⟨.hbm, 305, rfl⟩
abbrev main_call1_call0_v2 : Ref sig .tc := ⟨.hbm, 306, rfl⟩
abbrev main_call1_call0_v3 : Ref sig .tc := ⟨.hbm, 307, rfl⟩
abbrev main_call1_call0_v4 : Ref sig .tc := ⟨.hbm, 308, rfl⟩
abbrev main_call1_call0_v5 : Ref sig .tc := ⟨.hbm, 309, rfl⟩
abbrev main_call1_call0_v6 : Ref sig .tc := ⟨.hbm, 310, rfl⟩
abbrev main_call1_call0_v7 : Ref sig .tc := ⟨.hbm, 311, rfl⟩
abbrev main_call1_call0_v8 : Ref sig .tc := ⟨.hbm, 312, rfl⟩
abbrev main_call1_call0_v9 : Ref sig .tc := ⟨.hbm, 313, rfl⟩
abbrev main_call1_call0_c : Ref sig .tc := ⟨.hbm, 314, rfl⟩
abbrev main_call1_call0_v10 : Ref sig .tc := ⟨.hbm, 315, rfl⟩
abbrev main_call1_call0_v11 : Ref sig .tc := ⟨.hbm, 316, rfl⟩
abbrev main_call1_call0_c_0 : Ref sig .tc := ⟨.hbm, 317, rfl⟩
abbrev main_call1_call0_v12 : Ref sig .tc := ⟨.hbm, 318, rfl⟩
abbrev main_call1_call0_v13 : Ref sig .tc := ⟨.hbm, 319, rfl⟩
abbrev main_call1_call0_c_1 : Ref sig .tc := ⟨.hbm, 320, rfl⟩
abbrev main_call1_call0_v14 : Ref sig .tc := ⟨.hbm, 321, rfl⟩
abbrev main_call1_call0_v15 : Ref sig .tc := ⟨.hbm, 322, rfl⟩
abbrev main_call1_call0_v16 : Ref sig .tc := ⟨.hbm, 323, rfl⟩
abbrev main_call1_call0_v17 : Ref sig .tc := ⟨.hbm, 324, rfl⟩
abbrev main_call1_call0_c_2 : Ref sig .tc := ⟨.hbm, 325, rfl⟩
abbrev main_call1_call0_v18 : Ref sig .tc := ⟨.hbm, 326, rfl⟩
abbrev main_call1_call0_v19 : Ref sig .tc := ⟨.hbm, 327, rfl⟩
abbrev main_call1_call0_v20 : Ref sig .tc := ⟨.hbm, 328, rfl⟩
abbrev main_call1_call0_v21 : Ref sig .tc := ⟨.hbm, 329, rfl⟩
abbrev main_call1_call0_call0_v0 : Ref sig .tc := ⟨.hbm, 330, rfl⟩
abbrev main_call1_call0_call0_c : Ref sig .tc := ⟨.hbm, 331, rfl⟩
abbrev main_call1_call0_call0_v1 : Ref sig .tc := ⟨.hbm, 332, rfl⟩
abbrev main_call1_call0_call0_v2 : Ref sig .tc := ⟨.hbm, 333, rfl⟩
abbrev main_call1_call0_call0_v3 : Ref sig .tc := ⟨.hbm, 334, rfl⟩
abbrev main_call1_call0_call0_v4 : Ref sig .tc := ⟨.hbm, 335, rfl⟩
abbrev main_call1_call0_call0_v5 : Ref sig .tc := ⟨.hbm, 336, rfl⟩
abbrev main_call1_call0_call0_v6 : Ref sig .tc := ⟨.hbm, 337, rfl⟩
abbrev main_call1_call0_call0_c_0 : Ref sig .tc := ⟨.hbm, 338, rfl⟩
abbrev main_call1_call0_call0_v7 : Ref sig .tc := ⟨.hbm, 339, rfl⟩
abbrev main_call1_call0_call0_v8 : Ref sig .tc := ⟨.hbm, 340, rfl⟩
abbrev main_call1_call0_call0_c_1 : Ref sig .tc := ⟨.hbm, 341, rfl⟩
abbrev main_call1_call0_call0_v9 : Ref sig .tc := ⟨.hbm, 342, rfl⟩
abbrev main_call1_call0_call0_v10 : Ref sig .tc := ⟨.hbm, 343, rfl⟩
abbrev main_call1_call0_call0_v11 : Ref sig .tc := ⟨.hbm, 344, rfl⟩
abbrev main_call1_call0_call0_v12 : Ref sig .tc := ⟨.hbm, 345, rfl⟩
abbrev main_call1_call0_call0_v13 : Ref sig .tc := ⟨.hbm, 346, rfl⟩
abbrev main_call1_call0_call0_c_2 : Ref sig .tc := ⟨.hbm, 347, rfl⟩
abbrev main_call1_call0_call0_v14 : Ref sig .tc := ⟨.hbm, 348, rfl⟩
abbrev main_call1_call0_call0_v15 : Ref sig .tc := ⟨.hbm, 349, rfl⟩
abbrev main_call1_call0_call0_c_3 : Ref sig .tc := ⟨.hbm, 350, rfl⟩
abbrev main_call1_call0_call0_v16 : Ref sig .tc := ⟨.hbm, 351, rfl⟩
abbrev main_call1_call0_call0_v17 : Ref sig .tc := ⟨.hbm, 352, rfl⟩
abbrev main_call1_call0_call0_v18 : Ref sig .tc := ⟨.hbm, 353, rfl⟩
abbrev main_call1_call0_call0_v19 : Ref sig .tc := ⟨.hbm, 354, rfl⟩
abbrev main_call1_call0_call0_v20 : Ref sig .tc := ⟨.hbm, 355, rfl⟩
abbrev main_call1_call0_call0_c_4 : Ref sig .tc := ⟨.hbm, 356, rfl⟩
abbrev main_call1_call0_call0_v21 : Ref sig .tc := ⟨.hbm, 357, rfl⟩
abbrev main_call1_call0_call0_v22 : Ref sig .tc := ⟨.hbm, 358, rfl⟩
abbrev main_call1_call0_call0_c_5 : Ref sig .tc := ⟨.hbm, 359, rfl⟩
abbrev main_call1_call0_call0_v23 : Ref sig .tc := ⟨.hbm, 360, rfl⟩
abbrev main_call1_call0_call0_v24 : Ref sig .tc := ⟨.hbm, 361, rfl⟩
abbrev main_call1_call0_call0_v25 : Ref sig .tc := ⟨.hbm, 362, rfl⟩
abbrev main_call1_call0_call0_v26 : Ref sig .tc := ⟨.hbm, 363, rfl⟩
abbrev main_call1_call0_call0_v27 : Ref sig .tc := ⟨.hbm, 364, rfl⟩
abbrev main_call1_call0_call0_c_6 : Ref sig .tc := ⟨.hbm, 365, rfl⟩
abbrev main_call1_call0_call0_v28 : Ref sig .tc := ⟨.hbm, 366, rfl⟩
abbrev main_call1_call0_call0_v29 : Ref sig .tc := ⟨.hbm, 367, rfl⟩
abbrev main_call1_call0_call0_c_7 : Ref sig .tc := ⟨.hbm, 368, rfl⟩
abbrev main_call1_call0_call0_v30 : Ref sig .tc := ⟨.hbm, 369, rfl⟩
abbrev main_call1_call0_call0_v31 : Ref sig .tc := ⟨.hbm, 370, rfl⟩
abbrev main_call1_call0_call0_v32 : Ref sig .tc := ⟨.hbm, 371, rfl⟩
abbrev main_call1_call0_call0_v33 : Ref sig .tc := ⟨.hbm, 372, rfl⟩
abbrev main_call1_call0_call0_v34 : Ref sig .tc := ⟨.hbm, 373, rfl⟩
abbrev main_call1_call0_call0_v35 : Ref sig .tc := ⟨.hbm, 374, rfl⟩
abbrev main_call1_call0_call0_v36 : Ref sig .tc := ⟨.hbm, 375, rfl⟩
abbrev main_call1_call0_call0_v37 : Ref sig .tc := ⟨.hbm, 376, rfl⟩
abbrev main_call1_call0_call0_c_8 : Ref sig .tc := ⟨.hbm, 377, rfl⟩
abbrev main_call1_call0_call0_v38 : Ref sig .tc := ⟨.hbm, 378, rfl⟩
abbrev main_call1_call0_call0_v39 : Ref sig .tc := ⟨.hbm, 379, rfl⟩
abbrev main_call1_call0_call0_v40 : Ref sig .tc := ⟨.hbm, 380, rfl⟩
abbrev main_call1_call0_call0_c_9 : Ref sig .tc := ⟨.hbm, 381, rfl⟩
abbrev main_call1_call0_call0_v41 : Ref sig .tc := ⟨.hbm, 382, rfl⟩
abbrev main_call1_call0_call0_v42 : Ref sig .tc := ⟨.hbm, 383, rfl⟩
abbrev main_call1_call0_call0_c_10 : Ref sig .tc := ⟨.hbm, 384, rfl⟩
abbrev main_call1_call0_call0_v43 : Ref sig .tc := ⟨.hbm, 385, rfl⟩
abbrev main_call1_call0_call0_v44 : Ref sig .tc := ⟨.hbm, 386, rfl⟩
abbrev main_call1_call0_call0_v45 : Ref sig .tc := ⟨.hbm, 387, rfl⟩
abbrev main_call1_call0_call0_v46 : Ref sig .tc := ⟨.hbm, 388, rfl⟩
abbrev main_call1_call0_call0_v47 : Ref sig .tc := ⟨.hbm, 389, rfl⟩
abbrev main_call1_call0_call0_c_11 : Ref sig .tc := ⟨.hbm, 390, rfl⟩
abbrev main_call1_call0_call0_v48 : Ref sig .tc := ⟨.hbm, 391, rfl⟩
abbrev main_call1_call0_call0_v49 : Ref sig .tc := ⟨.hbm, 392, rfl⟩
abbrev main_call1_call0_call0_c_12 : Ref sig .tc := ⟨.hbm, 393, rfl⟩
abbrev main_call1_call0_call0_v50 : Ref sig .tc := ⟨.hbm, 394, rfl⟩
abbrev main_call1_call0_call0_v51 : Ref sig .tc := ⟨.hbm, 395, rfl⟩
abbrev main_call1_call0_call0_v52 : Ref sig .tc := ⟨.hbm, 396, rfl⟩
abbrev main_call1_call0_call0_v53 : Ref sig .tc := ⟨.hbm, 397, rfl⟩
abbrev main_call1_call0_call0_v54 : Ref sig .tc := ⟨.hbm, 398, rfl⟩
abbrev main_call1_call0_call0_c_13 : Ref sig .tc := ⟨.hbm, 399, rfl⟩
abbrev main_call1_call0_call0_v55 : Ref sig .tc := ⟨.hbm, 400, rfl⟩
abbrev main_call1_call0_call0_v56 : Ref sig .tc := ⟨.hbm, 401, rfl⟩
abbrev main_call1_call0_call0_c_14 : Ref sig .tc := ⟨.hbm, 402, rfl⟩
abbrev main_call1_call0_call0_v57 : Ref sig .tc := ⟨.hbm, 403, rfl⟩
abbrev main_call1_call0_call0_v58 : Ref sig .tc := ⟨.hbm, 404, rfl⟩
abbrev main_call1_call0_call0_v59 : Ref sig .tc := ⟨.hbm, 405, rfl⟩
abbrev main_call1_call0_call0_v60 : Ref sig .tc := ⟨.hbm, 406, rfl⟩
abbrev main_call1_call0_call0_v61 : Ref sig .tc := ⟨.hbm, 407, rfl⟩
abbrev main_call1_call0_call0_c_15 : Ref sig .tc := ⟨.hbm, 408, rfl⟩
abbrev main_call1_call0_call0_v62 : Ref sig .tc := ⟨.hbm, 409, rfl⟩
abbrev main_call1_call0_call0_v63 : Ref sig .tc := ⟨.hbm, 410, rfl⟩
abbrev main_call1_call0_call0_c_16 : Ref sig .tc := ⟨.hbm, 411, rfl⟩
abbrev main_call1_call0_call0_v64 : Ref sig .tc := ⟨.hbm, 412, rfl⟩
abbrev main_call1_call0_call0_v65 : Ref sig .tc := ⟨.hbm, 413, rfl⟩
abbrev main_call1_call0_call0_v66 : Ref sig .tc := ⟨.hbm, 414, rfl⟩
abbrev main_call1_call0_call0_v67 : Ref sig .tc := ⟨.hbm, 415, rfl⟩
abbrev main_call1_call0_call0_v68 : Ref sig .tc := ⟨.hbm, 416, rfl⟩
abbrev main_call1_call0_call0_v69 : Ref sig .tc := ⟨.hbm, 417, rfl⟩
abbrev main_call1_call0_call0_v70 : Ref sig .tc := ⟨.hbm, 418, rfl⟩
abbrev main_call1_call0_call0_v71 : Ref sig .tc := ⟨.hbm, 419, rfl⟩
abbrev main_call1_call0_call0_c_17 : Ref sig .tc := ⟨.hbm, 420, rfl⟩
abbrev main_call1_call0_call0_v72 : Ref sig .tc := ⟨.hbm, 421, rfl⟩
abbrev main_call1_call0_call0_v73 : Ref sig .tc := ⟨.hbm, 422, rfl⟩
abbrev main_call1_call0_call0_v74 : Ref sig .tc := ⟨.hbm, 423, rfl⟩
abbrev main_call1_call0_call0_c_18 : Ref sig .tc := ⟨.hbm, 424, rfl⟩
abbrev main_call1_call0_call0_v75 : Ref sig .tc := ⟨.hbm, 425, rfl⟩
abbrev main_call1_call0_call0_v76 : Ref sig .tc := ⟨.hbm, 426, rfl⟩
abbrev main_call1_call0_call0_c_19 : Ref sig .tc := ⟨.hbm, 427, rfl⟩
abbrev main_call1_call0_call0_v77 : Ref sig .tc := ⟨.hbm, 428, rfl⟩
abbrev main_call1_call0_call0_v78 : Ref sig .tc := ⟨.hbm, 429, rfl⟩
abbrev main_call1_call0_call0_v79 : Ref sig .tc := ⟨.hbm, 430, rfl⟩
abbrev main_call1_call0_call0_v80 : Ref sig .tc := ⟨.hbm, 431, rfl⟩
abbrev main_call1_call0_call0_v81 : Ref sig .tc := ⟨.hbm, 432, rfl⟩
abbrev main_call1_call0_call0_c_20 : Ref sig .tc := ⟨.hbm, 433, rfl⟩
abbrev main_call1_call0_call0_v82 : Ref sig .tc := ⟨.hbm, 434, rfl⟩
abbrev main_call1_call0_call0_v83 : Ref sig .tc := ⟨.hbm, 435, rfl⟩
abbrev main_call1_call0_call0_c_21 : Ref sig .tc := ⟨.hbm, 436, rfl⟩
abbrev main_call1_call0_call0_v84 : Ref sig .tc := ⟨.hbm, 437, rfl⟩
abbrev main_call1_call0_call0_v85 : Ref sig .tc := ⟨.hbm, 438, rfl⟩
abbrev main_call1_call0_call0_v86 : Ref sig .tc := ⟨.hbm, 439, rfl⟩
abbrev main_call1_call0_call0_v87 : Ref sig .tc := ⟨.hbm, 440, rfl⟩
abbrev main_call1_call0_call0_v88 : Ref sig .tc := ⟨.hbm, 441, rfl⟩
abbrev main_call1_call0_call0_c_22 : Ref sig .tc := ⟨.hbm, 442, rfl⟩
abbrev main_call1_call0_call0_v89 : Ref sig .tc := ⟨.hbm, 443, rfl⟩
abbrev main_call1_call0_call0_v90 : Ref sig .tc := ⟨.hbm, 444, rfl⟩
abbrev main_call1_call0_call0_c_23 : Ref sig .tc := ⟨.hbm, 445, rfl⟩
abbrev main_call1_call0_call0_v91 : Ref sig .tc := ⟨.hbm, 446, rfl⟩
abbrev main_call1_call0_call0_v92 : Ref sig .tc := ⟨.hbm, 447, rfl⟩
abbrev main_call1_call0_call0_v93 : Ref sig .tc := ⟨.hbm, 448, rfl⟩
abbrev main_call1_call0_call0_v94 : Ref sig .tc := ⟨.hbm, 449, rfl⟩
abbrev main_call1_call0_call0_v95 : Ref sig .tc := ⟨.hbm, 450, rfl⟩
abbrev main_call1_call0_call0_c_24 : Ref sig .tc := ⟨.hbm, 451, rfl⟩
abbrev main_call1_call0_call0_v96 : Ref sig .tc := ⟨.hbm, 452, rfl⟩
abbrev main_call1_call0_call0_v97 : Ref sig .tc := ⟨.hbm, 453, rfl⟩
abbrev main_call1_call0_call0_c_25 : Ref sig .tc := ⟨.hbm, 454, rfl⟩
abbrev main_call1_call0_call0_v98 : Ref sig .tc := ⟨.hbm, 455, rfl⟩
abbrev main_call1_call0_call0_v99 : Ref sig .tc := ⟨.hbm, 456, rfl⟩
abbrev main_call1_call0_call0_v100 : Ref sig .tc := ⟨.hbm, 457, rfl⟩
abbrev main_call1_call0_call0_v101 : Ref sig .tc := ⟨.hbm, 458, rfl⟩
abbrev main_call1_call0_call0_v102 : Ref sig .tc := ⟨.hbm, 459, rfl⟩
abbrev main_call1_call0_call0_v103 : Ref sig .tc := ⟨.hbm, 460, rfl⟩
abbrev main_call1_call0_call0_v104 : Ref sig .tc := ⟨.hbm, 461, rfl⟩
abbrev main_call1_call0_call0_v105 : Ref sig .tc := ⟨.hbm, 462, rfl⟩
abbrev main_call1_call0_call0_c_26 : Ref sig .tc := ⟨.hbm, 463, rfl⟩
abbrev main_call1_call0_call0_v106 : Ref sig .tc := ⟨.hbm, 464, rfl⟩
abbrev main_call1_call0_call0_v107 : Ref sig .tc := ⟨.hbm, 465, rfl⟩
abbrev main_call1_call0_call0_v108 : Ref sig .tc := ⟨.hbm, 466, rfl⟩
abbrev main_call1_call0_call0_c_27 : Ref sig .tc := ⟨.hbm, 467, rfl⟩
abbrev main_call1_call0_call0_v109 : Ref sig .tc := ⟨.hbm, 468, rfl⟩
abbrev main_call1_call0_call0_v110 : Ref sig .tc := ⟨.hbm, 469, rfl⟩
abbrev main_call1_call0_call0_c_28 : Ref sig .tc := ⟨.hbm, 470, rfl⟩
abbrev main_call1_call0_call0_v111 : Ref sig .tc := ⟨.hbm, 471, rfl⟩
abbrev main_call1_call0_call0_v112 : Ref sig .tc := ⟨.hbm, 472, rfl⟩
abbrev main_call1_call0_call0_v113 : Ref sig .tc := ⟨.hbm, 473, rfl⟩
abbrev main_call1_call0_call0_v114 : Ref sig .tc := ⟨.hbm, 474, rfl⟩
abbrev main_call1_call0_call0_v115 : Ref sig .tc := ⟨.hbm, 475, rfl⟩
abbrev main_call1_call0_call0_c_29 : Ref sig .tc := ⟨.hbm, 476, rfl⟩
abbrev main_call1_call0_call0_v116 : Ref sig .tc := ⟨.hbm, 477, rfl⟩
abbrev main_call1_call0_call0_v117 : Ref sig .tc := ⟨.hbm, 478, rfl⟩
abbrev main_call1_call0_call0_c_30 : Ref sig .tc := ⟨.hbm, 479, rfl⟩
abbrev main_call1_call0_call0_v118 : Ref sig .tc := ⟨.hbm, 480, rfl⟩
abbrev main_call1_call0_call0_v119 : Ref sig .tc := ⟨.hbm, 481, rfl⟩
abbrev main_call1_call0_call0_v120 : Ref sig .tc := ⟨.hbm, 482, rfl⟩
abbrev main_call1_call0_call0_v121 : Ref sig .tc := ⟨.hbm, 483, rfl⟩
abbrev main_call1_call0_call0_v122 : Ref sig .tc := ⟨.hbm, 484, rfl⟩
abbrev main_call1_call0_call0_c_31 : Ref sig .tc := ⟨.hbm, 485, rfl⟩
abbrev main_call1_call0_call0_v123 : Ref sig .tc := ⟨.hbm, 486, rfl⟩
abbrev main_call1_call0_call0_v124 : Ref sig .tc := ⟨.hbm, 487, rfl⟩
abbrev main_call1_call0_call0_c_32 : Ref sig .tc := ⟨.hbm, 488, rfl⟩
abbrev main_call1_call0_call0_v125 : Ref sig .tc := ⟨.hbm, 489, rfl⟩
abbrev main_call1_call0_call0_v126 : Ref sig .tc := ⟨.hbm, 490, rfl⟩
abbrev main_call1_call0_call0_v127 : Ref sig .tc := ⟨.hbm, 491, rfl⟩
abbrev main_call1_call0_call0_v128 : Ref sig .tc := ⟨.hbm, 492, rfl⟩
abbrev main_call1_call0_call0_v129 : Ref sig .tc := ⟨.hbm, 493, rfl⟩
abbrev main_call1_call0_call0_c_33 : Ref sig .tc := ⟨.hbm, 494, rfl⟩
abbrev main_call1_call0_call0_v130 : Ref sig .tc := ⟨.hbm, 495, rfl⟩
abbrev main_call1_call0_call0_v131 : Ref sig .tc := ⟨.hbm, 496, rfl⟩
abbrev main_call1_call0_call0_c_34 : Ref sig .tc := ⟨.hbm, 497, rfl⟩
abbrev main_call1_call0_call0_v132 : Ref sig .tc := ⟨.hbm, 498, rfl⟩
abbrev main_call1_call0_call0_v133 : Ref sig .tc := ⟨.hbm, 499, rfl⟩
abbrev main_call1_call0_call0_v134 : Ref sig .tc := ⟨.hbm, 500, rfl⟩
abbrev main_call1_call0_call0_v135 : Ref sig .tc := ⟨.hbm, 501, rfl⟩
abbrev main_call1_call0_call0_v136 : Ref sig .tc := ⟨.hbm, 502, rfl⟩
abbrev main_call1_call0_call0_v137 : Ref sig .tc := ⟨.hbm, 503, rfl⟩
abbrev main_call1_call0_call0_v138 : Ref sig .tc := ⟨.hbm, 504, rfl⟩
abbrev main_call1_call0_call0_v139 : Ref sig .tc := ⟨.hbm, 505, rfl⟩
abbrev main_call1_call0_call0_c_35 : Ref sig .tc := ⟨.hbm, 506, rfl⟩
abbrev main_call1_call0_call0_v140 : Ref sig .tc := ⟨.hbm, 507, rfl⟩
abbrev main_call1_call0_call0_v141 : Ref sig .tc := ⟨.hbm, 508, rfl⟩
abbrev main_call1_call0_call0_v142 : Ref sig .tc := ⟨.hbm, 509, rfl⟩
abbrev main_call1_call0_call0_c_36 : Ref sig .tc := ⟨.hbm, 510, rfl⟩
abbrev main_call1_call0_call0_v143 : Ref sig .tc := ⟨.hbm, 511, rfl⟩
abbrev main_call1_call0_call0_v144 : Ref sig .tc := ⟨.hbm, 512, rfl⟩
abbrev main_call1_call0_call0_c_37 : Ref sig .tc := ⟨.hbm, 513, rfl⟩
abbrev main_call1_call0_call0_v145 : Ref sig .tc := ⟨.hbm, 514, rfl⟩
abbrev main_call1_call0_call0_v146 : Ref sig .tc := ⟨.hbm, 515, rfl⟩
abbrev main_call1_call0_call0_v147 : Ref sig .tc := ⟨.hbm, 516, rfl⟩
abbrev main_call1_call0_call0_v148 : Ref sig .tc := ⟨.hbm, 517, rfl⟩
abbrev main_call1_call0_call0_v149 : Ref sig .tc := ⟨.hbm, 518, rfl⟩
abbrev main_call1_call0_call0_c_38 : Ref sig .tc := ⟨.hbm, 519, rfl⟩
abbrev main_call1_call0_call0_v150 : Ref sig .tc := ⟨.hbm, 520, rfl⟩
abbrev main_call1_call0_call0_v151 : Ref sig .tc := ⟨.hbm, 521, rfl⟩
abbrev main_call1_call0_call0_c_39 : Ref sig .tc := ⟨.hbm, 522, rfl⟩
abbrev main_call1_call0_call0_v152 : Ref sig .tc := ⟨.hbm, 523, rfl⟩
abbrev main_call1_call0_call0_v153 : Ref sig .tc := ⟨.hbm, 524, rfl⟩
abbrev main_call1_call0_call0_v154 : Ref sig .tc := ⟨.hbm, 525, rfl⟩
abbrev main_call1_call0_call0_v155 : Ref sig .tc := ⟨.hbm, 526, rfl⟩
abbrev main_call1_call0_call0_v156 : Ref sig .tc := ⟨.hbm, 527, rfl⟩
abbrev main_call1_call0_call0_c_40 : Ref sig .tc := ⟨.hbm, 528, rfl⟩
abbrev main_call1_call0_call0_v157 : Ref sig .tc := ⟨.hbm, 529, rfl⟩
abbrev main_call1_call0_call0_v158 : Ref sig .tc := ⟨.hbm, 530, rfl⟩
abbrev main_call1_call0_call0_c_41 : Ref sig .tc := ⟨.hbm, 531, rfl⟩
abbrev main_call1_call0_call0_v159 : Ref sig .tc := ⟨.hbm, 532, rfl⟩
abbrev main_call1_call0_call0_v160 : Ref sig .tc := ⟨.hbm, 533, rfl⟩
abbrev main_call1_call0_call0_v161 : Ref sig .tc := ⟨.hbm, 534, rfl⟩
abbrev main_call1_call0_call0_v162 : Ref sig .tc := ⟨.hbm, 535, rfl⟩
abbrev main_call1_call0_call0_v163 : Ref sig .tc := ⟨.hbm, 536, rfl⟩
abbrev main_call1_call0_call0_c_42 : Ref sig .tc := ⟨.hbm, 537, rfl⟩
abbrev main_call1_call0_call0_v164 : Ref sig .tc := ⟨.hbm, 538, rfl⟩
abbrev main_call1_call0_call0_v165 : Ref sig .tc := ⟨.hbm, 539, rfl⟩
abbrev main_call1_call0_call0_c_43 : Ref sig .tc := ⟨.hbm, 540, rfl⟩
abbrev main_call1_call0_call0_v166 : Ref sig .tc := ⟨.hbm, 541, rfl⟩
abbrev main_call1_call0_call0_v167 : Ref sig .tc := ⟨.hbm, 542, rfl⟩
abbrev main_call1_call0_call0_v168 : Ref sig .tc := ⟨.hbm, 543, rfl⟩
abbrev main_call1_call0_call0_v169 : Ref sig .tc := ⟨.hbm, 544, rfl⟩
abbrev main_call1_call0_call0_v170 : Ref sig .tc := ⟨.hbm, 545, rfl⟩
abbrev main_call1_call0_v22_0 : Ref sig .tc := ⟨.hbm, 546, rfl⟩
abbrev main_call1_call0_call0_v172 : Ref sig .tc := ⟨.hbm, 547, rfl⟩
abbrev main_call1_call0_call0_v173 : Ref sig .tc := ⟨.hbm, 548, rfl⟩
abbrev main_call1_call0_call0_c_44 : Ref sig .tc := ⟨.hbm, 549, rfl⟩
abbrev main_call1_call0_call0_v174 : Ref sig .tc := ⟨.hbm, 550, rfl⟩
abbrev main_call1_call0_v22_1 : Ref sig .tc := ⟨.hbm, 551, rfl⟩
abbrev main_call1_call0_v23 : Ref sig .tc := ⟨.hbm, 552, rfl⟩
abbrev main_call1_call0_c_3 : Ref sig .tc := ⟨.hbm, 553, rfl⟩
abbrev main_call1_call0_v24 : Ref sig .tc := ⟨.hbm, 554, rfl⟩
abbrev main_call1_call0_v25 : Ref sig .tc := ⟨.hbm, 555, rfl⟩
abbrev main_call1_call0_c_4 : Ref sig .tc := ⟨.hbm, 556, rfl⟩
abbrev main_call1_call0_v26 : Ref sig .tc := ⟨.hbm, 557, rfl⟩
abbrev main_call1_call0_v27 : Ref sig .tc := ⟨.hbm, 558, rfl⟩
abbrev main_call1_call0_v28 : Ref sig .tc := ⟨.hbm, 559, rfl⟩
abbrev main_call1_call0_cst : Ref sig .tc := ⟨.hbm, 560, rfl⟩
abbrev main_call1_call0_v29 : Ref sig .tc := ⟨.hbm, 561, rfl⟩
abbrev main_call1_call0_v30 : Ref sig .tc := ⟨.hbm, 562, rfl⟩
abbrev main_call1_call0_v31 : Ref sig .tc := ⟨.hbm, 563, rfl⟩
abbrev main_call1_call0_v32 : Ref sig .tc := ⟨.hbm, 564, rfl⟩
abbrev main_call1_call0_v33 : Ref sig .tc := ⟨.hbm, 565, rfl⟩
abbrev main_call1_call0_v34 : Ref sig .tc := ⟨.hbm, 566, rfl⟩
abbrev main_call1_call0_v35 : Ref sig .tc := ⟨.hbm, 567, rfl⟩
abbrev main_call1_call0_v36 : Ref sig .tc := ⟨.hbm, 568, rfl⟩
abbrev main_call1_v0 : Ref sig .tc := ⟨.hbm, 569, rfl⟩
abbrev main_call1_v1 : Ref sig .tc := ⟨.hbm, 570, rfl⟩
abbrev main_call1_v2 : Ref sig .tc := ⟨.hbm, 571, rfl⟩
abbrev main_call1_v3 : Ref sig .tc := ⟨.hbm, 572, rfl⟩
abbrev main_v15 : Ref sig .tc := ⟨.hbm, 573, rfl⟩
abbrev main_v16 : Ref sig .tc := ⟨.hbm, 574, rfl⟩
abbrev main_v17 : Ref sig .tc := ⟨.hbm, 575, rfl⟩
abbrev main_cst_6 : Ref sig .tc := ⟨.hbm, 576, rfl⟩
abbrev main_v18 : Ref sig .tc := ⟨.hbm, 577, rfl⟩
abbrev main_v19 : Ref sig .tc := ⟨.hbm, 578, rfl⟩
abbrev main_cst_7 : Ref sig .tc := ⟨.hbm, 579, rfl⟩
abbrev main_v20 : Ref sig .tc := ⟨.hbm, 580, rfl⟩
abbrev main_v21 : Ref sig .tc := ⟨.hbm, 581, rfl⟩
abbrev main_v22 : Ref sig .tc := ⟨.hbm, 582, rfl⟩
abbrev main_v23 : Ref sig .tc := ⟨.hbm, 583, rfl⟩
abbrev main_v24 : Ref sig .tc := ⟨.hbm, 584, rfl⟩
abbrev main_cst_8 : Ref sig .tc := ⟨.hbm, 585, rfl⟩
abbrev main_v25 : Ref sig .tc := ⟨.hbm, 586, rfl⟩
abbrev main_v26 : Ref sig .tc := ⟨.hbm, 587, rfl⟩
abbrev main_v27 : Ref sig .tc := ⟨.hbm, 588, rfl⟩
abbrev main_v28 : Ref sig .tc := ⟨.hbm, 589, rfl⟩
abbrev main_v29 : Ref sig .tc := ⟨.hbm, 590, rfl⟩
abbrev main_cst_9 : Ref sig .tc := ⟨.hbm, 591, rfl⟩
abbrev main_v30 : Ref sig .tc := ⟨.hbm, 592, rfl⟩
abbrev main_v31 : Ref sig .tc := ⟨.hbm, 593, rfl⟩
abbrev main_v32 : Ref sig .tc := ⟨.hbm, 594, rfl⟩
abbrev main_v33 : Ref sig .tc := ⟨.hbm, 595, rfl⟩
abbrev main_v34 : Ref sig .tc := ⟨.hbm, 596, rfl⟩
abbrev main_cst_10 : Ref sig .tc := ⟨.hbm, 597, rfl⟩
abbrev main_v35 : Ref sig .tc := ⟨.hbm, 598, rfl⟩
abbrev main_v36 : Ref sig .tc := ⟨.hbm, 599, rfl⟩
abbrev main_v37 : Ref sig .tc := ⟨.hbm, 600, rfl⟩
abbrev main_v38 : Ref sig .tc := ⟨.hbm, 601, rfl⟩
abbrev main_v39 : Ref sig .tc := ⟨.hbm, 602, rfl⟩
abbrev main_v40 : Ref sig .tc := ⟨.hbm, 603, rfl⟩
abbrev main_v41 : Ref sig .tc := ⟨.hbm, 604, rfl⟩
abbrev main_v42 : Ref sig .tc := ⟨.hbm, 605, rfl⟩
abbrev main_v43 : Ref sig .tc := ⟨.hbm, 606, rfl⟩
abbrev main_v44 : Ref sig .tc := ⟨.hbm, 607, rfl⟩
abbrev main_v45_0 : Ref sig .tc := ⟨.hbm, 608, rfl⟩
abbrev main_v45_1 : Ref sig .tc := ⟨.hbm, 609, rfl⟩
abbrev main_v45_2 : Ref sig .tc := ⟨.hbm, 610, rfl⟩
abbrev main_v45_3 : Ref sig .tc := ⟨.hbm, 611, rfl⟩
abbrev main_v46 : Ref sig .tc := ⟨.hbm, 612, rfl⟩
abbrev main_v47 : Ref sig .tc := ⟨.hbm, 613, rfl⟩
abbrev main_v48 : Ref sig .tc := ⟨.hbm, 614, rfl⟩
abbrev main_v49 : Ref sig .tc := ⟨.hbm, 615, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S32x1x256x256 : Shape := ⟨4, ![32, 1, 256, 256]⟩
abbrev S32x17x256x256 : Shape := ⟨4, ![32, 17, 256, 256]⟩
abbrev S32x64 : Shape := ⟨2, ![32, 64]⟩
abbrev S32x4096 : Shape := ⟨2, ![32, 4096]⟩
abbrev S32x16 : Shape := ⟨2, ![32, 16]⟩
abbrev S1 : Shape := ⟨1, ![1]⟩
abbrev S16 : Shape := ⟨1, ![16]⟩
abbrev S32x16x256x256 : Shape := ⟨4, ![32, 16, 256, 256]⟩
abbrev S_ : Shape := ⟨0, ![]⟩
abbrev S512x1 : Shape := ⟨2, ![512, 1]⟩
abbrev S512x256 : Shape := ⟨2, ![512, 256]⟩
abbrev S1x16 : Shape := ⟨2, ![1, 16]⟩
abbrev S1x1x1x16 : Shape := ⟨4, ![1, 1, 1, 16]⟩
abbrev S32x1x1x16 : Shape := ⟨4, ![32, 1, 1, 16]⟩
abbrev S32x1 : Shape := ⟨2, ![32, 1]⟩
abbrev S32x1x1x1 : Shape := ⟨4, ![32, 1, 1, 1]⟩
abbrev S2 : Shape := ⟨1, ![2]⟩
abbrev S1x1x1x1 : Shape := ⟨4, ![1, 1, 1, 1]⟩
abbrev S32 : Shape := ⟨1, ![32]⟩
abbrev S32x65536 : Shape := ⟨2, ![32, 65536]⟩
abbrev S1x1x1 : Shape := ⟨3, ![1, 1, 1]⟩
abbrev S16x32x65536 : Shape := ⟨3, ![16, 32, 65536]⟩
abbrev S1x32x65536 : Shape := ⟨3, ![1, 32, 65536]⟩
abbrev S16x32 : Shape := ⟨2, ![16, 32]⟩
abbrev S1x1 : Shape := ⟨2, ![1, 1]⟩
abbrev S512x1x1x1 : Shape := ⟨4, ![512, 1, 1, 1]⟩
abbrev S512x4 : Shape := ⟨2, ![512, 4]⟩

abbrev nBuf : Space → Nat
  | .hbm => 717
  | .vmem => 0
  | .smem => 0
  | _ => 0

abbrev hbmTy0_0 (i : Nat) : BufTy := match i % 128 with
  | 0 => ⟨S32x1x256x256, .f32⟩
  | 1 => ⟨S32x17x256x256, .f32⟩
  | 2 => ⟨S32x64, .f32⟩
  | 3 => ⟨S32x4096, .f32⟩
  | 4 => ⟨S32x16, .f32⟩
  | 5 => ⟨S1, .f32⟩
  | 6 => ⟨S1, .f32⟩
  | 7 => ⟨S16, .f32⟩
  | 8 => ⟨S32x16x256x256, .f32⟩
  | 9 => ⟨S_, .f32⟩
  | 10 => ⟨S32x16, .f32⟩
  | 11 => ⟨S512x1, .f32⟩
  | 12 => ⟨S_, .f32⟩
  | 13 => ⟨S512x1, .f32⟩
  | 14 => ⟨S512x1, .i1⟩
  | 15 => ⟨S512x1, .f32⟩
  | 16 => ⟨S_, .f32⟩
  | 17 => ⟨S512x256, .f32⟩
  | 18 => ⟨S512x256, .f32⟩
  | 19 => ⟨S512x256, .f32⟩
  | 20 => ⟨S512x256, .f32⟩
  | 21 => ⟨S_, .f32⟩
  | 22 => ⟨S512x1, .f32⟩
  | 23 => ⟨S512x1, .f32⟩
  | 24 => ⟨S512x256, .f32⟩
  | 25 => ⟨S512x256, .f32⟩
  | 26 => ⟨S512x256, .f32⟩
  | 27 => ⟨S1x16, .f32⟩
  | 28 => ⟨S1x1x1x16, .f32⟩
  | 29 => ⟨S32x1x1x16, .f32⟩
  | 30 => ⟨S32x16, .f32⟩
  | 31 => ⟨S512x1, .f32⟩
  | 32 => ⟨S512x1, .f32⟩
  | 33 => ⟨S512x1, .f32⟩
  | 34 => ⟨S_, .f32⟩
  | 35 => ⟨S512x1, .f32⟩
  | 36 => ⟨S512x1, .f32⟩
  | 37 => ⟨S512x1, .f32⟩
  | 38 => ⟨S512x1, .f32⟩
  | 39 => ⟨S_, .f32⟩
  | 40 => ⟨S32x1, .f32⟩
  | 41 => ⟨S32x1x1x1, .f32⟩
  | 42 => ⟨S_, .f32⟩
  | 43 => ⟨S32x1x1x1, .f32⟩
  | 44 => ⟨S32x1x1x1, .i1⟩
  | 45 => ⟨S32x1x1x1, .f32⟩
  | 46 => ⟨S_, .i32⟩
  | 47 => ⟨S_, .i32⟩
  | 48 => ⟨S_, .i32⟩
  | 49 => ⟨S_, .i32⟩
  | 50 => ⟨S1, .i32⟩
  | 51 => ⟨S_, .i32⟩
  | 52 => ⟨S_, .i32⟩
  | 53 => ⟨S_, .i32⟩
  | 54 => ⟨S1, .i32⟩
  | 55 => ⟨S2, .i32⟩
  | 56 => ⟨S_, .f32⟩
  | 57 => ⟨S_, .f32⟩
  | 58 => ⟨S_, .f32⟩
  | 59 => ⟨S_, .f32⟩
  | 60 => ⟨S1x1x1x1, .f32⟩
  | 61 => ⟨S1x1x1x1, .f32⟩
  | 62 => ⟨S1, .i32⟩
  | 63 => ⟨S_, .i32⟩
  | 64 => ⟨S1, .i32⟩
  | 65 => ⟨S_, .i32⟩
  | 66 => ⟨S32x1x256x256, .i64⟩
  | 67 => ⟨S32x1x256x256, .i64⟩
  | 68 => ⟨S32x1x256x256, .i64⟩
  | 69 => ⟨S32x1x256x256, .i64⟩
  | 70 => ⟨S_, .i64⟩
  | 71 => ⟨S32x1x256x256, .i64⟩
  | 72 => ⟨S32x1x256x256, .i64⟩
  | 73 => ⟨S_, .i64⟩
  | 74 => ⟨S32x1x256x256, .i64⟩
  | 75 => ⟨S32x1x256x256, .i64⟩
  | 76 => ⟨S_, .i64⟩
  | 77 => ⟨S32x1x256x256, .i64⟩
  | 78 => ⟨S32x1x256x256, .i64⟩
  | 79 => ⟨S_, .i64⟩
  | 80 => ⟨S32x1x256x256, .i64⟩
  | 81 => ⟨S32x1x256x256, .i64⟩
  | 82 => ⟨S32x1x256x256, .i64⟩
  | 83 => ⟨S32x1x256x256, .i64⟩
  | 84 => ⟨S32x1x256x256, .i64⟩
  | 85 => ⟨S_, .i64⟩
  | 86 => ⟨S32x1x256x256, .i64⟩
  | 87 => ⟨S32x1x256x256, .i64⟩
  | 88 => ⟨S32x1x256x256, .i32⟩
  | 89 => ⟨S32x1x256x256, .i32⟩
  | 90 => ⟨S_, .i32⟩
  | 91 => ⟨S_, .i32⟩
  | 92 => ⟨S_, .i32⟩
  | 93 => ⟨S32x1x256x256, .i32⟩
  | 94 => ⟨S32x1x256x256, .i32⟩
  | 95 => ⟨S32x1x256x256, .i32⟩
  | 96 => ⟨S32x1x256x256, .i32⟩
  | 97 => ⟨S32x1x256x256, .i32⟩
  | 98 => ⟨S_, .i32⟩
  | 99 => ⟨S32x1x256x256, .i32⟩
  | 100 => ⟨S32x1x256x256, .i32⟩
  | 101 => ⟨S_, .i32⟩
  | 102 => ⟨S32x1x256x256, .i32⟩
  | 103 => ⟨S32x1x256x256, .i32⟩
  | 104 => ⟨S32x1x256x256, .i32⟩
  | 105 => ⟨S32x1x256x256, .i32⟩
  | 106 => ⟨S32x1x256x256, .i32⟩
  | 107 => ⟨S_, .i32⟩
  | 108 => ⟨S32x1x256x256, .i32⟩
  | 109 => ⟨S32x1x256x256, .i32⟩
  | 110 => ⟨S_, .i32⟩
  | 111 => ⟨S32x1x256x256, .i32⟩
  | 112 => ⟨S32x1x256x256, .i32⟩
  | 113 => ⟨S32x1x256x256, .i32⟩
  | 114 => ⟨S32x1x256x256, .i32⟩
  | 115 => ⟨S32x1x256x256, .i32⟩
  | 116 => ⟨S_, .i32⟩
  | 117 => ⟨S32x1x256x256, .i32⟩
  | 118 => ⟨S32x1x256x256, .i32⟩
  | 119 => ⟨S_, .i32⟩
  | 120 => ⟨S32x1x256x256, .i32⟩
  | 121 => ⟨S32x1x256x256, .i32⟩
  | 122 => ⟨S32x1x256x256, .i32⟩
  | 123 => ⟨S32x1x256x256, .i32⟩
  | 124 => ⟨S32x1x256x256, .i32⟩
  | 125 => ⟨S_, .i32⟩
  | 126 => ⟨S32x1x256x256, .i32⟩
  | 127 => ⟨S32x1x256x256, .i32⟩
  | _ => ⟨S32x1x256x256, .f32⟩

abbrev hbmTy0_1 (i : Nat) : BufTy := match i % 128 with
  | 0 => ⟨S_, .i32⟩
  | 1 => ⟨S32x1x256x256, .i32⟩
  | 2 => ⟨S32x1x256x256, .i32⟩
  | 3 => ⟨S32x1x256x256, .i32⟩
  | 4 => ⟨S32x1x256x256, .i32⟩
  | 5 => ⟨S32x1x256x256, .i32⟩
  | 6 => ⟨S32x1x256x256, .i32⟩
  | 7 => ⟨S32x1x256x256, .i32⟩
  | 8 => ⟨S32x1x256x256, .i32⟩
  | 9 => ⟨S_, .i32⟩
  | 10 => ⟨S32x1x256x256, .i32⟩
  | 11 => ⟨S32x1x256x256, .i32⟩
  | 12 => ⟨S32x1x256x256, .i32⟩
  | 13 => ⟨S_, .i32⟩
  | 14 => ⟨S32x1x256x256, .i32⟩
  | 15 => ⟨S32x1x256x256, .i32⟩
  | 16 => ⟨S_, .i32⟩
  | 17 => ⟨S32x1x256x256, .i32⟩
  | 18 => ⟨S32x1x256x256, .i32⟩
  | 19 => ⟨S32x1x256x256, .i32⟩
  | 20 => ⟨S32x1x256x256, .i32⟩
  | 21 => ⟨S32x1x256x256, .i32⟩
  | 22 => ⟨S_, .i32⟩
  | 23 => ⟨S32x1x256x256, .i32⟩
  | 24 => ⟨S32x1x256x256, .i32⟩
  | 25 => ⟨S_, .i32⟩
  | 26 => ⟨S32x1x256x256, .i32⟩
  | 27 => ⟨S32x1x256x256, .i32⟩
  | 28 => ⟨S32x1x256x256, .i32⟩
  | 29 => ⟨S32x1x256x256, .i32⟩
  | 30 => ⟨S32x1x256x256, .i32⟩
  | 31 => ⟨S_, .i32⟩
  | 32 => ⟨S32x1x256x256, .i32⟩
  | 33 => ⟨S32x1x256x256, .i32⟩
  | 34 => ⟨S_, .i32⟩
  | 35 => ⟨S32x1x256x256, .i32⟩
  | 36 => ⟨S32x1x256x256, .i32⟩
  | 37 => ⟨S32x1x256x256, .i32⟩
  | 38 => ⟨S32x1x256x256, .i32⟩
  | 39 => ⟨S32x1x256x256, .i32⟩
  | 40 => ⟨S_, .i32⟩
  | 41 => ⟨S32x1x256x256, .i32⟩
  | 42 => ⟨S32x1x256x256, .i32⟩
  | 43 => ⟨S_, .i32⟩
  | 44 => ⟨S32x1x256x256, .i32⟩
  | 45 => ⟨S32x1x256x256, .i32⟩
  | 46 => ⟨S32x1x256x256, .i32⟩
  | 47 => ⟨S32x1x256x256, .i32⟩
  | 48 => ⟨S32x1x256x256, .i32⟩
  | 49 => ⟨S32x1x256x256, .i32⟩
  | 50 => ⟨S32x1x256x256, .i32⟩
  | 51 => ⟨S32x1x256x256, .i32⟩
  | 52 => ⟨S_, .i32⟩
  | 53 => ⟨S32x1x256x256, .i32⟩
  | 54 => ⟨S32x1x256x256, .i32⟩
  | 55 => ⟨S32x1x256x256, .i32⟩
  | 56 => ⟨S_, .i32⟩
  | 57 => ⟨S32x1x256x256, .i32⟩
  | 58 => ⟨S32x1x256x256, .i32⟩
  | 59 => ⟨S_, .i32⟩
  | 60 => ⟨S32x1x256x256, .i32⟩
  | 61 => ⟨S32x1x256x256, .i32⟩
  | 62 => ⟨S32x1x256x256, .i32⟩
  | 63 => ⟨S32x1x256x256, .i32⟩
  | 64 => ⟨S32x1x256x256, .i32⟩
  | 65 => ⟨S_, .i32⟩
  | 66 => ⟨S32x1x256x256, .i32⟩
  | 67 => ⟨S32x1x256x256, .i32⟩
  | 68 => ⟨S_, .i32⟩
  | 69 => ⟨S32x1x256x256, .i32⟩
  | 70 => ⟨S32x1x256x256, .i32⟩
  | 71 => ⟨S32x1x256x256, .i32⟩
  | 72 => ⟨S32x1x256x256, .i32⟩
  | 73 => ⟨S32x1x256x256, .i32⟩
  | 74 => ⟨S_, .i32⟩
  | 75 => ⟨S32x1x256x256, .i32⟩
  | 76 => ⟨S32x1x256x256, .i32⟩
  | 77 => ⟨S_, .i32⟩
  | 78 => ⟨S32x1x256x256, .i32⟩
  | 79 => ⟨S32x1x256x256, .i32⟩
  | 80 => ⟨S32x1x256x256, .i32⟩
  | 81 => ⟨S32x1x256x256, .i32⟩
  | 82 => ⟨S32x1x256x256, .i32⟩
  | 83 => ⟨S_, .i32⟩
  | 84 => ⟨S32x1x256x256, .i32⟩
  | 85 => ⟨S32x1x256x256, .i32⟩
  | 86 => ⟨S_, .i32⟩
  | 87 => ⟨S32x1x256x256, .i32⟩
  | 88 => ⟨S32x1x256x256, .i32⟩
  | 89 => ⟨S32x1x256x256, .i32⟩
  | 90 => ⟨S32x1x256x256, .i32⟩
  | 91 => ⟨S32x1x256x256, .i32⟩
  | 92 => ⟨S32x1x256x256, .i32⟩
  | 93 => ⟨S32x1x256x256, .i32⟩
  | 94 => ⟨S32x1x256x256, .i32⟩
  | 95 => ⟨S_, .i32⟩
  | 96 => ⟨S32x1x256x256, .i32⟩
  | 97 => ⟨S32x1x256x256, .i32⟩
  | 98 => ⟨S32x1x256x256, .i32⟩
  | 99 => ⟨S_, .i32⟩
  | 100 => ⟨S32x1x256x256, .i32⟩
  | 101 => ⟨S32x1x256x256, .i32⟩
  | 102 => ⟨S_, .i32⟩
  | 103 => ⟨S32x1x256x256, .i32⟩
  | 104 => ⟨S32x1x256x256, .i32⟩
  | 105 => ⟨S32x1x256x256, .i32⟩
  | 106 => ⟨S32x1x256x256, .i32⟩
  | 107 => ⟨S32x1x256x256, .i32⟩
  | 108 => ⟨S_, .i32⟩
  | 109 => ⟨S32x1x256x256, .i32⟩
  | 110 => ⟨S32x1x256x256, .i32⟩
  | 111 => ⟨S_, .i32⟩
  | 112 => ⟨S32x1x256x256, .i32⟩
  | 113 => ⟨S32x1x256x256, .i32⟩
  | 114 => ⟨S32x1x256x256, .i32⟩
  | 115 => ⟨S32x1x256x256, .i32⟩
  | 116 => ⟨S32x1x256x256, .i32⟩
  | 117 => ⟨S_, .i32⟩
  | 118 => ⟨S32x1x256x256, .i32⟩
  | 119 => ⟨S32x1x256x256, .i32⟩
  | 120 => ⟨S_, .i32⟩
  | 121 => ⟨S32x1x256x256, .i32⟩
  | 122 => ⟨S32x1x256x256, .i32⟩
  | 123 => ⟨S32x1x256x256, .i32⟩
  | 124 => ⟨S32x1x256x256, .i32⟩
  | 125 => ⟨S32x1x256x256, .i32⟩
  | 126 => ⟨S_, .i32⟩
  | 127 => ⟨S32x1x256x256, .i32⟩
  | _ => ⟨S32x1x256x256, .f32⟩

abbrev hbmTy0_2 (i : Nat) : BufTy := match i % 128 with
  | 0 => ⟨S32x1x256x256, .i32⟩
  | 1 => ⟨S_, .i32⟩
  | 2 => ⟨S32x1x256x256, .i32⟩
  | 3 => ⟨S32x1x256x256, .i32⟩
  | 4 => ⟨S32x1x256x256, .i32⟩
  | 5 => ⟨S32x1x256x256, .i32⟩
  | 6 => ⟨S32x1x256x256, .i32⟩
  | 7 => ⟨S32x1x256x256, .i32⟩
  | 8 => ⟨S32x1x256x256, .i32⟩
  | 9 => ⟨S32x1x256x256, .i32⟩
  | 10 => ⟨S_, .i32⟩
  | 11 => ⟨S32x1x256x256, .i32⟩
  | 12 => ⟨S32x1x256x256, .i32⟩
  | 13 => ⟨S32x1x256x256, .i32⟩
  | 14 => ⟨S_, .i32⟩
  | 15 => ⟨S32x1x256x256, .i32⟩
  | 16 => ⟨S32x1x256x256, .i32⟩
  | 17 => ⟨S_, .i32⟩
  | 18 => ⟨S32x1x256x256, .i32⟩
  | 19 => ⟨S32x1x256x256, .i32⟩
  | 20 => ⟨S32x1x256x256, .i32⟩
  | 21 => ⟨S32x1x256x256, .i32⟩
  | 22 => ⟨S32x1x256x256, .i32⟩
  | 23 => ⟨S_, .i32⟩
  | 24 => ⟨S32x1x256x256, .i32⟩
  | 25 => ⟨S32x1x256x256, .i32⟩
  | 26 => ⟨S_, .i32⟩
  | 27 => ⟨S32x1x256x256, .i32⟩
  | 28 => ⟨S32x1x256x256, .i32⟩
  | 29 => ⟨S32x1x256x256, .i32⟩
  | 30 => ⟨S32x1x256x256, .i32⟩
  | 31 => ⟨S32x1x256x256, .i32⟩
  | 32 => ⟨S_, .i32⟩
  | 33 => ⟨S32x1x256x256, .i32⟩
  | 34 => ⟨S32x1x256x256, .i32⟩
  | 35 => ⟨S_, .i32⟩
  | 36 => ⟨S32x1x256x256, .i32⟩
  | 37 => ⟨S32x1x256x256, .i32⟩
  | 38 => ⟨S32x1x256x256, .i32⟩
  | 39 => ⟨S32x1x256x256, .i32⟩
  | 40 => ⟨S32x1x256x256, .i32⟩
  | 41 => ⟨S_, .i32⟩
  | 42 => ⟨S32x1x256x256, .i32⟩
  | 43 => ⟨S32x1x256x256, .i32⟩
  | 44 => ⟨S_, .i32⟩
  | 45 => ⟨S32x1x256x256, .i32⟩
  | 46 => ⟨S32x1x256x256, .i32⟩
  | 47 => ⟨S32x1x256x256, .i32⟩
  | 48 => ⟨S32x1x256x256, .i32⟩
  | 49 => ⟨S32x1x256x256, .i32⟩
  | 50 => ⟨S32x1x256x256, .i32⟩
  | 51 => ⟨S32x1x256x256, .i32⟩
  | 52 => ⟨S32x1x256x256, .i32⟩
  | 53 => ⟨S_, .i32⟩
  | 54 => ⟨S32x1x256x256, .i32⟩
  | 55 => ⟨S32x1x256x256, .i32⟩
  | 56 => ⟨S32x1x256x256, .i32⟩
  | 57 => ⟨S_, .i32⟩
  | 58 => ⟨S32x1x256x256, .i32⟩
  | 59 => ⟨S32x1x256x256, .i32⟩
  | 60 => ⟨S_, .i32⟩
  | 61 => ⟨S32x1x256x256, .i32⟩
  | 62 => ⟨S32x1x256x256, .i32⟩
  | 63 => ⟨S32x1x256x256, .f32⟩
  | 64 => ⟨S_, .f32⟩
  | 65 => ⟨S32x1x256x256, .f32⟩
  | 66 => ⟨S32x1x256x256, .f32⟩
  | 67 => ⟨S1x1x1x1, .f32⟩
  | 68 => ⟨S32x1x256x256, .f32⟩
  | 69 => ⟨S32x1x256x256, .f32⟩
  | 70 => ⟨S32x1x256x256, .f32⟩
  | 71 => ⟨S32x1x256x256, .f32⟩
  | 72 => ⟨S32x1x256x256, .f32⟩
  | 73 => ⟨S32x1x256x256, .f32⟩
  | 74 => ⟨S32x1x256x256, .f32⟩
  | 75 => ⟨S32x1x256x256, .f32⟩
  | 76 => ⟨S_, .f32⟩
  | 77 => ⟨S32x1x1x1, .f32⟩
  | 78 => ⟨S32x1x1x1, .f32⟩
  | 79 => ⟨S32x1x256x256, .f32⟩
  | 80 => ⟨S32x1x256x256, .f32⟩
  | 81 => ⟨S32x1x256x256, .f32⟩
  | 82 => ⟨S_, .f32⟩
  | 83 => ⟨S32, .f32⟩
  | 84 => ⟨S32x1x1x1, .f32⟩
  | 85 => ⟨S32x1x256x256, .f32⟩
  | 86 => ⟨S32x1x256x256, .f32⟩
  | 87 => ⟨S32x65536, .f32⟩
  | 88 => ⟨S_, .f32⟩
  | 89 => ⟨S32x65536, .f32⟩
  | 90 => ⟨S32x65536, .f32⟩
  | 91 => ⟨S32x65536, .f32⟩
  | 92 => ⟨S_, .i32⟩
  | 93 => ⟨S_, .i32⟩
  | 94 => ⟨S_, .i32⟩
  | 95 => ⟨S_, .i32⟩
  | 96 => ⟨S1, .i32⟩
  | 97 => ⟨S_, .i32⟩
  | 98 => ⟨S_, .i32⟩
  | 99 => ⟨S_, .i32⟩
  | 100 => ⟨S1, .i32⟩
  | 101 => ⟨S2, .i32⟩
  | 102 => ⟨S_, .f32⟩
  | 103 => ⟨S_, .f32⟩
  | 104 => ⟨S_, .f32⟩
  | 105 => ⟨S1x1x1, .f32⟩
  | 106 => ⟨S1x1x1, .f32⟩
  | 107 => ⟨S1, .i32⟩
  | 108 => ⟨S_, .i32⟩
  | 109 => ⟨S1, .i32⟩
  | 110 => ⟨S_, .i32⟩
  | 111 => ⟨S16x32x65536, .i64⟩
  | 112 => ⟨S16x32x65536, .i64⟩
  | 113 => ⟨S16x32x65536, .i64⟩
  | 114 => ⟨S_, .i64⟩
  | 115 => ⟨S16x32x65536, .i64⟩
  | 116 => ⟨S16x32x65536, .i64⟩
  | 117 => ⟨S_, .i64⟩
  | 118 => ⟨S16x32x65536, .i64⟩
  | 119 => ⟨S16x32x65536, .i64⟩
  | 120 => ⟨S_, .i64⟩
  | 121 => ⟨S16x32x65536, .i64⟩
  | 122 => ⟨S16x32x65536, .i64⟩
  | 123 => ⟨S16x32x65536, .i64⟩
  | 124 => ⟨S16x32x65536, .i64⟩
  | 125 => ⟨S_, .i64⟩
  | 126 => ⟨S16x32x65536, .i64⟩
  | 127 => ⟨S16x32x65536, .i64⟩
  | _ => ⟨S32x1x256x256, .f32⟩

abbrev hbmTy0_3 (i : Nat) : BufTy := match i % 128 with
  | 0 => ⟨S16x32x65536, .i32⟩
  | 1 => ⟨S16x32x65536, .i32⟩
  | 2 => ⟨S_, .i32⟩
  | 3 => ⟨S_, .i32⟩
  | 4 => ⟨S_, .i32⟩
  | 5 => ⟨S16x32x65536, .i32⟩
  | 6 => ⟨S16x32x65536, .i32⟩
  | 7 => ⟨S16x32x65536, .i32⟩
  | 8 => ⟨S16x32x65536, .i32⟩
  | 9 => ⟨S16x32x65536, .i32⟩
  | 10 => ⟨S_, .i32⟩
  | 11 => ⟨S16x32x65536, .i32⟩
  | 12 => ⟨S16x32x65536, .i32⟩
  | 13 => ⟨S_, .i32⟩
  | 14 => ⟨S16x32x65536, .i32⟩
  | 15 => ⟨S16x32x65536, .i32⟩
  | 16 => ⟨S16x32x65536, .i32⟩
  | 17 => ⟨S16x32x65536, .i32⟩
  | 18 => ⟨S16x32x65536, .i32⟩
  | 19 => ⟨S_, .i32⟩
  | 20 => ⟨S16x32x65536, .i32⟩
  | 21 => ⟨S16x32x65536, .i32⟩
  | 22 => ⟨S_, .i32⟩
  | 23 => ⟨S16x32x65536, .i32⟩
  | 24 => ⟨S16x32x65536, .i32⟩
  | 25 => ⟨S16x32x65536, .i32⟩
  | 26 => ⟨S16x32x65536, .i32⟩
  | 27 => ⟨S16x32x65536, .i32⟩
  | 28 => ⟨S_, .i32⟩
  | 29 => ⟨S16x32x65536, .i32⟩
  | 30 => ⟨S16x32x65536, .i32⟩
  | 31 => ⟨S_, .i32⟩
  | 32 => ⟨S16x32x65536, .i32⟩
  | 33 => ⟨S16x32x65536, .i32⟩
  | 34 => ⟨S16x32x65536, .i32⟩
  | 35 => ⟨S16x32x65536, .i32⟩
  | 36 => ⟨S16x32x65536, .i32⟩
  | 37 => ⟨S_, .i32⟩
  | 38 => ⟨S16x32x65536, .i32⟩
  | 39 => ⟨S16x32x65536, .i32⟩
  | 40 => ⟨S_, .i32⟩
  | 41 => ⟨S16x32x65536, .i32⟩
  | 42 => ⟨S16x32x65536, .i32⟩
  | 43 => ⟨S16x32x65536, .i32⟩
  | 44 => ⟨S16x32x65536, .i32⟩
  | 45 => ⟨S16x32x65536, .i32⟩
  | 46 => ⟨S16x32x65536, .i32⟩
  | 47 => ⟨S16x32x65536, .i32⟩
  | 48 => ⟨S16x32x65536, .i32⟩
  | 49 => ⟨S_, .i32⟩
  | 50 => ⟨S16x32x65536, .i32⟩
  | 51 => ⟨S16x32x65536, .i32⟩
  | 52 => ⟨S16x32x65536, .i32⟩
  | 53 => ⟨S_, .i32⟩
  | 54 => ⟨S16x32x65536, .i32⟩
  | 55 => ⟨S16x32x65536, .i32⟩
  | 56 => ⟨S_, .i32⟩
  | 57 => ⟨S16x32x65536, .i32⟩
  | 58 => ⟨S16x32x65536, .i32⟩
  | 59 => ⟨S16x32x65536, .i32⟩
  | 60 => ⟨S16x32x65536, .i32⟩
  | 61 => ⟨S16x32x65536, .i32⟩
  | 62 => ⟨S_, .i32⟩
  | 63 => ⟨S16x32x65536, .i32⟩
  | 64 => ⟨S16x32x65536, .i32⟩
  | 65 => ⟨S_, .i32⟩
  | 66 => ⟨S16x32x65536, .i32⟩
  | 67 => ⟨S16x32x65536, .i32⟩
  | 68 => ⟨S16x32x65536, .i32⟩
  | 69 => ⟨S16x32x65536, .i32⟩
  | 70 => ⟨S16x32x65536, .i32⟩
  | 71 => ⟨S_, .i32⟩
  | 72 => ⟨S16x32x65536, .i32⟩
  | 73 => ⟨S16x32x65536, .i32⟩
  | 74 => ⟨S_, .i32⟩
  | 75 => ⟨S16x32x65536, .i32⟩
  | 76 => ⟨S16x32x65536, .i32⟩
  | 77 => ⟨S16x32x65536, .i32⟩
  | 78 => ⟨S16x32x65536, .i32⟩
  | 79 => ⟨S16x32x65536, .i32⟩
  | 80 => ⟨S_, .i32⟩
  | 81 => ⟨S16x32x65536, .i32⟩
  | 82 => ⟨S16x32x65536, .i32⟩
  | 83 => ⟨S_, .i32⟩
  | 84 => ⟨S16x32x65536, .i32⟩
  | 85 => ⟨S16x32x65536, .i32⟩
  | 86 => ⟨S16x32x65536, .i32⟩
  | 87 => ⟨S16x32x65536, .i32⟩
  | 88 => ⟨S16x32x65536, .i32⟩
  | 89 => ⟨S16x32x65536, .i32⟩
  | 90 => ⟨S16x32x65536, .i32⟩
  | 91 => ⟨S16x32x65536, .i32⟩
  | 92 => ⟨S_, .i32⟩
  | 93 => ⟨S16x32x65536, .i32⟩
  | 94 => ⟨S16x32x65536, .i32⟩
  | 95 => ⟨S16x32x65536, .i32⟩
  | 96 => ⟨S_, .i32⟩
  | 97 => ⟨S16x32x65536, .i32⟩
  | 98 => ⟨S16x32x65536, .i32⟩
  | 99 => ⟨S_, .i32⟩
  | 100 => ⟨S16x32x65536, .i32⟩
  | 101 => ⟨S16x32x65536, .i32⟩
  | 102 => ⟨S16x32x65536, .i32⟩
  | 103 => ⟨S16x32x65536, .i32⟩
  | 104 => ⟨S16x32x65536, .i32⟩
  | 105 => ⟨S_, .i32⟩
  | 106 => ⟨S16x32x65536, .i32⟩
  | 107 => ⟨S16x32x65536, .i32⟩
  | 108 => ⟨S_, .i32⟩
  | 109 => ⟨S16x32x65536, .i32⟩
  | 110 => ⟨S16x32x65536, .i32⟩
  | 111 => ⟨S16x32x65536, .i32⟩
  | 112 => ⟨S16x32x65536, .i32⟩
  | 113 => ⟨S16x32x65536, .i32⟩
  | 114 => ⟨S_, .i32⟩
  | 115 => ⟨S16x32x65536, .i32⟩
  | 116 => ⟨S16x32x65536, .i32⟩
  | 117 => ⟨S_, .i32⟩
  | 118 => ⟨S16x32x65536, .i32⟩
  | 119 => ⟨S16x32x65536, .i32⟩
  | 120 => ⟨S16x32x65536, .i32⟩
  | 121 => ⟨S16x32x65536, .i32⟩
  | 122 => ⟨S16x32x65536, .i32⟩
  | 123 => ⟨S_, .i32⟩
  | 124 => ⟨S16x32x65536, .i32⟩
  | 125 => ⟨S16x32x65536, .i32⟩
  | 126 => ⟨S_, .i32⟩
  | 127 => ⟨S16x32x65536, .i32⟩
  | _ => ⟨S32x1x256x256, .f32⟩

abbrev hbmTy0_4 (i : Nat) : BufTy := match i % 128 with
  | 0 => ⟨S16x32x65536, .i32⟩
  | 1 => ⟨S16x32x65536, .i32⟩
  | 2 => ⟨S16x32x65536, .i32⟩
  | 3 => ⟨S16x32x65536, .i32⟩
  | 4 => ⟨S16x32x65536, .i32⟩
  | 5 => ⟨S16x32x65536, .i32⟩
  | 6 => ⟨S16x32x65536, .i32⟩
  | 7 => ⟨S_, .i32⟩
  | 8 => ⟨S16x32x65536, .i32⟩
  | 9 => ⟨S16x32x65536, .i32⟩
  | 10 => ⟨S16x32x65536, .i32⟩
  | 11 => ⟨S_, .i32⟩
  | 12 => ⟨S16x32x65536, .i32⟩
  | 13 => ⟨S16x32x65536, .i32⟩
  | 14 => ⟨S_, .i32⟩
  | 15 => ⟨S16x32x65536, .i32⟩
  | 16 => ⟨S16x32x65536, .i32⟩
  | 17 => ⟨S16x32x65536, .i32⟩
  | 18 => ⟨S16x32x65536, .i32⟩
  | 19 => ⟨S16x32x65536, .i32⟩
  | 20 => ⟨S_, .i32⟩
  | 21 => ⟨S16x32x65536, .i32⟩
  | 22 => ⟨S16x32x65536, .i32⟩
  | 23 => ⟨S_, .i32⟩
  | 24 => ⟨S16x32x65536, .i32⟩
  | 25 => ⟨S16x32x65536, .i32⟩
  | 26 => ⟨S16x32x65536, .i32⟩
  | 27 => ⟨S16x32x65536, .i32⟩
  | 28 => ⟨S16x32x65536, .i32⟩
  | 29 => ⟨S_, .i32⟩
  | 30 => ⟨S16x32x65536, .i32⟩
  | 31 => ⟨S16x32x65536, .i32⟩
  | 32 => ⟨S_, .i32⟩
  | 33 => ⟨S16x32x65536, .i32⟩
  | 34 => ⟨S16x32x65536, .i32⟩
  | 35 => ⟨S16x32x65536, .i32⟩
  | 36 => ⟨S16x32x65536, .i32⟩
  | 37 => ⟨S16x32x65536, .i32⟩
  | 38 => ⟨S_, .i32⟩
  | 39 => ⟨S16x32x65536, .i32⟩
  | 40 => ⟨S16x32x65536, .i32⟩
  | 41 => ⟨S_, .i32⟩
  | 42 => ⟨S16x32x65536, .i32⟩
  | 43 => ⟨S16x32x65536, .i32⟩
  | 44 => ⟨S16x32x65536, .i32⟩
  | 45 => ⟨S16x32x65536, .i32⟩
  | 46 => ⟨S16x32x65536, .i32⟩
  | 47 => ⟨S16x32x65536, .i32⟩
  | 48 => ⟨S16x32x65536, .i32⟩
  | 49 => ⟨S16x32x65536, .i32⟩
  | 50 => ⟨S_, .i32⟩
  | 51 => ⟨S16x32x65536, .i32⟩
  | 52 => ⟨S16x32x65536, .i32⟩
  | 53 => ⟨S16x32x65536, .i32⟩
  | 54 => ⟨S_, .i32⟩
  | 55 => ⟨S16x32x65536, .i32⟩
  | 56 => ⟨S16x32x65536, .i32⟩
  | 57 => ⟨S_, .i32⟩
  | 58 => ⟨S16x32x65536, .i32⟩
  | 59 => ⟨S16x32x65536, .i32⟩
  | 60 => ⟨S16x32x65536, .i32⟩
  | 61 => ⟨S16x32x65536, .i32⟩
  | 62 => ⟨S16x32x65536, .i32⟩
  | 63 => ⟨S_, .i32⟩
  | 64 => ⟨S16x32x65536, .i32⟩
  | 65 => ⟨S16x32x65536, .i32⟩
  | 66 => ⟨S_, .i32⟩
  | 67 => ⟨S16x32x65536, .i32⟩
  | 68 => ⟨S16x32x65536, .i32⟩
  | 69 => ⟨S16x32x65536, .i32⟩
  | 70 => ⟨S16x32x65536, .i32⟩
  | 71 => ⟨S16x32x65536, .i32⟩
  | 72 => ⟨S_, .i32⟩
  | 73 => ⟨S16x32x65536, .i32⟩
  | 74 => ⟨S16x32x65536, .i32⟩
  | 75 => ⟨S_, .i32⟩
  | 76 => ⟨S16x32x65536, .i32⟩
  | 77 => ⟨S16x32x65536, .i32⟩
  | 78 => ⟨S16x32x65536, .i32⟩
  | 79 => ⟨S16x32x65536, .i32⟩
  | 80 => ⟨S16x32x65536, .i32⟩
  | 81 => ⟨S_, .i32⟩
  | 82 => ⟨S16x32x65536, .i32⟩
  | 83 => ⟨S16x32x65536, .i32⟩
  | 84 => ⟨S_, .i32⟩
  | 85 => ⟨S16x32x65536, .i32⟩
  | 86 => ⟨S16x32x65536, .i32⟩
  | 87 => ⟨S16x32x65536, .i32⟩
  | 88 => ⟨S16x32x65536, .i32⟩
  | 89 => ⟨S16x32x65536, .i32⟩
  | 90 => ⟨S16x32x65536, .i32⟩
  | 91 => ⟨S16x32x65536, .i32⟩
  | 92 => ⟨S16x32x65536, .i32⟩
  | 93 => ⟨S_, .i32⟩
  | 94 => ⟨S16x32x65536, .i32⟩
  | 95 => ⟨S16x32x65536, .i32⟩
  | 96 => ⟨S16x32x65536, .i32⟩
  | 97 => ⟨S_, .i32⟩
  | 98 => ⟨S16x32x65536, .i32⟩
  | 99 => ⟨S16x32x65536, .i32⟩
  | 100 => ⟨S_, .i32⟩
  | 101 => ⟨S16x32x65536, .i32⟩
  | 102 => ⟨S16x32x65536, .i32⟩
  | 103 => ⟨S16x32x65536, .f32⟩
  | 104 => ⟨S_, .f32⟩
  | 105 => ⟨S16x32x65536, .f32⟩
  | 106 => ⟨S16x32x65536, .f32⟩
  | 107 => ⟨S1x1x1, .f32⟩
  | 108 => ⟨S16x32x65536, .f32⟩
  | 109 => ⟨S16x32x65536, .f32⟩
  | 110 => ⟨S16x32x65536, .f32⟩
  | 111 => ⟨S16x32x65536, .f32⟩
  | 112 => ⟨S16x32x65536, .f32⟩
  | 113 => ⟨S16x32x65536, .f32⟩
  | 114 => ⟨S16x32x65536, .f32⟩
  | 115 => ⟨S16x32x65536, .f32⟩
  | 116 => ⟨S16x32x65536, .f32⟩
  | 117 => ⟨S16x32x65536, .f32⟩
  | 118 => ⟨S1x32x65536, .f32⟩
  | 119 => ⟨S16x32x65536, .f32⟩
  | 120 => ⟨S16x32x65536, .f32⟩
  | 121 => ⟨S16x32x65536, .i32⟩
  | 122 => ⟨S_, .f32⟩
  | 123 => ⟨S_, .i32⟩
  | 124 => ⟨S16x32, .f32⟩
  | 125 => ⟨S16x32, .i32⟩
  | 126 => ⟨S32x16, .i32⟩
  | 127 => ⟨S_, .i32⟩
  | _ => ⟨S32x1x256x256, .f32⟩

abbrev hbmTy0_5 (i : Nat) : BufTy := match i % 128 with
  | 0 => ⟨S_, .i32⟩
  | 1 => ⟨S32x16, .i32⟩
  | 2 => ⟨S32x16, .i32⟩
  | 3 => ⟨S32x16, .i32⟩
  | 4 => ⟨S_, .i32⟩
  | 5 => ⟨S32x16, .i32⟩
  | 6 => ⟨S32x16, .i1⟩
  | 7 => ⟨S32x16, .i32⟩
  | 8 => ⟨S32x16, .i32⟩
  | 9 => ⟨S_, .i32⟩
  | 10 => ⟨S32x16, .i32⟩
  | 11 => ⟨S32x16, .i1⟩
  | 12 => ⟨S32x16, .i1⟩
  | 13 => ⟨S_, .i32⟩
  | 14 => ⟨S32x16, .i32⟩
  | 15 => ⟨S32x16, .i32⟩
  | 16 => ⟨S32x16, .i32⟩
  | 17 => ⟨S32x16, .f32⟩
  | 18 => ⟨S_, .f32⟩
  | 19 => ⟨S32x16, .f32⟩
  | 20 => ⟨S32x16, .f32⟩
  | 21 => ⟨S_, .f32⟩
  | 22 => ⟨S32x16, .f32⟩
  | 23 => ⟨S32x16, .f32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S32x16, .i32⟩
  | 31 => ⟨S32x16, .i32⟩
  | 32 => ⟨S_, .i32⟩
  | 33 => ⟨S32x16, .i32⟩
  | 34 => ⟨S32x16, .i1⟩
  | 35 => ⟨S_, .i32⟩
  | 36 => ⟨S32x16, .i32⟩
  | 37 => ⟨S32x16, .i1⟩
  | 38 => ⟨S_, .i32⟩
  | 39 => ⟨S_, .i1⟩
  | 40 => ⟨S32x16, .i1⟩
  | 41 => ⟨S32x16, .i1⟩
  | 42 => ⟨S32x16, .i1⟩
  | 43 => ⟨S32x16, .i32⟩
  | 44 => ⟨S32x16, .i32⟩
  | 45 => ⟨S32x16, .i32⟩
  | 46 => ⟨S32x16, .f32⟩
  | 47 => ⟨S_, .f32⟩
  | 48 => ⟨S32x16, .f32⟩
  | 49 => ⟨S32x16, .f32⟩
  | 50 => ⟨S_, .f32⟩
  | 51 => ⟨S32x16, .f32⟩
  | 52 => ⟨S32x16, .f32⟩
  | 53 => ⟨S512x1, .f32⟩
  | 54 => ⟨S512x1, .f32⟩
  | 55 => ⟨S1x1, .f32⟩
  | 56 => ⟨S1x1x1x1, .f32⟩
  | 57 => ⟨S512x1x1x1, .f32⟩
  | 58 => ⟨S512x1, .f32⟩
  | 59 => ⟨S1x1, .f32⟩
  | 60 => ⟨S1x1x1x1, .f32⟩
  | 61 => ⟨S512x1x1x1, .f32⟩
  | 62 => ⟨S512x1, .f32⟩
  | 63 => ⟨S512x4, .f32⟩
  | 64 => ⟨S512x4, .f32⟩
  | 65 => ⟨S512x4, .f32⟩
  | 66 => ⟨S512x4, .f32⟩
  | 67 => ⟨S_, .f32⟩
  | 68 => ⟨S512x1, .f32⟩
  | 69 => ⟨S512x1, .f32⟩
  | 70 => ⟨S512x4, .f32⟩
  | 71 => ⟨S512x4, .f32⟩
  | 72 => ⟨S512x4, .f32⟩
  | 73 => ⟨S32x64, .f32⟩
  | 74 => ⟨S32x4096, .f32⟩
  | 75 => ⟨S32x16, .f32⟩
  | 76 => ⟨S32x16, .f32⟩
  | _ => ⟨S32x1x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x1x256x256, .f32⟩

abbrev bufTy : (tb : Table) → Fin (tcTables nBuf tb) → BufTy
  | .hbm, ⟨i, _⟩ => hbmTy i
  | _, _ => ⟨S32x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_cst_9 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c : Ref sig .tc := ⟨.hbm, 70, rfl⟩
abbrev main_call0_v12 : Ref sig .tc := ⟨.hbm, 71, rfl⟩
abbrev main_call0_v13 : Ref sig .tc := ⟨.hbm, 72, rfl⟩
abbrev main_call0_c_0 : Ref sig .tc := ⟨.hbm, 73, rfl⟩
abbrev main_call0_v14 : Ref sig .tc := ⟨.hbm, 74, rfl⟩
abbrev main_call0_v15 : Ref sig .tc := ⟨.hbm, 75, rfl⟩
abbrev main_call0_c_1 : Ref sig .tc := ⟨.hbm, 76, rfl⟩
abbrev main_call0_v16 : Ref sig .tc := ⟨.hbm, 77, rfl⟩
abbrev main_call0_v17 : Ref sig .tc := ⟨.hbm, 78, rfl⟩
abbrev main_call0_c_2 : Ref sig .tc := ⟨.hbm, 79, rfl⟩
abbrev main_call0_v18 : Ref sig .tc := ⟨.hbm, 80, rfl⟩
abbrev main_call0_v19 : Ref sig .tc := ⟨.hbm, 81, rfl⟩
abbrev main_call0_v20 : Ref sig .tc := ⟨.hbm, 82, rfl⟩
abbrev main_call0_v21 : Ref sig .tc := ⟨.hbm, 83, rfl⟩
abbrev main_call0_v22 : Ref sig .tc := ⟨.hbm, 84, rfl⟩
abbrev main_call0_c_3 : Ref sig .tc := ⟨.hbm, 85, rfl⟩
abbrev main_call0_v23 : Ref sig .tc := ⟨.hbm, 86, rfl⟩
abbrev main_call0_v24 : Ref sig .tc := ⟨.hbm, 87, rfl⟩
abbrev main_call0_v25 : Ref sig .tc := ⟨.hbm, 88, rfl⟩
abbrev main_call0_v26 : Ref sig .tc := ⟨.hbm, 89, rfl⟩
abbrev main_call0_call0_v0 : Ref sig .tc := ⟨.hbm, 90, rfl⟩
abbrev main_call0_call0_c : Ref sig .tc := ⟨.hbm, 91, rfl⟩
abbrev main_call0_call0_v1 : Ref sig .tc := ⟨.hbm, 92, rfl⟩
abbrev main_call0_call0_v2 : Ref sig .tc := ⟨.hbm, 93, rfl⟩
abbrev main_call0_call0_v3 : Ref sig .tc := ⟨.hbm, 94, rfl⟩
abbrev main_call0_call0_v4 : Ref sig .tc := ⟨.hbm, 95, rfl⟩
abbrev main_call0_call0_v5 : Ref sig .tc := ⟨.hbm, 96, rfl⟩
abbrev main_call0_call0_v6 : Ref sig .tc := ⟨.hbm, 97, rfl⟩
abbrev main_call0_call0_c_0 : Ref sig .tc := ⟨.hbm, 98, rfl⟩
abbrev main_call0_call0_v7 : Ref sig .tc := ⟨.hbm, 99, rfl⟩
abbrev main_call0_call0_v8 : Ref sig .tc := ⟨.hbm, 100, rfl⟩
abbrev main_call0_call0_c_1 : Ref sig .tc := ⟨.hbm, 101, rfl⟩
abbrev main_call0_call0_v9 : Ref sig .tc := ⟨.hbm, 102, rfl⟩
abbrev main_call0_call0_v10 : Ref sig .tc := ⟨.hbm, 103, rfl⟩
abbrev main_call0_call0_v11 : Ref sig .tc := ⟨.hbm, 104, rfl⟩
abbrev main_call0_call0_v12 : Ref sig .tc := ⟨.hbm, 105, rfl⟩
abbrev main_call0_call0_v13 : Ref sig .tc := ⟨.hbm, 106, rfl⟩
abbrev main_call0_call0_c_2 : Ref sig .tc := ⟨.hbm, 107, rfl⟩
abbrev main_call0_call0_v14 : Ref sig .tc := ⟨.hbm, 108, rfl⟩
abbrev main_call0_call0_v15 : Ref sig .tc := ⟨.hbm, 109, rfl⟩
abbrev main_call0_call0_c_3 : Ref sig .tc := ⟨.hbm, 110, rfl⟩
abbrev main_call0_call0_v16 : Ref sig .tc := ⟨.hbm, 111, rfl⟩
abbrev main_call0_call0_v17 : Ref sig .tc := ⟨.hbm, 112, rfl⟩
abbrev main_call0_call0_v18 : Ref sig .tc := ⟨.hbm, 113, rfl⟩
abbrev main_call0_call0_v19 : Ref sig .tc := ⟨.hbm, 114, rfl⟩
abbrev main_call0_call0_v20 : Ref sig .tc := ⟨.hbm, 115, rfl⟩
abbrev main_call0_call0_c_4 : Ref sig .tc := ⟨.hbm, 116, rfl⟩
abbrev main_call0_call0_v21 : Ref sig .tc := ⟨.hbm, 117, rfl⟩
abbrev main_call0_call0_v22 : Ref sig .tc := ⟨.hbm, 118, rfl⟩
abbrev main_call0_call0_c_5 : Ref sig .tc := ⟨.hbm, 119, rfl⟩
abbrev main_call0_call0_v23 : Ref sig .tc := ⟨.hbm, 120, rfl⟩
abbrev main_call0_call0_v24 : Ref sig .tc := ⟨.hbm, 121, rfl⟩
abbrev main_call0_call0_v25 : Ref sig .tc := ⟨.hbm, 122, rfl⟩
abbrev main_call0_call0_v26 : Ref sig .tc := ⟨.hbm, 123, rfl⟩
abbrev main_call0_call0_v27 : Ref sig .tc := ⟨.hbm, 124, rfl⟩
abbrev main_call0_call0_c_6 : Ref sig .tc := ⟨.hbm, 125, rfl⟩
abbrev main_call0_call0_v28 : Ref sig .tc := ⟨.hbm, 126, rfl⟩
abbrev main_call0_call0_v29 : Ref sig .tc := ⟨.hbm, 127, rfl⟩
abbrev main_call0_call0_c_7 : Ref sig .tc := ⟨.hbm, 128, rfl⟩
abbrev main_call0_call0_v30 : Ref sig .tc := ⟨.hbm, 129, rfl⟩
abbrev main_call0_call0_v31 : Ref sig .tc := ⟨.hbm, 130, rfl⟩
abbrev main_call0_call0_v32 : Ref sig .tc := ⟨.hbm, 131, rfl⟩
abbrev main_call0_call0_v33 : Ref sig .tc := ⟨.hbm, 132, rfl⟩
abbrev main_call0_call0_v34 : Ref sig .tc := ⟨.hbm, 133, rfl⟩
abbrev main_call0_call0_v35 : Ref sig .tc := ⟨.hbm, 134, rfl⟩
abbrev main_call0_call0_v36 : Ref sig .tc := ⟨.hbm, 135, rfl⟩
abbrev main_call0_call0_v37 : Ref sig .tc := ⟨.hbm, 136, rfl⟩
abbrev main_call0_call0_c_8 : Ref sig .tc := ⟨.hbm, 137, rfl⟩
abbrev main_call0_call0_v38 : Ref sig .tc := ⟨.hbm, 138, rfl⟩
abbrev main_call0_call0_v39 : Ref sig .tc := ⟨.hbm, 139, rfl⟩
abbrev main_call0_call0_v40 : Ref sig .tc := ⟨.hbm, 140, rfl⟩
abbrev main_call0_call0_c_9 : Ref sig .tc := ⟨.hbm, 141, rfl⟩
abbrev main_call0_call0_v41 : Ref sig .tc := ⟨.hbm, 142, rfl⟩
abbrev main_call0_call0_v42 : Ref sig .tc := ⟨.hbm, 143, rfl⟩
abbrev main_call0_call0_c_10 : Ref sig .tc := ⟨.hbm, 144, rfl⟩
abbrev main_call0_call0_v43 : Ref sig .tc := ⟨.hbm, 145, rfl⟩
abbrev main_call0_call0_v44 : Ref sig .tc := ⟨.hbm, 146, rfl⟩
abbrev main_call0_call0_v45 : Ref sig .tc := ⟨.hbm, 147, rfl⟩
abbrev main_call0_call0_v46 : Ref sig .tc := ⟨.hbm, 148, rfl⟩
abbrev main_call0_call0_v47 : Ref sig .tc := ⟨.hbm, 149, rfl⟩
abbrev main_call0_call0_c_11 : Ref sig .tc := ⟨.hbm, 150, rfl⟩
abbrev main_call0_call0_v48 : Ref sig .tc := ⟨.hbm, 151, rfl⟩
abbrev main_call0_call0_v49 : Ref sig .tc := ⟨.hbm, 152, rfl⟩
abbrev main_call0_call0_c_12 : Ref sig .tc := ⟨.hbm, 153, rfl⟩
abbrev main_call0_call0_v50 : Ref sig .tc := ⟨.hbm, 154, rfl⟩
abbrev main_call0_call0_v51 : Ref sig .tc := ⟨.hbm, 155, rfl⟩
abbrev main_call0_call0_v52 : Ref sig .tc := ⟨.hbm, 156, rfl⟩
abbrev main_call0_call0_v53 : Ref sig .tc := ⟨.hbm, 157, rfl⟩
abbrev main_call0_call0_v54 : Ref sig .tc := ⟨.hbm, 158, rfl⟩
abbrev main_call0_call0_c_13 : Ref sig .tc := ⟨.hbm, 159, rfl⟩
abbrev main_call0_call0_v55 : Ref sig .tc := ⟨.hbm, 160, rfl⟩
abbrev main_call0_call0_v56 : Ref sig .tc := ⟨.hbm, 161, rfl⟩
abbrev main_call0_call0_c_14 : Ref sig .tc := ⟨.hbm, 162, rfl⟩
abbrev main_call0_call0_v57 : Ref sig .tc := ⟨.hbm, 163, rfl⟩
abbrev main_call0_call0_v58 : Ref sig .tc := ⟨.hbm, 164, rfl⟩
abbrev main_call0_call0_v59 : Ref sig .tc := ⟨.hbm, 165, rfl⟩
abbrev main_call0_call0_v60 : Ref sig .tc := ⟨.hbm, 166, rfl⟩
abbrev main_call0_call0_v61 : Ref sig .tc := ⟨.hbm, 167, rfl⟩
abbrev main_call0_call0_c_15 : Ref sig .tc := ⟨.hbm, 168, rfl⟩
abbrev main_call0_call0_v62 : Ref sig .tc := ⟨.hbm, 169, rfl⟩
abbrev main_call0_call0_v63 : Ref sig .tc := ⟨.hbm, 170, rfl⟩
abbrev main_call0_call0_c_16 : Ref sig .tc := ⟨.hbm, 171, rfl⟩
abbrev main_call0_call0_v64 : Ref sig .tc := ⟨.hbm, 172, rfl⟩
abbrev main_call0_call0_v65 : Ref sig .tc := ⟨.hbm, 173, rfl⟩
abbrev main_call0_call0_v66 : Ref sig .tc := ⟨.hbm, 174, rfl⟩
abbrev main_call0_call0_v67 : Ref sig .tc := ⟨.hbm, 175, rfl⟩
abbrev main_call0_call0_v68 : Ref sig .tc := ⟨.hbm, 176, rfl⟩
abbrev main_call0_call0_v69 : Ref sig .tc := ⟨.hbm, 177, rfl⟩
abbrev main_call0_call0_v70 : Ref sig .tc := ⟨.hbm, 178, rfl⟩
abbrev main_call0_call0_v71 : Ref sig .tc := ⟨.hbm, 179, rfl⟩
abbrev main_call0_call0_c_17 : Ref sig .tc := ⟨.hbm, 180, rfl⟩
abbrev main_call0_call0_v72 : Ref sig .tc := ⟨.hbm, 181, rfl⟩
abbrev main_call0_call0_v73 : Ref sig .tc := ⟨.hbm, 182, rfl⟩
abbrev main_call0_call0_v74 : Ref sig .tc := ⟨.hbm, 183, rfl⟩
abbrev main_call0_call0_c_18 : Ref sig .tc := ⟨.hbm, 184, rfl⟩
abbrev main_call0_call0_v75 : Ref sig .tc := ⟨.hbm, 185, rfl⟩
abbrev main_call0_call0_v76 : Ref sig .tc := ⟨.hbm, 186, rfl⟩
abbrev main_call0_call0_c_19 : Ref sig .tc := ⟨.hbm, 187, rfl⟩
abbrev main_call0_call0_v77 : Ref sig .tc := ⟨.hbm, 188, rfl⟩
abbrev main_call0_call0_v78 : Ref sig .tc := ⟨.hbm, 189, rfl⟩
abbrev main_call0_call0_v79 : Ref sig .tc := ⟨.hbm, 190, rfl⟩
abbrev main_call0_call0_v80 : Ref sig .tc := ⟨.hbm, 191, rfl⟩
abbrev main_call0_call0_v81 : Ref sig .tc := ⟨.hbm, 192, rfl⟩
abbrev main_call0_call0_c_20 : Ref sig .tc := ⟨.hbm, 193, rfl⟩
abbrev main_call0_call0_v82 : Ref sig .tc := ⟨.hbm, 194, rfl⟩
abbrev main_call0_call0_v83 : Ref sig .tc := ⟨.hbm, 195, rfl⟩
abbrev main_call0_call0_c_21 : Ref sig .tc := ⟨.hbm, 196, rfl⟩
abbrev main_call0_call0_v84 : Ref sig .tc := ⟨.hbm, 197, rfl⟩
abbrev main_call0_call0_v85 : Ref sig .tc := ⟨.hbm, 198, rfl⟩
abbrev main_call0_call0_v86 : Ref sig .tc := ⟨.hbm, 199, rfl⟩
abbrev main_call0_call0_v87 : Ref sig .tc := ⟨.hbm, 200, rfl⟩
abbrev main_call0_call0_v88 : Ref sig .tc := ⟨.hbm, 201, rfl⟩
abbrev main_call0_call0_c_22 : Ref sig .tc := ⟨.hbm, 202, rfl⟩
abbrev main_call0_call0_v89 : Ref sig .tc := ⟨.hbm, 203, rfl⟩
abbrev main_call0_call0_v90 : Ref sig .tc := ⟨.hbm, 204, rfl⟩
abbrev main_call0_call0_c_23 : Ref sig .tc := ⟨.hbm, 205, rfl⟩
abbrev main_call0_call0_v91 : Ref sig .tc := ⟨.hbm, 206, rfl⟩
abbrev main_call0_call0_v92 : Ref sig .tc := ⟨.hbm, 207, rfl⟩
abbrev main_call0_call0_v93 : Ref sig .tc := ⟨.hbm, 208, rfl⟩
abbrev main_call0_call0_v94 : Ref sig .tc := ⟨.hbm, 209, rfl⟩
abbrev main_call0_call0_v95 : Ref sig .tc := ⟨.hbm, 210, rfl⟩
abbrev main_call0_call0_c_24 : Ref sig .tc := ⟨.hbm, 211, rfl⟩
abbrev main_call0_call0_v96 : Ref sig .tc := ⟨.hbm, 212, rfl⟩
abbrev main_call0_call0_v97 : Ref sig .tc := ⟨.hbm, 213, rfl⟩
abbrev main_call0_call0_c_25 : Ref sig .tc := ⟨.hbm, 214, rfl⟩
abbrev main_call0_call0_v98 : Ref sig .tc := ⟨.hbm, 215, rfl⟩
abbrev main_call0_call0_v99 : Ref sig .tc := ⟨.hbm, 216, rfl⟩
abbrev main_call0_call0_v100 : Ref sig .tc := ⟨.hbm, 217, rfl⟩
abbrev main_call0_call0_v101 : Ref sig .tc := ⟨.hbm, 218, rfl⟩
abbrev main_call0_call0_v102 : Ref sig .tc := ⟨.hbm, 219, rfl⟩
abbrev main_call0_call0_v103 : Ref sig .tc := ⟨.hbm, 220, rfl⟩
abbrev main_call0_call0_v104 : Ref sig .tc := ⟨.hbm, 221, rfl⟩
abbrev main_call0_call0_v105 : Ref sig .tc := ⟨.hbm, 222, rfl⟩
abbrev main_call0_call0_c_26 : Ref sig .tc := ⟨.hbm, 223, rfl⟩
abbrev main_call0_call0_v106 : Ref sig .tc := ⟨.hbm, 224, rfl⟩
abbrev main_call0_call0_v107 : Ref sig .tc := ⟨.hbm, 225, rfl⟩
abbrev main_call0_call0_v108 : Ref sig .tc := ⟨.hbm, 226, rfl⟩
abbrev main_call0_call0_c_27 : Ref sig .tc := ⟨.hbm, 227, rfl⟩
abbrev main_call0_call0_v109 : Ref sig .tc := ⟨.hbm, 228, rfl⟩
abbrev main_call0_call0_v110 : Ref sig .tc := ⟨.hbm, 229, rfl⟩
abbrev main_call0_call0_c_28 : Ref sig .tc := ⟨.hbm, 230, rfl⟩
abbrev main_call0_call0_v111 : Ref sig .tc := ⟨.hbm, 231, rfl⟩
abbrev main_call0_call0_v112 : Ref sig .tc := ⟨.hbm, 232, rfl⟩
abbrev main_call0_call0_v113 : Ref sig .tc := ⟨.hbm, 233, rfl⟩
abbrev main_call0_call0_v114 : Ref sig .tc := ⟨.hbm, 234, rfl⟩
abbrev main_call0_call0_v115 : Ref sig .tc := ⟨.hbm, 235, rfl⟩
abbrev main_call0_call0_c_29 : Ref sig .tc := ⟨.hbm, 236, rfl⟩
abbrev main_call0_call0_v116 : Ref sig .tc := ⟨.hbm, 237, rfl⟩
abbrev main_call0_call0_v117 : Ref sig .tc := ⟨.hbm, 238, rfl⟩
abbrev main_call0_call0_c_30 : Ref sig .tc := ⟨.hbm, 239, rfl⟩
abbrev main_call0_call0_v118 : Ref sig .tc := ⟨.hbm, 240, rfl⟩
abbrev main_call0_call0_v119 : Ref sig .tc := ⟨.hbm, 241, rfl⟩
abbrev main_call0_call0_v120 : Ref sig .tc := ⟨.hbm, 242, rfl⟩
abbrev main_call0_call0_v121 : Ref sig .tc := ⟨.hbm, 243, rfl⟩
abbrev main_call0_call0_v122 : Ref sig .tc := ⟨.hbm, 244, rfl⟩
abbrev main_call0_call0_c_31 : Ref sig .tc := ⟨.hbm, 245, rfl⟩
abbrev main_call0_call0_v123 : Ref sig .tc := ⟨.hbm, 246, rfl⟩
abbrev main_call0_call0_v124 : Ref sig .tc := ⟨.hbm, 247, rfl⟩
abbrev main_call0_call0_c_32 : Ref sig .tc := ⟨.hbm, 248, rfl⟩
abbrev main_call0_call0_v125 : Ref sig .tc := ⟨.hbm, 249, rfl⟩
abbrev main_call0_call0_v126 : Ref sig .tc := ⟨.hbm, 250, rfl⟩
abbrev main_call0_call0_v127 : Ref sig .tc := ⟨.hbm, 251, rfl⟩
abbrev main_call0_call0_v128 : Ref sig .tc := ⟨.hbm, 252, rfl⟩
abbrev main_call0_call0_v129 : Ref sig .tc := ⟨.hbm, 253, rfl⟩
abbrev main_call0_call0_c_33 : Ref sig .tc := ⟨.hbm, 254, rfl⟩
abbrev main_call0_call0_v130 : Ref sig .tc := ⟨.hbm, 255, rfl⟩
abbrev main_call0_call0_v131 : Ref sig .tc := ⟨.hbm, 256, rfl⟩
abbrev main_call0_call0_c_34 : Ref sig .tc := ⟨.hbm, 257, rfl⟩
abbrev main_call0_call0_v132 : Ref sig .tc := ⟨.hbm, 258, rfl⟩
abbrev main_call0_call0_v133 : Ref sig .tc := ⟨.hbm, 259, rfl⟩
abbrev main_call0_call0_v134 : Ref sig .tc := ⟨.hbm, 260, rfl⟩
abbrev main_call0_call0_v135 : Ref sig .tc := ⟨.hbm, 261, rfl⟩
abbrev main_call0_call0_v136 : Ref sig .tc := ⟨.hbm, 262, rfl⟩
abbrev main_call0_call0_v137 : Ref sig .tc := ⟨.hbm, 263, rfl⟩
abbrev main_call0_call0_v138 : Ref sig .tc := ⟨.hbm, 264, rfl⟩
abbrev main_call0_call0_v139 : Ref sig .tc := ⟨.hbm, 265, rfl⟩
abbrev main_call0_call0_c_35 : Ref sig .tc := ⟨.hbm, 266, rfl⟩
abbrev main_call0_call0_v140 : Ref sig .tc := ⟨.hbm, 267, rfl⟩
abbrev main_call0_call0_v141 : Ref sig .tc := ⟨.hbm, 268, rfl⟩
abbrev main_call0_call0_v142 : Ref sig .tc := ⟨.hbm, 269, rfl⟩
abbrev main_call0_call0_c_36 : Ref sig .tc := ⟨.hbm, 270, rfl⟩
abbrev main_call0_call0_v143 : Ref sig .tc := ⟨.hbm, 271, rfl⟩
abbrev main_call0_call0_v144 : Ref sig .tc := ⟨.hbm, 272, rfl⟩
abbrev main_call0_call0_c_37 : Ref sig .tc := ⟨.hbm, 273, rfl⟩
abbrev main_call0_call0_v145 : Ref sig .tc := ⟨.hbm, 274, rfl⟩
abbrev main_call0_call0_v146 : Ref sig .tc := ⟨.hbm, 275, rfl⟩
abbrev main_call0_call0_v147 : Ref sig .tc := ⟨.hbm, 276, rfl⟩
abbrev main_call0_call0_v148 : Ref sig .tc := ⟨.hbm, 277, rfl⟩
abbrev main_call0_call0_v149 : Ref sig .tc := ⟨.hbm, 278, rfl⟩
abbrev main_call0_call0_c_38 : Ref sig .tc := ⟨.hbm, 279, rfl⟩
abbrev main_call0_call0_v150 : Ref sig .tc := ⟨.hbm, 280, rfl⟩
abbrev main_call0_call0_v151 : Ref sig .tc := ⟨.hbm, 281, rfl⟩
abbrev main_call0_call0_c_39 : Ref sig .tc := ⟨.hbm, 282, rfl⟩
abbrev main_call0_call0_v152 : Ref sig .tc := ⟨.hbm, 283, rfl⟩
abbrev main_call0_call0_v153 : Ref sig .tc := ⟨.hbm, 284, rfl⟩
abbrev main_call0_call0_v154 : Ref sig .tc := ⟨.hbm, 285, rfl⟩
abbrev main_call0_call0_v155 : Ref sig .tc := ⟨.hbm, 286, rfl⟩
abbrev main_call0_call0_v156 : Ref sig .tc := ⟨.hbm, 287, rfl⟩
abbrev main_call0_call0_c_40 : Ref sig .tc := ⟨.hbm, 288, rfl⟩
abbrev main_call0_call0_v157 : Ref sig .tc := ⟨.hbm, 289, rfl⟩
abbrev main_call0_call0_v158 : Ref sig .tc := ⟨.hbm, 290, rfl⟩
abbrev main_call0_call0_c_41 : Ref sig .tc := ⟨.hbm, 291, rfl⟩
abbrev main_call0_call0_v159 : Ref sig .tc := ⟨.hbm, 292, rfl⟩
abbrev main_call0_call0_v160 : Ref sig .tc := ⟨.hbm, 293, rfl⟩
abbrev main_call0_call0_v161 : Ref sig .tc := ⟨.hbm, 294, rfl⟩
abbrev main_call0_call0_v162 : Ref sig .tc := ⟨.hbm, 295, rfl⟩
abbrev main_call0_call0_v163 : Ref sig .tc := ⟨.hbm, 296, rfl⟩
abbrev main_call0_call0_c_42 : Ref sig .tc := ⟨.hbm, 297, rfl⟩
abbrev main_call0_call0_v164 : Ref sig .tc := ⟨.hbm, 298, rfl⟩
abbrev main_call0_call0_v165 : Ref sig .tc := ⟨.hbm, 299, rfl⟩
abbrev main_call0_call0_c_43 : Ref sig .tc := ⟨.hbm, 300, rfl⟩
abbrev main_call0_call0_v166 : Ref sig .tc := ⟨.hbm, 301, rfl⟩
abbrev main_call0_call0_v167 : Ref sig .tc := ⟨.hbm, 302, rfl⟩
abbrev main_call0_call0_v168 : Ref sig .tc := ⟨.hbm, 303, rfl⟩
abbrev main_call0_call0_v169 : Ref sig .tc := ⟨.hbm, 304, rfl⟩
abbrev main_call0_call0_v170 : Ref sig .tc := ⟨.hbm, 305, rfl⟩
abbrev main_call0_v27_0 : Ref sig .tc := ⟨.hbm, 306, rfl⟩
abbrev main_call0_call0_v172 : Ref sig .tc := ⟨.hbm, 307, rfl⟩
abbrev main_call0_call0_v173 : Ref sig .tc := ⟨.hbm, 308, rfl⟩
abbrev main_call0_call0_c_44 : Ref sig .tc := ⟨.hbm, 309, rfl⟩
abbrev main_call0_call0_v174 : Ref sig .tc := ⟨.hbm, 310, rfl⟩
abbrev main_call0_v27_1 : Ref sig .tc := ⟨.hbm, 311, rfl⟩
abbrev main_call0_v28 : Ref sig .tc := ⟨.hbm, 312, rfl⟩
abbrev main_call0_c_4 : Ref sig .tc := ⟨.hbm, 313, rfl⟩
abbrev main_call0_v29 : Ref sig .tc := ⟨.hbm, 314, rfl⟩
abbrev main_call0_v30 : Ref sig .tc := ⟨.hbm, 315, rfl⟩
abbrev main_call0_c_5 : Ref sig .tc := ⟨.hbm, 316, rfl⟩
abbrev main_call0_v31 : Ref sig .tc := ⟨.hbm, 317, rfl⟩
abbrev main_call0_v32 : Ref sig .tc := ⟨.hbm, 318, rfl⟩
abbrev main_call0_v33 : Ref sig .tc := ⟨.hbm, 319, rfl⟩
abbrev main_call0_cst : Ref sig .tc := ⟨.hbm, 320, rfl⟩
abbrev main_call0_v34 : Ref sig .tc := ⟨.hbm, 321, rfl⟩
abbrev main_call0_v35 : Ref sig .tc := ⟨.hbm, 322, rfl⟩
abbrev main_call0_v36 : Ref sig .tc := ⟨.hbm, 323, rfl⟩
abbrev main_call0_v37 : Ref sig .tc := ⟨.hbm, 324, rfl⟩
abbrev main_call0_v38 : Ref sig .tc := ⟨.hbm, 325, rfl⟩
abbrev main_call0_v39 : Ref sig .tc := ⟨.hbm, 326, rfl⟩
abbrev main_call0_v40 : Ref sig .tc := ⟨.hbm, 327, rfl⟩
abbrev main_call0_v41 : Ref sig .tc := ⟨.hbm, 328, rfl⟩
abbrev main_v38 : Ref sig .tc := ⟨.hbm, 329, rfl⟩
abbrev main_v39 : Ref sig .tc := ⟨.hbm, 330, rfl⟩
abbrev main_v40 : Ref sig .tc := ⟨.hbm, 331, rfl⟩
abbrev main_cst_10 : Ref sig .tc := ⟨.hbm, 332, rfl⟩
abbrev main_v41 : Ref sig .tc := ⟨.hbm, 333, rfl⟩
abbrev main_v42 : Ref sig .tc := ⟨.hbm, 334, rfl⟩
abbrev main_v43 : Ref sig .tc := ⟨.hbm, 335, rfl⟩
abbrev main_v44 : Ref sig .tc := ⟨.hbm, 336, rfl⟩
abbrev main_v45 : Ref sig .tc := ⟨.hbm, 337, rfl⟩
abbrev main_cst_11 : Ref sig .tc := ⟨.hbm, 338, rfl⟩
abbrev main_v46 : Ref sig .tc := ⟨.hbm, 339, rfl⟩
abbrev main_v47 : Ref sig .tc := ⟨.hbm, 340, rfl⟩
abbrev main_v48 : Ref sig .tc := ⟨.hbm, 341, rfl⟩
abbrev main_v49 : Ref sig .tc := ⟨.hbm, 342, rfl⟩
abbrev main_v50 : Ref sig .tc := ⟨.hbm, 343, rfl⟩
abbrev main_cst_12 : Ref sig .tc := ⟨.hbm, 344, rfl⟩
abbrev main_v51 : Ref sig .tc := ⟨.hbm, 345, rfl⟩
abbrev main_v52 : Ref sig .tc := ⟨.hbm, 346, rfl⟩
abbrev main_v53 : Ref sig .tc := ⟨.hbm, 347, rfl⟩
abbrev main_c_13 : Ref sig .tc := ⟨.hbm, 348, rfl⟩
abbrev main_c_14 : Ref sig .tc := ⟨.hbm, 349, rfl⟩
abbrev main_v54 : Ref sig .tc := ⟨.hbm, 350, rfl⟩
abbrev main_v55 : Ref sig .tc := ⟨.hbm, 351, rfl⟩
abbrev main_v56 : Ref sig .tc := ⟨.hbm, 352, rfl⟩
abbrev main_c_15 : Ref sig .tc := ⟨.hbm, 353, rfl⟩
abbrev main_v57 : Ref sig .tc := ⟨.hbm, 354, rfl⟩
abbrev main_v58 : Ref sig .tc := ⟨.hbm, 355, rfl⟩
abbrev main_v59 : Ref sig .tc := ⟨.hbm, 356, rfl⟩
abbrev main_v60 : Ref sig .tc := ⟨.hbm, 357, rfl⟩
abbrev main_call1_cst : Ref sig .tc := ⟨.hbm, 358, rfl⟩
abbrev main_call1_cst_0 : Ref sig .tc := ⟨.hbm, 359, rfl⟩
abbrev main_call1_call0_v0 : Ref sig .tc := ⟨.hbm, 360, rfl⟩
abbrev main_call1_call0_v1 : Ref sig .tc := ⟨.hbm, 361, rfl⟩
abbrev main_call1_call0_v2 : Ref sig .tc := ⟨.hbm, 362, rfl⟩
abbrev main_call1_call0_v3 : Ref sig .tc := ⟨.hbm, 363, rfl⟩
abbrev main_call1_call0_v4 : Ref sig .tc := ⟨.hbm, 364, rfl⟩
abbrev main_call1_call0_v5 : Ref sig .tc := ⟨.hbm, 365, rfl⟩
abbrev main_call1_call0_v6 : Ref sig .tc := ⟨.hbm, 366, rfl⟩
abbrev main_call1_call0_v7 : Ref sig .tc := ⟨.hbm, 367, rfl⟩
abbrev main_call1_call0_v8 : Ref sig .tc := ⟨.hbm, 368, rfl⟩
abbrev main_call1_call0_v9 : Ref sig .tc := ⟨.hbm, 369, rfl⟩
abbrev main_call1_call0_c : Ref sig .tc := ⟨.hbm, 370, rfl⟩
abbrev main_call1_call0_v10 : Ref sig .tc := ⟨.hbm, 371, rfl⟩
abbrev main_call1_call0_v11 : Ref sig .tc := ⟨.hbm, 372, rfl⟩
abbrev main_call1_call0_c_0 : Ref sig .tc := ⟨.hbm, 373, rfl⟩
abbrev main_call1_call0_v12 : Ref sig .tc := ⟨.hbm, 374, rfl⟩
abbrev main_call1_call0_v13 : Ref sig .tc := ⟨.hbm, 375, rfl⟩
abbrev main_call1_call0_c_1 : Ref sig .tc := ⟨.hbm, 376, rfl⟩
abbrev main_call1_call0_v14 : Ref sig .tc := ⟨.hbm, 377, rfl⟩
abbrev main_call1_call0_v15 : Ref sig .tc := ⟨.hbm, 378, rfl⟩
abbrev main_call1_call0_v16 : Ref sig .tc := ⟨.hbm, 379, rfl⟩
abbrev main_call1_call0_v17 : Ref sig .tc := ⟨.hbm, 380, rfl⟩
abbrev main_call1_call0_c_2 : Ref sig .tc := ⟨.hbm, 381, rfl⟩
abbrev main_call1_call0_v18 : Ref sig .tc := ⟨.hbm, 382, rfl⟩
abbrev main_call1_call0_v19 : Ref sig .tc := ⟨.hbm, 383, rfl⟩
abbrev main_call1_call0_v20 : Ref sig .tc := ⟨.hbm, 384, rfl⟩
abbrev main_call1_call0_v21 : Ref sig .tc := ⟨.hbm, 385, rfl⟩
abbrev main_call1_call0_call0_v0 : Ref sig .tc := ⟨.hbm, 386, rfl⟩
abbrev main_call1_call0_call0_c : Ref sig .tc := ⟨.hbm, 387, rfl⟩
abbrev main_call1_call0_call0_v1 : Ref sig .tc := ⟨.hbm, 388, rfl⟩
abbrev main_call1_call0_call0_v2 : Ref sig .tc := ⟨.hbm, 389, rfl⟩
abbrev main_call1_call0_call0_v3 : Ref sig .tc := ⟨.hbm, 390, rfl⟩
abbrev main_call1_call0_call0_v4 : Ref sig .tc := ⟨.hbm, 391, rfl⟩
abbrev main_call1_call0_call0_v5 : Ref sig .tc := ⟨.hbm, 392, rfl⟩
abbrev main_call1_call0_call0_v6 : Ref sig .tc := ⟨.hbm, 393, rfl⟩
abbrev main_call1_call0_call0_c_0 : Ref sig .tc := ⟨.hbm, 394, rfl⟩
abbrev main_call1_call0_call0_v7 : Ref sig .tc := ⟨.hbm, 395, rfl⟩
abbrev main_call1_call0_call0_v8 : Ref sig .tc := ⟨.hbm, 396, rfl⟩
abbrev main_call1_call0_call0_c_1 : Ref sig .tc := ⟨.hbm, 397, rfl⟩
abbrev main_call1_call0_call0_v9 : Ref sig .tc := ⟨.hbm, 398, rfl⟩
abbrev main_call1_call0_call0_v10 : Ref sig .tc := ⟨.hbm, 399, rfl⟩
abbrev main_call1_call0_call0_v11 : Ref sig .tc := ⟨.hbm, 400, rfl⟩
abbrev main_call1_call0_call0_v12 : Ref sig .tc := ⟨.hbm, 401, rfl⟩
abbrev main_call1_call0_call0_v13 : Ref sig .tc := ⟨.hbm, 402, rfl⟩
abbrev main_call1_call0_call0_c_2 : Ref sig .tc := ⟨.hbm, 403, rfl⟩
abbrev main_call1_call0_call0_v14 : Ref sig .tc := ⟨.hbm, 404, rfl⟩
abbrev main_call1_call0_call0_v15 : Ref sig .tc := ⟨.hbm, 405, rfl⟩
abbrev main_call1_call0_call0_c_3 : Ref sig .tc := ⟨.hbm, 406, rfl⟩
abbrev main_call1_call0_call0_v16 : Ref sig .tc := ⟨.hbm, 407, rfl⟩
abbrev main_call1_call0_call0_v17 : Ref sig .tc := ⟨.hbm, 408, rfl⟩
abbrev main_call1_call0_call0_v18 : Ref sig .tc := ⟨.hbm, 409, rfl⟩
abbrev main_call1_call0_call0_v19 : Ref sig .tc := ⟨.hbm, 410, rfl⟩
abbrev main_call1_call0_call0_v20 : Ref sig .tc := ⟨.hbm, 411, rfl⟩
abbrev main_call1_call0_call0_c_4 : Ref sig .tc := ⟨.hbm, 412, rfl⟩
abbrev main_call1_call0_call0_v21 : Ref sig .tc := ⟨.hbm, 413, rfl⟩
abbrev main_call1_call0_call0_v22 : Ref sig .tc := ⟨.hbm, 414, rfl⟩
abbrev main_call1_call0_call0_c_5 : Ref sig .tc := ⟨.hbm, 415, rfl⟩
abbrev main_call1_call0_call0_v23 : Ref sig .tc := ⟨.hbm, 416, rfl⟩
abbrev main_call1_call0_call0_v24 : Ref sig .tc := ⟨.hbm, 417, rfl⟩
abbrev main_call1_call0_call0_v25 : Ref sig .tc := ⟨.hbm, 418, rfl⟩
abbrev main_call1_call0_call0_v26 : Ref sig .tc := ⟨.hbm, 419, rfl⟩
abbrev main_call1_call0_call0_v27 : Ref sig .tc := ⟨.hbm, 420, rfl⟩
abbrev main_call1_call0_call0_c_6 : Ref sig .tc := ⟨.hbm, 421, rfl⟩
abbrev main_call1_call0_call0_v28 : Ref sig .tc := ⟨.hbm, 422, rfl⟩
abbrev main_call1_call0_call0_v29 : Ref sig .tc := ⟨.hbm, 423, rfl⟩
abbrev main_call1_call0_call0_c_7 : Ref sig .tc := ⟨.hbm, 424, rfl⟩
abbrev main_call1_call0_call0_v30 : Ref sig .tc := ⟨.hbm, 425, rfl⟩
abbrev main_call1_call0_call0_v31 : Ref sig .tc := ⟨.hbm, 426, rfl⟩
abbrev main_call1_call0_call0_v32 : Ref sig .tc := ⟨.hbm, 427, rfl⟩
abbrev main_call1_call0_call0_v33 : Ref sig .tc := ⟨.hbm, 428, rfl⟩
abbrev main_call1_call0_call0_v34 : Ref sig .tc := ⟨.hbm, 429, rfl⟩
abbrev main_call1_call0_call0_v35 : Ref sig .tc := ⟨.hbm, 430, rfl⟩
abbrev main_call1_call0_call0_v36 : Ref sig .tc := ⟨.hbm, 431, rfl⟩
abbrev main_call1_call0_call0_v37 : Ref sig .tc := ⟨.hbm, 432, rfl⟩
abbrev main_call1_call0_call0_c_8 : Ref sig .tc := ⟨.hbm, 433, rfl⟩
abbrev main_call1_call0_call0_v38 : Ref sig .tc := ⟨.hbm, 434, rfl⟩
abbrev main_call1_call0_call0_v39 : Ref sig .tc := ⟨.hbm, 435, rfl⟩
abbrev main_call1_call0_call0_v40 : Ref sig .tc := ⟨.hbm, 436, rfl⟩
abbrev main_call1_call0_call0_c_9 : Ref sig .tc := ⟨.hbm, 437, rfl⟩
abbrev main_call1_call0_call0_v41 : Ref sig .tc := ⟨.hbm, 438, rfl⟩
abbrev main_call1_call0_call0_v42 : Ref sig .tc := ⟨.hbm, 439, rfl⟩
abbrev main_call1_call0_call0_c_10 : Ref sig .tc := ⟨.hbm, 440, rfl⟩
abbrev main_call1_call0_call0_v43 : Ref sig .tc := ⟨.hbm, 441, rfl⟩
abbrev main_call1_call0_call0_v44 : Ref sig .tc := ⟨.hbm, 442, rfl⟩
abbrev main_call1_call0_call0_v45 : Ref sig .tc := ⟨.hbm, 443, rfl⟩
abbrev main_call1_call0_call0_v46 : Ref sig .tc := ⟨.hbm, 444, rfl⟩
abbrev main_call1_call0_call0_v47 : Ref sig .tc := ⟨.hbm, 445, rfl⟩
abbrev main_call1_call0_call0_c_11 : Ref sig .tc := ⟨.hbm, 446, rfl⟩
abbrev main_call1_call0_call0_v48 : Ref sig .tc := ⟨.hbm, 447, rfl⟩
abbrev main_call1_call0_call0_v49 : Ref sig .tc := ⟨.hbm, 448, rfl⟩
abbrev main_call1_call0_call0_c_12 : Ref sig .tc := ⟨.hbm, 449, rfl⟩
abbrev main_call1_call0_call0_v50 : Ref sig .tc := ⟨.hbm, 450, rfl⟩
abbrev main_call1_call0_call0_v51 : Ref sig .tc := ⟨.hbm, 451, rfl⟩
abbrev main_call1_call0_call0_v52 : Ref sig .tc := ⟨.hbm, 452, rfl⟩
abbrev main_call1_call0_call0_v53 : Ref sig .tc := ⟨.hbm, 453, rfl⟩
abbrev main_call1_call0_call0_v54 : Ref sig .tc := ⟨.hbm, 454, rfl⟩
abbrev main_call1_call0_call0_c_13 : Ref sig .tc := ⟨.hbm, 455, rfl⟩
abbrev main_call1_call0_call0_v55 : Ref sig .tc := ⟨.hbm, 456, rfl⟩
abbrev main_call1_call0_call0_v56 : Ref sig .tc := ⟨.hbm, 457, rfl⟩
abbrev main_call1_call0_call0_c_14 : Ref sig .tc := ⟨.hbm, 458, rfl⟩
abbrev main_call1_call0_call0_v57 : Ref sig .tc := ⟨.hbm, 459, rfl⟩
abbrev main_call1_call0_call0_v58 : Ref sig .tc := ⟨.hbm, 460, rfl⟩
abbrev main_call1_call0_call0_v59 : Ref sig .tc := ⟨.hbm, 461, rfl⟩
abbrev main_call1_call0_call0_v60 : Ref sig .tc := ⟨.hbm, 462, rfl⟩
abbrev main_call1_call0_call0_v61 : Ref sig .tc := ⟨.hbm, 463, rfl⟩
abbrev main_call1_call0_call0_c_15 : Ref sig .tc := ⟨.hbm, 464, rfl⟩
abbrev main_call1_call0_call0_v62 : Ref sig .tc := ⟨.hbm, 465, rfl⟩
abbrev main_call1_call0_call0_v63 : Ref sig .tc := ⟨.hbm, 466, rfl⟩
abbrev main_call1_call0_call0_c_16 : Ref sig .tc := ⟨.hbm, 467, rfl⟩
abbrev main_call1_call0_call0_v64 : Ref sig .tc := ⟨.hbm, 468, rfl⟩
abbrev main_call1_call0_call0_v65 : Ref sig .tc := ⟨.hbm, 469, rfl⟩
abbrev main_call1_call0_call0_v66 : Ref sig .tc := ⟨.hbm, 470, rfl⟩
abbrev main_call1_call0_call0_v67 : Ref sig .tc := ⟨.hbm, 471, rfl⟩
abbrev main_call1_call0_call0_v68 : Ref sig .tc := ⟨.hbm, 472, rfl⟩
abbrev main_call1_call0_call0_v69 : Ref sig .tc := ⟨.hbm, 473, rfl⟩
abbrev main_call1_call0_call0_v70 : Ref sig .tc := ⟨.hbm, 474, rfl⟩
abbrev main_call1_call0_call0_v71 : Ref sig .tc := ⟨.hbm, 475, rfl⟩
abbrev main_call1_call0_call0_c_17 : Ref sig .tc := ⟨.hbm, 476, rfl⟩
abbrev main_call1_call0_call0_v72 : Ref sig .tc := ⟨.hbm, 477, rfl⟩
abbrev main_call1_call0_call0_v73 : Ref sig .tc := ⟨.hbm, 478, rfl⟩
abbrev main_call1_call0_call0_v74 : Ref sig .tc := ⟨.hbm, 479, rfl⟩
abbrev main_call1_call0_call0_c_18 : Ref sig .tc := ⟨.hbm, 480, rfl⟩
abbrev main_call1_call0_call0_v75 : Ref sig .tc := ⟨.hbm, 481, rfl⟩
abbrev main_call1_call0_call0_v76 : Ref sig .tc := ⟨.hbm, 482, rfl⟩
abbrev main_call1_call0_call0_c_19 : Ref sig .tc := ⟨.hbm, 483, rfl⟩
abbrev main_call1_call0_call0_v77 : Ref sig .tc := ⟨.hbm, 484, rfl⟩
abbrev main_call1_call0_call0_v78 : Ref sig .tc := ⟨.hbm, 485, rfl⟩
abbrev main_call1_call0_call0_v79 : Ref sig .tc := ⟨.hbm, 486, rfl⟩
abbrev main_call1_call0_call0_v80 : Ref sig .tc := ⟨.hbm, 487, rfl⟩
abbrev main_call1_call0_call0_v81 : Ref sig .tc := ⟨.hbm, 488, rfl⟩
abbrev main_call1_call0_call0_c_20 : Ref sig .tc := ⟨.hbm, 489, rfl⟩
abbrev main_call1_call0_call0_v82 : Ref sig .tc := ⟨.hbm, 490, rfl⟩
abbrev main_call1_call0_call0_v83 : Ref sig .tc := ⟨.hbm, 491, rfl⟩
abbrev main_call1_call0_call0_c_21 : Ref sig .tc := ⟨.hbm, 492, rfl⟩
abbrev main_call1_call0_call0_v84 : Ref sig .tc := ⟨.hbm, 493, rfl⟩
abbrev main_call1_call0_call0_v85 : Ref sig .tc := ⟨.hbm, 494, rfl⟩
abbrev main_call1_call0_call0_v86 : Ref sig .tc := ⟨.hbm, 495, rfl⟩
abbrev main_call1_call0_call0_v87 : Ref sig .tc := ⟨.hbm, 496, rfl⟩
abbrev main_call1_call0_call0_v88 : Ref sig .tc := ⟨.hbm, 497, rfl⟩
abbrev main_call1_call0_call0_c_22 : Ref sig .tc := ⟨.hbm, 498, rfl⟩
abbrev main_call1_call0_call0_v89 : Ref sig .tc := ⟨.hbm, 499, rfl⟩
abbrev main_call1_call0_call0_v90 : Ref sig .tc := ⟨.hbm, 500, rfl⟩
abbrev main_call1_call0_call0_c_23 : Ref sig .tc := ⟨.hbm, 501, rfl⟩
abbrev main_call1_call0_call0_v91 : Ref sig .tc := ⟨.hbm, 502, rfl⟩
abbrev main_call1_call0_call0_v92 : Ref sig .tc := ⟨.hbm, 503, rfl⟩
abbrev main_call1_call0_call0_v93 : Ref sig .tc := ⟨.hbm, 504, rfl⟩
abbrev main_call1_call0_call0_v94 : Ref sig .tc := ⟨.hbm, 505, rfl⟩
abbrev main_call1_call0_call0_v95 : Ref sig .tc := ⟨.hbm, 506, rfl⟩
abbrev main_call1_call0_call0_c_24 : Ref sig .tc := ⟨.hbm, 507, rfl⟩
abbrev main_call1_call0_call0_v96 : Ref sig .tc := ⟨.hbm, 508, rfl⟩
abbrev main_call1_call0_call0_v97 : Ref sig .tc := ⟨.hbm, 509, rfl⟩
abbrev main_call1_call0_call0_c_25 : Ref sig .tc := ⟨.hbm, 510, rfl⟩
abbrev main_call1_call0_call0_v98 : Ref sig .tc := ⟨.hbm, 511, rfl⟩
abbrev main_call1_call0_call0_v99 : Ref sig .tc := ⟨.hbm, 512, rfl⟩
abbrev main_call1_call0_call0_v100 : Ref sig .tc := ⟨.hbm, 513, rfl⟩
abbrev main_call1_call0_call0_v101 : Ref sig .tc := ⟨.hbm, 514, rfl⟩
abbrev main_call1_call0_call0_v102 : Ref sig .tc := ⟨.hbm, 515, rfl⟩
abbrev main_call1_call0_call0_v103 : Ref sig .tc := ⟨.hbm, 516, rfl⟩
abbrev main_call1_call0_call0_v104 : Ref sig .tc := ⟨.hbm, 517, rfl⟩
abbrev main_call1_call0_call0_v105 : Ref sig .tc := ⟨.hbm, 518, rfl⟩
abbrev main_call1_call0_call0_c_26 : Ref sig .tc := ⟨.hbm, 519, rfl⟩
abbrev main_call1_call0_call0_v106 : Ref sig .tc := ⟨.hbm, 520, rfl⟩
abbrev main_call1_call0_call0_v107 : Ref sig .tc := ⟨.hbm, 521, rfl⟩
abbrev main_call1_call0_call0_v108 : Ref sig .tc := ⟨.hbm, 522, rfl⟩
abbrev main_call1_call0_call0_c_27 : Ref sig .tc := ⟨.hbm, 523, rfl⟩
abbrev main_call1_call0_call0_v109 : Ref sig .tc := ⟨.hbm, 524, rfl⟩
abbrev main_call1_call0_call0_v110 : Ref sig .tc := ⟨.hbm, 525, rfl⟩
abbrev main_call1_call0_call0_c_28 : Ref sig .tc := ⟨.hbm, 526, rfl⟩
abbrev main_call1_call0_call0_v111 : Ref sig .tc := ⟨.hbm, 527, rfl⟩
abbrev main_call1_call0_call0_v112 : Ref sig .tc := ⟨.hbm, 528, rfl⟩
abbrev main_call1_call0_call0_v113 : Ref sig .tc := ⟨.hbm, 529, rfl⟩
abbrev main_call1_call0_call0_v114 : Ref sig .tc := ⟨.hbm, 530, rfl⟩
abbrev main_call1_call0_call0_v115 : Ref sig .tc := ⟨.hbm, 531, rfl⟩
abbrev main_call1_call0_call0_c_29 : Ref sig .tc := ⟨.hbm, 532, rfl⟩
abbrev main_call1_call0_call0_v116 : Ref sig .tc := ⟨.hbm, 533, rfl⟩
abbrev main_call1_call0_call0_v117 : Ref sig .tc := ⟨.hbm, 534, rfl⟩
abbrev main_call1_call0_call0_c_30 : Ref sig .tc := ⟨.hbm, 535, rfl⟩
abbrev main_call1_call0_call0_v118 : Ref sig .tc := ⟨.hbm, 536, rfl⟩
abbrev main_call1_call0_call0_v119 : Ref sig .tc := ⟨.hbm, 537, rfl⟩
abbrev main_call1_call0_call0_v120 : Ref sig .tc := ⟨.hbm, 538, rfl⟩
abbrev main_call1_call0_call0_v121 : Ref sig .tc := ⟨.hbm, 539, rfl⟩
abbrev main_call1_call0_call0_v122 : Ref sig .tc := ⟨.hbm, 540, rfl⟩
abbrev main_call1_call0_call0_c_31 : Ref sig .tc := ⟨.hbm, 541, rfl⟩
abbrev main_call1_call0_call0_v123 : Ref sig .tc := ⟨.hbm, 542, rfl⟩
abbrev main_call1_call0_call0_v124 : Ref sig .tc := ⟨.hbm, 543, rfl⟩
abbrev main_call1_call0_call0_c_32 : Ref sig .tc := ⟨.hbm, 544, rfl⟩
abbrev main_call1_call0_call0_v125 : Ref sig .tc := ⟨.hbm, 545, rfl⟩
abbrev main_call1_call0_call0_v126 : Ref sig .tc := ⟨.hbm, 546, rfl⟩
abbrev main_call1_call0_call0_v127 : Ref sig .tc := ⟨.hbm, 547, rfl⟩
abbrev main_call1_call0_call0_v128 : Ref sig .tc := ⟨.hbm, 548, rfl⟩
abbrev main_call1_call0_call0_v129 : Ref sig .tc := ⟨.hbm, 549, rfl⟩
abbrev main_call1_call0_call0_c_33 : Ref sig .tc := ⟨.hbm, 550, rfl⟩
abbrev main_call1_call0_call0_v130 : Ref sig .tc := ⟨.hbm, 551, rfl⟩
abbrev main_call1_call0_call0_v131 : Ref sig .tc := ⟨.hbm, 552, rfl⟩
abbrev main_call1_call0_call0_c_34 : Ref sig .tc := ⟨.hbm, 553, rfl⟩
abbrev main_call1_call0_call0_v132 : Ref sig .tc := ⟨.hbm, 554, rfl⟩
abbrev main_call1_call0_call0_v133 : Ref sig .tc := ⟨.hbm, 555, rfl⟩
abbrev main_call1_call0_call0_v134 : Ref sig .tc := ⟨.hbm, 556, rfl⟩
abbrev main_call1_call0_call0_v135 : Ref sig .tc := ⟨.hbm, 557, rfl⟩
abbrev main_call1_call0_call0_v136 : Ref sig .tc := ⟨.hbm, 558, rfl⟩
abbrev main_call1_call0_call0_v137 : Ref sig .tc := ⟨.hbm, 559, rfl⟩
abbrev main_call1_call0_call0_v138 : Ref sig .tc := ⟨.hbm, 560, rfl⟩
abbrev main_call1_call0_call0_v139 : Ref sig .tc := ⟨.hbm, 561, rfl⟩
abbrev main_call1_call0_call0_c_35 : Ref sig .tc := ⟨.hbm, 562, rfl⟩
abbrev main_call1_call0_call0_v140 : Ref sig .tc := ⟨.hbm, 563, rfl⟩
abbrev main_call1_call0_call0_v141 : Ref sig .tc := ⟨.hbm, 564, rfl⟩
abbrev main_call1_call0_call0_v142 : Ref sig .tc := ⟨.hbm, 565, rfl⟩
abbrev main_call1_call0_call0_c_36 : Ref sig .tc := ⟨.hbm, 566, rfl⟩
abbrev main_call1_call0_call0_v143 : Ref sig .tc := ⟨.hbm, 567, rfl⟩
abbrev main_call1_call0_call0_v144 : Ref sig .tc := ⟨.hbm, 568, rfl⟩
abbrev main_call1_call0_call0_c_37 : Ref sig .tc := ⟨.hbm, 569, rfl⟩
abbrev main_call1_call0_call0_v145 : Ref sig .tc := ⟨.hbm, 570, rfl⟩
abbrev main_call1_call0_call0_v146 : Ref sig .tc := ⟨.hbm, 571, rfl⟩
abbrev main_call1_call0_call0_v147 : Ref sig .tc := ⟨.hbm, 572, rfl⟩
abbrev main_call1_call0_call0_v148 : Ref sig .tc := ⟨.hbm, 573, rfl⟩
abbrev main_call1_call0_call0_v149 : Ref sig .tc := ⟨.hbm, 574, rfl⟩
abbrev main_call1_call0_call0_c_38 : Ref sig .tc := ⟨.hbm, 575, rfl⟩
abbrev main_call1_call0_call0_v150 : Ref sig .tc := ⟨.hbm, 576, rfl⟩
abbrev main_call1_call0_call0_v151 : Ref sig .tc := ⟨.hbm, 577, rfl⟩
abbrev main_call1_call0_call0_c_39 : Ref sig .tc := ⟨.hbm, 578, rfl⟩
abbrev main_call1_call0_call0_v152 : Ref sig .tc := ⟨.hbm, 579, rfl⟩
abbrev main_call1_call0_call0_v153 : Ref sig .tc := ⟨.hbm, 580, rfl⟩
abbrev main_call1_call0_call0_v154 : Ref sig .tc := ⟨.hbm, 581, rfl⟩
abbrev main_call1_call0_call0_v155 : Ref sig .tc := ⟨.hbm, 582, rfl⟩
abbrev main_call1_call0_call0_v156 : Ref sig .tc := ⟨.hbm, 583, rfl⟩
abbrev main_call1_call0_call0_c_40 : Ref sig .tc := ⟨.hbm, 584, rfl⟩
abbrev main_call1_call0_call0_v157 : Ref sig .tc := ⟨.hbm, 585, rfl⟩
abbrev main_call1_call0_call0_v158 : Ref sig .tc := ⟨.hbm, 586, rfl⟩
abbrev main_call1_call0_call0_c_41 : Ref sig .tc := ⟨.hbm, 587, rfl⟩
abbrev main_call1_call0_call0_v159 : Ref sig .tc := ⟨.hbm, 588, rfl⟩
abbrev main_call1_call0_call0_v160 : Ref sig .tc := ⟨.hbm, 589, rfl⟩
abbrev main_call1_call0_call0_v161 : Ref sig .tc := ⟨.hbm, 590, rfl⟩
abbrev main_call1_call0_call0_v162 : Ref sig .tc := ⟨.hbm, 591, rfl⟩
abbrev main_call1_call0_call0_v163 : Ref sig .tc := ⟨.hbm, 592, rfl⟩
abbrev main_call1_call0_call0_c_42 : Ref sig .tc := ⟨.hbm, 593, rfl⟩
abbrev main_call1_call0_call0_v164 : Ref sig .tc := ⟨.hbm, 594, rfl⟩
abbrev main_call1_call0_call0_v165 : Ref sig .tc := ⟨.hbm, 595, rfl⟩
abbrev main_call1_call0_call0_c_43 : Ref sig .tc := ⟨.hbm, 596, rfl⟩
abbrev main_call1_call0_call0_v166 : Ref sig .tc := ⟨.hbm, 597, rfl⟩
abbrev main_call1_call0_call0_v167 : Ref sig .tc := ⟨.hbm, 598, rfl⟩
abbrev main_call1_call0_call0_v168 : Ref sig .tc := ⟨.hbm, 599, rfl⟩
abbrev main_call1_call0_call0_v169 : Ref sig .tc := ⟨.hbm, 600, rfl⟩
abbrev main_call1_call0_call0_v170 : Ref sig .tc := ⟨.hbm, 601, rfl⟩
abbrev main_call1_call0_v22_0 : Ref sig .tc := ⟨.hbm, 602, rfl⟩
abbrev main_call1_call0_call0_v172 : Ref sig .tc := ⟨.hbm, 603, rfl⟩
abbrev main_call1_call0_call0_v173 : Ref sig .tc := ⟨.hbm, 604, rfl⟩
abbrev main_call1_call0_call0_c_44 : Ref sig .tc := ⟨.hbm, 605, rfl⟩
abbrev main_call1_call0_call0_v174 : Ref sig .tc := ⟨.hbm, 606, rfl⟩
abbrev main_call1_call0_v22_1 : Ref sig .tc := ⟨.hbm, 607, rfl⟩
abbrev main_call1_call0_v23 : Ref sig .tc := ⟨.hbm, 608, rfl⟩
abbrev main_call1_call0_c_3 : Ref sig .tc := ⟨.hbm, 609, rfl⟩
abbrev main_call1_call0_v24 : Ref sig .tc := ⟨.hbm, 610, rfl⟩
abbrev main_call1_call0_v25 : Ref sig .tc := ⟨.hbm, 611, rfl⟩
abbrev main_call1_call0_c_4 : Ref sig .tc := ⟨.hbm, 612, rfl⟩
abbrev main_call1_call0_v26 : Ref sig .tc := ⟨.hbm, 613, rfl⟩
abbrev main_call1_call0_v27 : Ref sig .tc := ⟨.hbm, 614, rfl⟩
abbrev main_call1_call0_v28 : Ref sig .tc := ⟨.hbm, 615, rfl⟩
abbrev main_call1_call0_cst : Ref sig .tc := ⟨.hbm, 616, rfl⟩
abbrev main_call1_call0_v29 : Ref sig .tc := ⟨.hbm, 617, rfl⟩
abbrev main_call1_call0_v30 : Ref sig .tc := ⟨.hbm, 618, rfl⟩
abbrev main_call1_call0_v31 : Ref sig .tc := ⟨.hbm, 619, rfl⟩
abbrev main_call1_call0_v32 : Ref sig .tc := ⟨.hbm, 620, rfl⟩
abbrev main_call1_call0_v33 : Ref sig .tc := ⟨.hbm, 621, rfl⟩
abbrev main_call1_call0_v34 : Ref sig .tc := ⟨.hbm, 622, rfl⟩
abbrev main_call1_call0_v35 : Ref sig .tc := ⟨.hbm, 623, rfl⟩
abbrev main_call1_call0_v36 : Ref sig .tc := ⟨.hbm, 624, rfl⟩
abbrev main_call1_v0 : Ref sig .tc := ⟨.hbm, 625, rfl⟩
abbrev main_call1_v1 : Ref sig .tc := ⟨.hbm, 626, rfl⟩
abbrev main_call1_v2 : Ref sig .tc := ⟨.hbm, 627, rfl⟩
abbrev main_call1_v3 : Ref sig .tc := ⟨.hbm, 628, rfl⟩
abbrev main_v61 : Ref sig .tc := ⟨.hbm, 629, rfl⟩
abbrev main_v62 : Ref sig .tc := ⟨.hbm, 630, rfl⟩
abbrev main_v63 : Ref sig .tc := ⟨.hbm, 631, rfl⟩
abbrev main_v64 : Ref sig .tc := ⟨.hbm, 632, rfl⟩
abbrev main_call2_v0 : Ref sig .tc := ⟨.hbm, 633, rfl⟩
abbrev main_call2_cst : Ref sig .tc := ⟨.hbm, 634, rfl⟩
abbrev main_call2_c : Ref sig .tc := ⟨.hbm, 635, rfl⟩
abbrev main_call2_v1_0 : Ref sig .tc := ⟨.hbm, 636, rfl⟩
abbrev main_v65 : Ref sig .tc := ⟨.hbm, 637, rfl⟩
abbrev main_v66 : Ref sig .tc := ⟨.hbm, 638, rfl⟩
abbrev main_c_16 : Ref sig .tc := ⟨.hbm, 639, rfl⟩
abbrev main_call3_v0 : Ref sig .tc := ⟨.hbm, 640, rfl⟩
abbrev main_call3_v1 : Ref sig .tc := ⟨.hbm, 641, rfl⟩
abbrev main_call3_v2 : Ref sig .tc := ⟨.hbm, 642, rfl⟩
abbrev main_call3_v3 : Ref sig .tc := ⟨.hbm, 643, rfl⟩
abbrev main_call3_v4 : Ref sig .tc := ⟨.hbm, 644, rfl⟩
abbrev main_call3_v5 : Ref sig .tc := ⟨.hbm, 645, rfl⟩
abbrev main_call3_v6 : Ref sig .tc := ⟨.hbm, 646, rfl⟩
abbrev main_call3_v7 : Ref sig .tc := ⟨.hbm, 647, rfl⟩
abbrev main_call3_v8 : Ref sig .tc := ⟨.hbm, 648, rfl⟩
abbrev main_call3_c : Ref sig .tc := ⟨.hbm, 649, rfl⟩
abbrev main_call3_v9 : Ref sig .tc := ⟨.hbm, 650, rfl⟩
abbrev main_call3_v10 : Ref sig .tc := ⟨.hbm, 651, rfl⟩
abbrev main_call3_v11 : Ref sig .tc := ⟨.hbm, 652, rfl⟩
abbrev main_call3_c_0 : Ref sig .tc := ⟨.hbm, 653, rfl⟩
abbrev main_call3_v12 : Ref sig .tc := ⟨.hbm, 654, rfl⟩
abbrev main_call3_v13 : Ref sig .tc := ⟨.hbm, 655, rfl⟩
abbrev main_v67 : Ref sig .tc := ⟨.hbm, 656, rfl⟩
abbrev main_v68 : Ref sig .tc := ⟨.hbm, 657, rfl⟩
abbrev main_cst_17 : Ref sig .tc := ⟨.hbm, 658, rfl⟩
abbrev main_v69 : Ref sig .tc := ⟨.hbm, 659, rfl⟩
abbrev main_v70 : Ref sig .tc := ⟨.hbm, 660, rfl⟩
abbrev main_cst_18 : Ref sig .tc := ⟨.hbm, 661, rfl⟩
abbrev main_v71 : Ref sig .tc := ⟨.hbm, 662, rfl⟩
abbrev main_v72 : Ref sig .tc := ⟨.hbm, 663, rfl⟩
abbrev main_c_19 : Ref sig .tc := ⟨.hbm, 664, rfl⟩
abbrev main_call4_v0 : Ref sig .tc := ⟨.hbm, 665, rfl⟩
abbrev main_call4_c : Ref sig .tc := ⟨.hbm, 666, rfl⟩
abbrev main_call4_v1 : Ref sig .tc := ⟨.hbm, 667, rfl⟩
abbrev main_call4_c_0 : Ref sig .tc := ⟨.hbm, 668, rfl⟩
abbrev main_call4_v2 : Ref sig .tc := ⟨.hbm, 669, rfl⟩
abbrev main_call4_v3 : Ref sig .tc := ⟨.hbm, 670, rfl⟩
abbrev main_call4_v4 : Ref sig .tc := ⟨.hbm, 671, rfl⟩
abbrev main_call4_c_1 : Ref sig .tc := ⟨.hbm, 672, rfl⟩
abbrev main_call4_v5 : Ref sig .tc := ⟨.hbm, 673, rfl⟩
abbrev main_call4_v6 : Ref sig .tc := ⟨.hbm, 674, rfl⟩
abbrev main_call4_c_2 : Ref sig .tc := ⟨.hbm, 675, rfl⟩
abbrev main_call4_v7 : Ref sig .tc := ⟨.hbm, 676, rfl⟩
abbrev main_call4_v8 : Ref sig .tc := ⟨.hbm, 677, rfl⟩
abbrev main_call4_c_3 : Ref sig .tc := ⟨.hbm, 678, rfl⟩
abbrev main_call4_v9 : Ref sig .tc := ⟨.hbm, 679, rfl⟩
abbrev main_call4_v10 : Ref sig .tc := ⟨.hbm, 680, rfl⟩
abbrev main_call4_v11 : Ref sig .tc := ⟨.hbm, 681, rfl⟩
abbrev main_call4_v12 : Ref sig .tc := ⟨.hbm, 682, rfl⟩
abbrev main_call4_v13 : Ref sig .tc := ⟨.hbm, 683, rfl⟩
abbrev main_call4_v14 : Ref sig .tc := ⟨.hbm, 684, rfl⟩
abbrev main_v73 : Ref sig .tc := ⟨.hbm, 685, rfl⟩
abbrev main_v74 : Ref sig .tc := ⟨.hbm, 686, rfl⟩
abbrev main_cst_20 : Ref sig .tc := ⟨.hbm, 687, rfl⟩
abbrev main_v75 : Ref sig .tc := ⟨.hbm, 688, rfl⟩
abbrev main_v76 : Ref sig .tc := ⟨.hbm, 689, rfl⟩
abbrev main_cst_21 : Ref sig .tc := ⟨.hbm, 690, rfl⟩
abbrev main_v77 : Ref sig .tc := ⟨.hbm, 691, rfl⟩
abbrev main_v78 : Ref sig .tc := ⟨.hbm, 692, rfl⟩
abbrev main_v79 : Ref sig .tc := ⟨.hbm, 693, rfl⟩
abbrev main_v80 : Ref sig .tc := ⟨.hbm, 694, rfl⟩
abbrev main_v81 : Ref sig .tc := ⟨.hbm, 695, rfl⟩
abbrev main_v82 : Ref sig .tc := ⟨.hbm, 696, rfl⟩
abbrev main_v83 : Ref sig .tc := ⟨.hbm, 697, rfl⟩
abbrev main_v84 : Ref sig .tc := ⟨.hbm, 698, rfl⟩
abbrev main_v85 : Ref sig .tc := ⟨.hbm, 699, rfl⟩
abbrev main_v86 : Ref sig .tc := ⟨.hbm, 700, rfl⟩
abbrev main_v87 : Ref sig .tc := ⟨.hbm, 701, rfl⟩
abbrev main_v88 : Ref sig .tc := ⟨.hbm, 702, rfl⟩
abbrev main_v89 : Ref sig .tc := ⟨.hbm, 703, rfl⟩
abbrev main_v90 : Ref sig .tc := ⟨.hbm, 704, rfl⟩
abbrev main_v91 : Ref sig .tc := ⟨.hbm, 705, rfl⟩
abbrev main_v92 : Ref sig .tc := ⟨.hbm, 706, rfl⟩
abbrev main_cst_22 : Ref sig .tc := ⟨.hbm, 707, rfl⟩
abbrev main_v93 : Ref sig .tc := ⟨.hbm, 708, rfl⟩
abbrev main_v94 : Ref sig .tc := ⟨.hbm, 709, rfl⟩
abbrev main_v95 : Ref sig .tc := ⟨.hbm, 710, rfl⟩
abbrev main_v96 : Ref sig .tc := ⟨.hbm, 711, rfl⟩
abbrev main_v97 : Ref sig .tc := ⟨.hbm, 712, rfl⟩
abbrev main_v98 : Ref sig .tc := ⟨.hbm, 713, rfl⟩
abbrev main_v99 : Ref sig .tc := ⟨.hbm, 714, rfl⟩
abbrev main_v100 : Ref sig .tc := ⟨.hbm, 715, rfl⟩
abbrev main_v101 : Ref sig .tc := ⟨.hbm, 716, rfl⟩

abbrev nD : Nat := 1
abbrev τ : Topo := Topo.v7x

variable {F : FTy → Type} [FloatOps F]
-- ==== Proof.HostLine.lean ====
/-
  Straight lines of host operations, as data.

  `Line p` is the list of the operations that the program `p` runs, with the proof that `p` is that straight line, and with the
  two facts which the run of a straight line asks of every operation. Lines compose as the programs do, so that the line of a
  program that calls functions cut into parts is put together from the lines of the parts.

  `Shifted` compares two lines, of two programs, that compute the same thing at buffers numbered alike: the second program's
  buffer is the first one's moved by a fixed distance. Two such lines started at equal contents leave equal contents, and each
  leaves every buffer outside its range as it was. The random numbers of the kernel's host code and of the reference's are
  compared in this way: no operation of the generator is ever evaluated.
-/
module

public import Idealize.ShloMosaic.Lib.StableHlo.Run

@[expose] public section

noncomputable section

namespace Cert.Proof

open Idealize.ShloMosaic Idealize.ShloMosaic.StableHlo Idealize.SL.Sem

/-! ## The operations of a program -/

section Line

variable {nD : Nat} {τ : Topo} {sig : RefSig} {Val : EltTy → Type} {Λ : Labels}

/-- What the run of a straight line asks of an operation: it touches the TensorCore's buffers only, and it determines what it
    writes. -/
class HostOp (op : HloOp τ sig Val) : Prop where
  sub : op.bufs ⊆ tcRefs τ sig
  fresh : op.fresh = ∅

section Builders

variable (a b c y : Ref sig .tc)

instance (v : y.ty.Contents Val) (hy) : HostOp (τ := τ) (nullary y v hy) := ⟨nullary_bufs_sub .., rfl⟩
instance (f : a.ty.Contents Val → y.ty.Contents Val) (ha hy) : HostOp (τ := τ) (unary a y f ha hy) := ⟨unary_bufs_sub .., rfl⟩
instance (f : a.ty.Contents Val → b.ty.Contents Val → y.ty.Contents Val) (ha hb hy) :
    HostOp (τ := τ) (binary a b y f ha hb hy) := ⟨binary_bufs_sub .., rfl⟩
instance (f : c.ty.Contents Val → a.ty.Contents Val → b.ty.Contents Val → y.ty.Contents Val) (hc ha hb hy) :
    HostOp (τ := τ) (ternary c a b y f hc ha hb hy) := ⟨ternary_bufs_sub .., rfl⟩
instance (e : Ref sig .tc)
    (f : a.ty.Contents Val → b.ty.Contents Val → c.ty.Contents Val → e.ty.Contents Val → y.ty.Contents Val) (ha hb hc he hy) :
    HostOp (τ := τ) (quaternary a b c e y f ha hb hc he hy) :=
  ⟨by rw [quaternary_bufs]; intro x hx
      simp only [Finset.mem_insert, Finset.mem_singleton] at hx
      rcases hx with rfl | rfl | rfl | rfl | rfl <;> exact devRef_mem_tcRefs _, rfl⟩
instance (he hn ha hy) : HostOp (τ := τ) (reshape (Val := Val) a y he hn ha hy) := ⟨reshape_bufs_sub .., rfl⟩
instance {n : Nat} (xs : Fin n → Ref sig .tc) (f : ((k : Fin n) → (xs k).ty.Contents Val) → y.ty.Contents Val) (hxs hy) :
    HostOp (τ := τ) (nary xs y f hxs hy) := ⟨nary_bufs_sub .., rfl⟩

end Builders

/-- The operations of the straight-line program `p`, in order. -/
structure Line (p : Prog (TpuEff nD τ sig Val Λ .tc) PUnit) where
  /-- The operations. -/
  ops : List (HloOp τ sig Val)
  /-- The program runs them and returns. -/
  eq : p = seq ops
  /-- They touch the TensorCore's buffers only. -/
  sub : ops.Forall fun op => op.bufs ⊆ tcRefs τ sig
  /-- Each determines what it writes. -/
  fresh : ∀ op ∈ ops, op.fresh = ∅

/-- A program that returns at once runs no operation. -/
def Line.nil : Line (nD := nD) (τ := τ) (sig := sig) (Val := Val) (Λ := Λ) (pure ⟨⟩) :=
  ⟨[], rfl, trivial, fun _ h => nomatch h⟩

/-- One operation, then a line. -/
def Line.cons {op : HloOp τ sig Val} {k : Prog (TpuEff nD τ sig Val Λ .tc) PUnit} [h : HostOp op]
    (l : Line k) : Line ((hlo rfl op fun _ => .ret (⟨⟩ : PUnit)) >>= fun _ => k) where
  ops := op :: l.ops
  eq := by conv_lhs => rw [l.eq]
           rfl
  sub := (List.forall_cons _ _ _).mpr ⟨h.sub, l.sub⟩
  fresh := fun o ho => by
    rcases List.mem_cons.mp ho with rfl | ho
    · exact h.fresh
    · exact l.fresh o ho

/-- One operation alone. -/
def Line.one {op : HloOp τ sig Val} [h : HostOp op] :
    Line (nD := nD) (Λ := Λ) (hlo rfl op fun _ => .ret (⟨⟩ : PUnit)) where
  ops := [op]
  eq := rfl
  sub := h.sub
  fresh := fun o ho => by rw [List.mem_singleton.mp ho]; exact h.fresh

/-- One line after another. -/
def Line.append {p k : Prog (TpuEff nD τ sig Val Λ .tc) PUnit} (a : Line p) (b : Line k) : Line (p >>= fun _ => k) where
  ops := a.ops ++ b.ops
  eq := by rw [seq_append, ← a.eq, ← b.eq]
  sub := List.forall_iff_forall_mem.mpr fun o ho => (List.mem_append.mp ho).elim
    (List.forall_iff_forall_mem.mp a.sub o) (List.forall_iff_forall_mem.mp b.sub o)
  fresh := fun o ho => (List.mem_append.mp ho).elim (a.fresh o) (b.fresh o)

end Line

/-- A line after a line. -/
theorem after_app {τ : Topo} {sig : RefSig} {Val : EltTy → Type} (a b : List (HloOp τ sig Val)) (V : Valuation τ sig Val) :
    after (a ++ b) V = after b (after a V) := by
  induction a generalizing V with
  | nil => rfl
  | cons o a ih => exact ih _

/-! ## Two lines at buffers moved by a fixed distance -/

section Shift

variable {τ τ' : Topo} {sig sig' : RefSig} {Val : EltTy → Type}

/-- The contents that two valuations hold at the buffers numbered `lo` up to `n` of device memory agree, the second's buffer
    being numbered `s` higher. -/
def Agree (lo s n : Nat) (V : Valuation τ sig Val) (V' : Valuation τ' sig' Val) : Prop :=
  ∀ (T : BufTy) (a : TRef sig T) (b : TRef sig' T), a.ref.space = .hbm → b.ref.space = .hbm →
    lo ≤ a.ref.idx.val → a.ref.idx.val < n → b.ref.idx.val = a.ref.idx.val + s →
    a.ofBuf (V (Proc.devRef .tc a.ref)) = b.ofBuf (V' (Proc.devRef .tc b.ref))

/-- Every buffer but those numbered `n` up to `n'` of device memory holds the same in both valuations. -/
def Keeps (n n' : Nat) (V W : Valuation τ sig Val) : Prop :=
  ∀ r : Ref sig .tc, (r.space = .hbm → r.idx.val < n ∨ n' ≤ r.idx.val) → W (Proc.devRef .tc r) = V (Proc.devRef .tc r)

/-- Two lines that write the buffers `n` up to `n'`, moved by `s` for the second, and write the same there when what they
    read from `lo` on is the same. -/
def Shifted (lo s n n' : Nat) (L : List (HloOp τ sig Val)) (L' : List (HloOp τ' sig' Val)) : Prop :=
  n ≤ n' ∧ (∀ V, Keeps n n' V (after L V)) ∧ (∀ V', Keeps (n + s) (n' + s) V' (after L' V')) ∧
    ∀ V V', Agree lo s n V V' → Agree lo s n' (after L V) (after L' V')

/-- Nothing is agreed upon before the first buffer. -/
theorem Agree.start (lo s : Nat) (V : Valuation τ sig Val) (V' : Valuation τ' sig' Val) : Agree lo s lo V V' :=
  fun _ _ _ _ _ h h' => absurd h (Nat.not_le_of_lt h')

/-- Two references of one space at one index are one. -/
theorem ref_ext {r r' : Ref sig .tc} (hs : r.space = .hbm) (hs' : r'.space = .hbm) (hi : r.idx.val = r'.idx.val) : r = r' := by
  obtain ⟨sp, i, h⟩ := r; obtain ⟨sp', i', h'⟩ := r'
  cases hs; cases hs'
  obtain rfl : i = i' := Fin.ext hi
  rfl

/-- One buffer more: it holds the same in both, and the earlier ones are as they were. -/
theorem Agree.push {lo s n : Nat} {V W : Valuation τ sig Val} {V' W' : Valuation τ' sig' Val} (h : Agree lo s n V V')
    (hk : Keeps n (n + 1) V W) (hk' : Keeps (n + s) (n + 1 + s) V' W') {T : BufTy} (y : TRef sig T) (y' : TRef sig' T)
    (hy : y.ref.space = .hbm ∧ y.ref.idx.val = n) (hy' : y'.ref.space = .hbm ∧ y'.ref.idx.val = n + s)
    (he : y.ofBuf (W (Proc.devRef .tc y.ref)) = y'.ofBuf (W' (Proc.devRef .tc y'.ref))) :
    Agree lo s (n + 1) W W' := by
  intro U a b ha hb hlo hn hs
  rcases Nat.lt_succ_iff_lt_or_eq.mp hn with hlt | heq
  · rw [hk a.ref fun _ => .inl hlt, hk' b.ref fun _ => .inl (by omega)]
    exact h U a b ha hb hlo hlt hs
  · obtain ⟨ar, at', ad, au⟩ := a; obtain ⟨br, bt, bd, bu⟩ := b
    obtain ⟨yr, yt, yd, yu⟩ := y; obtain ⟨yr', yt', yd', yu'⟩ := y'
    dsimp only at *
    obtain rfl : ar = yr := ref_ext ha hy.1 (by omega)
    obtain rfl : br = yr' := ref_ext hb hy'.1 (by omega)
    subst at'
    subst yt
    exact he

theorem Shifted.nil (lo s n : Nat) : Shifted lo s n n ([] : List (HloOp τ sig Val)) ([] : List (HloOp τ' sig' Val)) :=
  ⟨le_rfl, fun _ _ _ => rfl, fun _ _ _ => rfl, fun _ _ h => h⟩

theorem Keeps.trans {n k n' : Nat} {V W X : Valuation τ sig Val} (hk : n ≤ k) (hk' : k ≤ n') (a : Keeps n k V W)
    (b : Keeps k n' W X) : Keeps n n' V X := fun r hr => by
  rw [b r fun h => (hr h).imp (fun h => h.trans_le hk) id, a r fun h => (hr h).imp id (fun h => hk'.trans h)]

/-- One operation of each, then two lines. -/
theorem Shifted.cons {lo s n n' : Nat} {o : HloOp τ sig Val} {o' : HloOp τ' sig' Val} {L : List (HloOp τ sig Val)}
    {L' : List (HloOp τ' sig' Val)} (y : Ref sig .tc) (y' : Ref sig' .tc) (T : BufTy) (ty : y.ty = T) (ty' : y'.ty = T)
    (hy : y.space = .hbm ∧ y.idx.val = n) (hy' : y'.space = .hbm ∧ y'.idx.val = n + s)
    (dy : y.space ≠ .host ∧ y.isScoped = false) (dy' : y'.space ≠ .host ∧ y'.isScoped = false)
    (hw : o.writes = {Proc.devRef .tc y}) (hw' : o'.writes = {Proc.devRef .tc y'})
    (hv : ∀ V V', Agree lo s n V V' →
      (⟨y, ty, dy.1, dy.2⟩ : TRef sig T).ofBuf (o.result V (Proc.devRef .tc y))
        = (⟨y', ty', dy'.1, dy'.2⟩ : TRef sig' T).ofBuf (o'.result V' (Proc.devRef .tc y')))
    (hl : Shifted lo s (n + 1) n' L L') : Shifted lo s n n' (o :: L) (o' :: L') := by
  have k : ∀ V, Keeps n (n + 1) V (o.result V) := fun V r hr => by
    refine o.result_of_not_mem V ?_
    rw [hw, Finset.mem_singleton]
    refine devRef_ne_of_ne fun e => ?_
    subst e
    have := hr hy.1; omega
  have k' : ∀ V', Keeps (n + s) (n + 1 + s) V' (o'.result V') := fun V' r hr => by
    refine o'.result_of_not_mem V' ?_
    rw [hw', Finset.mem_singleton]
    refine devRef_ne_of_ne fun e => ?_
    subst e
    have := hr hy'.1; omega
  obtain ⟨hn, l, l', ha⟩ := hl
  exact ⟨Nat.le_of_succ_le hn, fun V => (k V).trans (Nat.le_succ n) hn (l _),
    fun V' => (k' V').trans (by omega) (by omega) (l' _), fun V V' h => ha _ _
      (Agree.push h (k V) (k' V') ⟨y, ty, dy.1, dy.2⟩ ⟨y', ty', dy'.1, dy'.2⟩ hy hy' (hv V V' h))⟩

/-- What an operand's number must be: among those agreed upon, and moved by `s`. -/
def Reads (lo s n : Nat) (a : Ref sig .tc) (b : Ref sig' .tc) : Prop :=
  a.space = .hbm ∧ b.space = .hbm ∧ lo ≤ a.idx.val ∧ a.idx.val < n ∧ b.idx.val = a.idx.val + s

theorem Agree.read {lo s n : Nat} {V : Valuation τ sig Val} {V' : Valuation τ' sig' Val} (h : Agree lo s n V V') {T : BufTy}
    (a : TRef sig T) (b : TRef sig' T) (hr : Reads lo s n a.ref b.ref) :
    a.ofBuf (V (Proc.devRef .tc a.ref)) = b.ofBuf (V' (Proc.devRef .tc b.ref)) :=
  h T a b hr.1 hr.2.1 hr.2.2.1 hr.2.2.2.1 hr.2.2.2.2

/-- What a result's number must be: the next one, and moved by `s`. -/
def Next (s n : Nat) (y : Ref sig .tc) (y' : Ref sig' .tc) : Prop :=
  (y.space = .hbm ∧ y.idx.val = n) ∧ (y'.space = .hbm ∧ y'.idx.val = n + s)

variable {lo s n n' : Nat} {L : List (HloOp τ sig Val)} {L' : List (HloOp τ' sig' Val)} {T Ta Tb Tc : BufTy}

theorem Shifted.nullary (y : TRef sig T) (y' : TRef sig' T) (v : T.Contents Val) (hy : Next s n y.ref y'.ref)
    (hl : Shifted lo s (n + 1) n' L L') : Shifted lo s n n' (TRef.nullary y v :: L) (TRef.nullary y' v :: L') :=
  Shifted.cons y.ref y'.ref T y.ty_eq y'.ty_eq hy.1 hy.2 ⟨y.on_device, y.unscoped⟩ ⟨y'.on_device, y'.unscoped⟩ rfl rfl
    (fun V V' _ => by
      rw [nullary_result, nullary_result]
      exact (TRef.ofBuf_toBuf y v).trans (TRef.ofBuf_toBuf y' v).symm) hl

theorem Shifted.unary (x : TRef sig Ta) (x' : TRef sig' Ta) (y : TRef sig T) (y' : TRef sig' T)
    (f : Ta.Contents Val → T.Contents Val) (hx : Reads lo s n x.ref x'.ref) (hy : Next s n y.ref y'.ref)
    (hl : Shifted lo s (n + 1) n' L L') : Shifted lo s n n' (TRef.unary x y f :: L) (TRef.unary x' y' f :: L') :=
  Shifted.cons y.ref y'.ref T y.ty_eq y'.ty_eq hy.1 hy.2 ⟨y.on_device, y.unscoped⟩ ⟨y'.on_device, y'.unscoped⟩ rfl rfl
    (fun V V' h => by
      rw [unary_result, unary_result]
      refine (TRef.ofBuf_toBuf y _).trans ((congrArg f (h.read x x' hx)).trans (TRef.ofBuf_toBuf y' _).symm)) hl

theorem Shifted.binary (a : TRef sig Ta) (a' : TRef sig' Ta) (b : TRef sig Tb) (b' : TRef sig' Tb) (y : TRef sig T)
    (y' : TRef sig' T) (f : Ta.Contents Val → Tb.Contents Val → T.Contents Val) (ha : Reads lo s n a.ref a'.ref)
    (hb : Reads lo s n b.ref b'.ref) (hy : Next s n y.ref y'.ref) (hl : Shifted lo s (n + 1) n' L L') :
    Shifted lo s n n' (TRef.binary a b y f :: L) (TRef.binary a' b' y' f :: L') :=
  Shifted.cons y.ref y'.ref T y.ty_eq y'.ty_eq hy.1 hy.2 ⟨y.on_device, y.unscoped⟩ ⟨y'.on_device, y'.unscoped⟩ rfl rfl
    (fun V V' h => by
      rw [binary_result, binary_result]
      exact (TRef.ofBuf_toBuf y _).trans ((congrArg₂ f (h.read a a' ha) (h.read b b' hb)).trans (TRef.ofBuf_toBuf y' _).symm)) hl

/-- A reshape is a function of its operand's contents. -/
theorem tref_reshape_result (x : TRef sig Ta) (y : TRef sig T) (he : Ta.elt = T.elt) (hn : Ta.shape.ShapeCasts T.shape)
    (V : Valuation τ sig Val) :
    y.ofBuf ((TRef.reshape x y he hn : HloOp τ sig Val).result V (Proc.devRef .tc y.ref))
      = fun i => he ▸ shapeCast T.shape (x.ofBuf (V (Proc.devRef .tc x.ref))) hn i := by
  obtain ⟨x, rfl, xd, xu⟩ := x
  obtain ⟨y, rfl, yd, yu⟩ := y
  exact reshape_result (Val := Val) x y _ _ _ _ V

theorem Shifted.reshape (x : TRef sig Ta) (x' : TRef sig' Ta) (y : TRef sig T) (y' : TRef sig' T)
    (he : Ta.elt = T.elt) (hn : Ta.shape.ShapeCasts T.shape) (hx : Reads lo s n x.ref x'.ref) (hy : Next s n y.ref y'.ref)
    (hl : Shifted lo s (n + 1) n' L L') :
    Shifted lo s n n' (TRef.reshape x y he hn :: L) (TRef.reshape x' y' he hn :: L') :=
  Shifted.cons y.ref y'.ref T y.ty_eq y'.ty_eq hy.1 hy.2 ⟨y.on_device, y.unscoped⟩ ⟨y'.on_device, y'.unscoped⟩ rfl rfl
    (fun V V' h => (tref_reshape_result x y he hn V).trans (by
      rw [h.read x x' hx]; exact (tref_reshape_result x' y' he hn V').symm)) hl

end Shift

end Cert.Proof

end
-- ==== Proof.RefLine.lean ====
/-
  The reference as one straight line of host operations: the lines of its functions, put together in the order of the calls, and
  its run.
-/
module

public import proofs.«01_k».proof.Defs
public import proofs.«01_k».proof.Proof.Gen.ReferenceIdeal
public import proofs.«01_k».proof.Proof.HostLine
public import Idealize.ShloMosaic.Adequacy
public import Idealize.ShloMosaic.Init

@[expose] public section

set_option maxHeartbeats 4000000
set_option maxRecDepth 8192

noncomputable section

namespace Cert.Proof.Ref

open Idealize.ShloMosaic Idealize.ShloMosaic.TcCoe Idealize.ShloMosaic.StableHlo Idealize.SL.Sem Cert.ReferenceIdeal

variable {F : FTy → Type} [FloatOps F]

section Threefry

variable (a b : TRef sig ⟨S_, .i32⟩) (x y : TRef sig ⟨S32x1x256x256, .i32⟩) (φ : fn_threefry2x32.Bufs)

/-- The four parts of the generator's rounds on the noise's counters. -/
def roundsA : Line (fn_threefry2x32.body_part0 (F := F) a b x y φ) := by
  delta fn_threefry2x32.body_part0
  repeat (first | exact Line.one | refine Line.cons ?_)
def roundsB : Line (fn_threefry2x32.body_part1 (F := F) a b x y φ) := by
  delta fn_threefry2x32.body_part1
  repeat (first | exact Line.one | refine Line.cons ?_)
def roundsC : Line (fn_threefry2x32.body_part2 (F := F) a b x y φ) := by
  delta fn_threefry2x32.body_part2
  repeat (first | exact Line.one | refine Line.cons ?_)
def roundsD : Line (fn_threefry2x32.body_part3 (F := F) a b x y φ) := by
  delta fn_threefry2x32.body_part3
  repeat (first | exact Line.nil | exact Line.one | refine Line.cons ?_)
/-- The generator on the noise's counters. -/
def rounds : Line (fn_threefry2x32.body (F := F) a b x y φ) := by
  delta fn_threefry2x32.body
  exact (roundsA a b x y φ).append ((roundsB a b x y φ).append ((roundsC a b x y φ).append (roundsD a b x y φ)))

end Threefry

section ThreefryWide

variable (a b : TRef sig ⟨S_, .i32⟩) (x y : TRef sig ⟨S16x32x65536, .i32⟩) (φ : fn_threefry2x32_1.Bufs)

/-- The four parts of the generator's rounds on the Gumbel noise's counters. -/
def wideA : Line (fn_threefry2x32_1.body_part0 (F := F) a b x y φ) := by
  delta fn_threefry2x32_1.body_part0
  repeat (first | exact Line.one | refine Line.cons ?_)
def wideB : Line (fn_threefry2x32_1.body_part1 (F := F) a b x y φ) := by
  delta fn_threefry2x32_1.body_part1
  repeat (first | exact Line.one | refine Line.cons ?_)
def wideC : Line (fn_threefry2x32_1.body_part2 (F := F) a b x y φ) := by
  delta fn_threefry2x32_1.body_part2
  repeat (first | exact Line.one | refine Line.cons ?_)
def wideD : Line (fn_threefry2x32_1.body_part3 (F := F) a b x y φ) := by
  delta fn_threefry2x32_1.body_part3
  repeat (first | exact Line.nil | exact Line.one | refine Line.cons ?_)
/-- The generator on the Gumbel noise's counters. -/
def wide : Line (fn_threefry2x32_1.body (F := F) a b x y φ) := by
  delta fn_threefry2x32_1.body
  exact (wideA a b x y φ).append ((wideB a b x y φ).append ((wideC a b x y φ).append (wideD a b x y φ)))

end ThreefryWide

/-- The noise in place of the error of an image that is nowhere wrong: uniform on the unit interval. -/
def uniform (a : TRef sig ⟨S2, .i32⟩) (b c : TRef sig ⟨S_, .f32⟩) (φ : fn_uniform.Bufs) :
    Line (fn_uniform.body (F := F) a b c φ) := by
  delta fn_uniform.body
  repeat (first | exact Line.nil | exact Line.one | refine Line.cons ?_ | refine Line.append (rounds _ _ _ _ _) ?_)

/-- The uniform numbers that the Gumbel noise is made of. -/
def uniformWide (a : TRef sig ⟨S2, .i32⟩) (b c : TRef sig ⟨S_, .f32⟩) (φ : fn_uniform_0.Bufs) :
    Line (fn_uniform_0.body (F := F) a b c φ) := by
  delta fn_uniform_0.body
  repeat (first | exact Line.nil | exact Line.one | refine Line.cons ?_ | refine Line.append (wide _ _ _ _ _) ?_)

/-- The Gumbel noise. -/
def gumbel (a : TRef sig ⟨S2, .i32⟩) (φ : fn_gumbel.Bufs) : Line (fn_gumbel.body (F := F) a φ) := by
  delta fn_gumbel.body
  repeat (first | exact Line.nil | exact Line.one | refine Line.cons ?_ | refine Line.append (uniformWide _ _ _ _) ?_)

def argmax (a : TRef sig ⟨S16x32x65536, .f32⟩) (φ : fn_argmax.Bufs) : Line (fn_argmax.body (F := F) a φ) := by
  delta fn_argmax.body
  repeat (first | exact Line.nil | exact Line.one | refine Line.cons ?_)

def whereA (a : TRef sig ⟨S32x16, .i1⟩) (b c : TRef sig ⟨S32x16, .i32⟩) (φ : fn_where.Bufs) :
    Line (fn_where.body (F := F) a b c φ) := by
  delta fn_where.body
  repeat (first | exact Line.nil | exact Line.one | refine Line.cons ?_)

def whereB (a : TRef sig ⟨S_, .i1⟩) (b c : TRef sig ⟨S_, .i32⟩) (φ : fn_where_2.Bufs) :
    Line (fn_where_2.body (F := F) a b c φ) := by
  delta fn_where_2.body
  repeat (first | exact Line.nil | exact Line.one | refine Line.cons ?_)

def floorDivide (a : TRef sig ⟨S32x16, .i32⟩) (b : TRef sig ⟨S_, .i32⟩) (φ : fn_floor_divide.Bufs) :
    Line (fn_floor_divide.body (F := F) a b φ) := by
  delta fn_floor_divide.body
  repeat (first | exact Line.nil | exact Line.one | refine Line.cons ?_ | refine Line.append (whereA _ _ _ _) ?_)

def remainder (a : TRef sig ⟨S32x16, .i32⟩) (b : TRef sig ⟨S_, .i32⟩) (φ : fn_remainder.Bufs) :
    Line (fn_remainder.body (F := F) a b φ) := by
  delta fn_remainder.body
  repeat (first | exact Line.nil | exact Line.one | refine Line.cons ?_ | refine Line.append (whereB _ _ _ _) ?_)

/-- The three parts of the reference's own text. -/
def partA (d : Dev nD) : Line (main_part0 (F := F) d) := by
  delta main_part0
  repeat (first | exact Line.nil | exact Line.one | refine Line.cons ?_ | refine Line.append (uniform _ _ _ _) ?_)
def partB (d : Dev nD) : Line (main_part1 (F := F) d) := by
  delta main_part1
  repeat (first
    | exact Line.nil | exact Line.one | refine Line.cons ?_ | refine Line.append (gumbel _ _) ?_
    | refine Line.append (argmax _ _) ?_ | refine Line.append (floorDivide _ _ _) ?_ | refine Line.append (remainder _ _ _) ?_)
def partC (d : Dev nD) : Line (main_part2 (F := F) d) := by
  delta main_part2
  repeat (first | exact Line.nil | exact Line.one | refine Line.cons ?_)

/-- The reference's operations, in order. -/
def line (d : Dev nD) : Line (main (F := F) d) := by
  delta main
  exact (partA d).append ((partB d).append (partC d))

/-- The reference's run: every buffer ends at the fold of the operations over its launch contents. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      ∀ (d : Dev nD) (b : Ref sig .tc), r.2.mem ((d.tc : Thread nD τ).loc b) = after (line (F := F) d).ops (launchContents m d) (Proc.devRef .tc b) :=
  run_seq (by decide) (by decide) _ _ (fun d => (line (F := F) d).ops) (fun d => (line d).eq) (fun d => (line d).sub) m ρ
    (fun d => (line d).fresh)

end Cert.Proof.Ref

end
-- ==== Proof.Shift.lean ====
/-
  The random numbers: the kernel's host code and the reference draw the same noise and the same Gumbel noise, each from a key
  that is their own; operation by operation they are one computation at buffers moved by a fixed distance.
-/
module

public import proofs.«01_k».proof.Proof.RefLine
public import proofs.«01_k».proof.Proof.Gen.KernelIdeal.Launch.Ops01
public import proofs.«01_k».proof.Proof.Gen.KernelIdeal.Launch.Ops02

@[expose] public section

set_option maxHeartbeats 4000000
set_option maxRecDepth 8192

noncomputable section

namespace Cert.Proof

open Idealize.ShloMosaic Idealize.ShloMosaic.TcCoe Idealize.ShloMosaic.StableHlo Idealize.SL.Sem

section Heads

variable {τ τ' : Topo} {sig sig' : RefSig} {Val : EltTy → Type} {lo s n n' : Nat} {L : List (HloOp τ sig Val)}
  {M : List (HloOp τ' sig' Val)} {Ta Tb T : BufTy} {a : TRef sig Ta} {b : TRef sig Tb} {y : TRef sig T}

/-! Which operation the first line begins with. -/

theorem Shifted.is_nullary {v : T.Contents Val} (h : Shifted lo s n n' (TRef.nullary y v :: L) M) :
    Shifted lo s n n' (TRef.nullary y v :: L) M := h
theorem Shifted.is_unary {f : Ta.Contents Val → T.Contents Val} (h : Shifted lo s n n' (TRef.unary a y f :: L) M) :
    Shifted lo s n n' (TRef.unary a y f :: L) M := h
theorem Shifted.is_binary {f : Ta.Contents Val → Tb.Contents Val → T.Contents Val}
    (h : Shifted lo s n n' (TRef.binary a b y f :: L) M) : Shifted lo s n n' (TRef.binary a b y f :: L) M := h
theorem Shifted.is_reshape {he : Ta.elt = T.elt} {hn : Ta.shape.ShapeCasts T.shape}
    (h : Shifted lo s n n' (TRef.reshape a y he hn :: L) M) : Shifted lo s n n' (TRef.reshape a y he hn :: L) M := h

end Heads

variable {F : FTy → Type} [FloatOps F]

/-- The noise in place of the error of an image that is nowhere wrong. -/
theorem shifted_uniform : Shifted 17 38 20 292 (Cert.KernelIdeal.Gen.hostOps0_1 (F := F))
    (Ref.uniform (F := F)
      (.of Cert.ReferenceIdeal.main_v37) (.of Cert.ReferenceIdeal.main_cst_8) (.of Cert.ReferenceIdeal.main_cst_9) Cert.ReferenceIdeal.main_call0).ops := by
  delta Cert.KernelIdeal.Gen.hostOps0_1
  iterate 272
    first
      | (with_reducible refine Shifted.is_unary ?_
         refine Shifted.unary _ _ _ _ _ ⟨rfl, rfl, Nat.le_of_ble_eq_true rfl, Nat.le_of_ble_eq_true rfl, rfl⟩
          ⟨⟨rfl, rfl⟩, rfl, rfl⟩ ?_)
      | (with_reducible refine Shifted.is_binary ?_
         refine Shifted.binary _ _ _ _ _ _ _ ⟨rfl, rfl, Nat.le_of_ble_eq_true rfl, Nat.le_of_ble_eq_true rfl, rfl⟩
          ⟨rfl, rfl, Nat.le_of_ble_eq_true rfl, Nat.le_of_ble_eq_true rfl, rfl⟩ ⟨⟨rfl, rfl⟩, rfl, rfl⟩ ?_)
      | (with_reducible refine Shifted.is_nullary ?_
         refine Shifted.nullary _ _ _ ⟨⟨rfl, rfl⟩, rfl, rfl⟩ ?_)
      | (with_reducible refine Shifted.is_reshape ?_
         refine Shifted.reshape _ _ _ _ _ _ ⟨rfl, rfl, Nat.le_of_ble_eq_true rfl, Nat.le_of_ble_eq_true rfl, rfl⟩
          ⟨⟨rfl, rfl⟩, rfl, rfl⟩ ?_)
  exact Shifted.nil ..

/-- The Gumbel noise. -/
theorem shifted_gumbel : Shifted 301 56 302 574 (Cert.KernelIdeal.Gen.hostOps0_3 (F := F))
    (Ref.gumbel (F := F) (.of Cert.ReferenceIdeal.main_v60) Cert.ReferenceIdeal.main_call1).ops := by
  delta Cert.KernelIdeal.Gen.hostOps0_3
  iterate 272
    first
      | (with_reducible refine Shifted.is_unary ?_
         refine Shifted.unary _ _ _ _ _ ⟨rfl, rfl, Nat.le_of_ble_eq_true rfl, Nat.le_of_ble_eq_true rfl, rfl⟩
          ⟨⟨rfl, rfl⟩, rfl, rfl⟩ ?_)
      | (with_reducible refine Shifted.is_binary ?_
         refine Shifted.binary _ _ _ _ _ _ _ ⟨rfl, rfl, Nat.le_of_ble_eq_true rfl, Nat.le_of_ble_eq_true rfl, rfl⟩
          ⟨rfl, rfl, Nat.le_of_ble_eq_true rfl, Nat.le_of_ble_eq_true rfl, rfl⟩ ⟨⟨rfl, rfl⟩, rfl, rfl⟩ ?_)
      | (with_reducible refine Shifted.is_nullary ?_
         refine Shifted.nullary _ _ _ ⟨⟨rfl, rfl⟩, rfl, rfl⟩ ?_)
      | (with_reducible refine Shifted.is_reshape ?_
         refine Shifted.reshape _ _ _ _ _ _ ⟨rfl, rfl, Nat.le_of_ble_eq_true rfl, Nat.le_of_ble_eq_true rfl, rfl⟩
          ⟨⟨rfl, rfl⟩, rfl, rfl⟩ ?_)
  exact Shifted.nil ..

end Cert.Proof

end
-- ==== Proof.RefSplit.lean ====
/-
  The reference's line, cut at the two places where it draws random numbers: what precedes the noise, the noise, what follows up
  to the Gumbel noise, the Gumbel noise, and the rest. The contents after each stage, and the arguments, which no stage writes.
-/
module

public import proofs.«01_k».proof.Proof.Shift
public import Idealize.ShloMosaic.Lib.StableHlo.RunRead

@[expose] public section

set_option maxHeartbeats 4000000
set_option maxRecDepth 8192

noncomputable section

namespace Cert.Proof.Ref

open Idealize.ShloMosaic Idealize.ShloMosaic.TcCoe Idealize.ShloMosaic.StableHlo Idealize.SL.Sem Cert.ReferenceIdeal

variable {F : FTy → Type} [FloatOps F]

/-- The noise, and the Gumbel noise. -/
abbrev U : List (HloOp τ sig (Elt F)) := (uniform (.of main_v37) (.of main_cst_8) (.of main_cst_9) main_call0).ops
abbrev G : List (HloOp τ sig (Elt F)) := (gumbel (.of main_v60) main_call1).ops

/-- What precedes the noise. -/
def pre (d : Dev nD) : List (HloOp τ sig (Elt F)) := (partA (F := F) d).ops.take 50
/-- What follows it, up to the Gumbel noise. -/
def mid (d : Dev nD) : List (HloOp τ sig (Elt F)) := (partA (F := F) d).ops.drop 322 ++ (partB (F := F) d).ops.take 19
/-- What follows that. -/
def post (d : Dev nD) : List (HloOp τ sig (Elt F)) := (partB (F := F) d).ops.drop 291 ++ (partC (F := F) d).ops

theorem partA_cut (d : Dev nD) : (partA (F := F) d).ops = pre d ++ (U ++ (partA (F := F) d).ops.drop 322) := rfl

theorem partB_cut (d : Dev nD) : (partB (F := F) d).ops = (partB d).ops.take 19 ++ (G ++ (partB (F := F) d).ops.drop 291) := rfl

theorem line_cut (d : Dev nD) : (line (F := F) d).ops = pre d ++ (U ++ (mid d ++ (G ++ post d))) := by
  show (partA (F := F) d).ops ++ ((partB (F := F) d).ops ++ (partC (F := F) d).ops) = _
  conv_lhs => rw [partA_cut, partB_cut]
  simp only [mid, post, List.append_assoc]

/-- The contents after each stage, from the contents at the launch. -/
def V1 (d : Dev nD) (V : Valuation τ sig (Elt F)) : Valuation τ sig (Elt F) := after (pre d) V
def V2 (d : Dev nD) (V : Valuation τ sig (Elt F)) : Valuation τ sig (Elt F) := after U (V1 d V)
def V3 (d : Dev nD) (V : Valuation τ sig (Elt F)) : Valuation τ sig (Elt F) := after (mid d) (V2 d V)
def V4 (d : Dev nD) (V : Valuation τ sig (Elt F)) : Valuation τ sig (Elt F) := after G (V3 d V)

theorem after_line (d : Dev nD) (V : Valuation τ sig (Elt F)) : after (line d).ops V = after (post d) (V4 d V) := by
  rw [line_cut, after_app, after_app, after_app, after_app]; rfl

/-- The noise leaves every buffer but its own as it was, and so does the Gumbel noise. -/
theorem keep2 (d : Dev nD) (V : Valuation τ sig (Elt F)) (r : Ref sig .tc)
    (h : r.space = .hbm → r.idx.val < 58 ∨ 330 ≤ r.idx.val) : V2 d V (Proc.devRef .tc r) = V1 d V (Proc.devRef .tc r) :=
  (shifted_uniform (F := F)).2.2.1 _ r h
theorem keep4 (d : Dev nD) (V : Valuation τ sig (Elt F)) (r : Ref sig .tc)
    (h : r.space = .hbm → r.idx.val < 358 ∨ 630 ≤ r.idx.val) : V4 d V (Proc.devRef .tc r) = V3 d V (Proc.devRef .tc r) :=
  (shifted_gumbel (F := F)).2.2.1 _ r h

/-- The argument arrays. -/
def args : List (Ref sig .tc) := [main_arg0, main_arg1, main_arg2, main_arg3, main_arg4, main_arg5, main_arg6, main_arg7]

theorem args_low : ∀ r ∈ args, r.idx.val < 8 := by decide

theorem kept_pre (d : Dev nD) (V : Valuation τ sig (Elt F)) :
    ∀ r ∈ args, after (pre d) V (Proc.devRef .tc r) = V (Proc.devRef .tc r) := by
  simp only [args, List.forall_mem_cons, List.not_mem_nil, false_imp_iff, implies_true, and_true]
  refine ⟨?_, ?_, ?_, ?_, ?_, ?_, ?_, ?_⟩ <;> after_reads_simp
theorem kept_mid (d : Dev nD) (V : Valuation τ sig (Elt F)) :
    ∀ r ∈ args, after (mid d) V (Proc.devRef .tc r) = V (Proc.devRef .tc r) := by
  simp only [args, List.forall_mem_cons, List.not_mem_nil, false_imp_iff, implies_true, and_true]
  refine ⟨?_, ?_, ?_, ?_, ?_, ?_, ?_, ?_⟩ <;> after_reads_simp
theorem kept_post (d : Dev nD) (V : Valuation τ sig (Elt F)) :
    ∀ r ∈ args, after (post d) V (Proc.devRef .tc r) = V (Proc.devRef .tc r) := by
  simp only [args, List.forall_mem_cons, List.not_mem_nil, false_imp_iff, implies_true, and_true]
  refine ⟨?_, ?_, ?_, ?_, ?_, ?_, ?_, ?_⟩ <;> after_reads_simp

theorem kept1 (d : Dev nD) (V : Valuation τ sig (Elt F)) (r) (h : r ∈ args) : V1 d V (Proc.devRef .tc r) = V (Proc.devRef .tc r) :=
  kept_pre d V r h
theorem kept2 (d : Dev nD) (V : Valuation τ sig (Elt F)) (r) (h : r ∈ args) : V2 d V (Proc.devRef .tc r) = V (Proc.devRef .tc r) :=
  (keep2 d V r fun _ => .inl ((args_low r h).trans (by decide))).trans (kept1 d V r h)
theorem kept4 (d : Dev nD) (V : Valuation τ sig (Elt F)) (r) (h : r ∈ args) : V4 d V (Proc.devRef .tc r) = V (Proc.devRef .tc r) :=
  (keep4 d V r fun _ => .inl ((args_low r h).trans (by decide))).trans ((kept_mid d _ r h).trans (kept2 d V r h))

/-- No operation of the reference writes an argument. -/
theorem kept (d : Dev nD) (V : Valuation τ sig (Elt F)) (r) (h : r ∈ args) :
    after (line d).ops V (Proc.devRef .tc r) = V (Proc.devRef .tc r) := by
  rw [after_line, kept_post d _ r h, kept4 d V r h]

end Cert.Proof.Ref

end
-- ==== Proof.RefFrame.lean ====
/-
  The reference's frame: it runs, its arguments end as they were, and every counter is at zero.
-/
module

public import proofs.«01_k».proof.Proof.RefSplit
public import Idealize.ShloMosaic.Lib.Quiescent

@[expose] public section

noncomputable section

namespace Cert.Proof.Ref

open Idealize.ShloMosaic Idealize.ShloMosaic.TcCoe Idealize.ShloMosaic.StableHlo Idealize.SL.Sem Cert.ReferenceIdeal

/-- The argument arrays in a final state of the reference. -/
theorem args_kept {F : FTy → Type} [FloatOps F] (m : (ℓ : Loc nD τ sig) → Buf (Elt F) ℓ) {s : MemSt nD τ sig (Elt F)}
    (h : ∀ (d : Dev nD) (b : Ref sig .tc),
      s.mem ((d.tc : Thread nD τ).loc b) = after (line (F := F) d).ops (launchContents m d) (Proc.devRef .tc b)) (c : Dev nD)
    (r : Ref sig .tc) (hr : r ∈ args) : s.mem ((c.tc : Thread nD τ).loc r) = m ((c.tc : Thread nD τ).loc r) :=
  (h c r).trans (kept c _ r hr)

theorem frame : Cert.quiescent_ReferenceIdeal := fun m g _ =>
  (θ_run _ _ _).mono (fun r h => ⟨fun c =>
    ⟨args_kept m h c _ (by decide), args_kept m h c _ (by decide), args_kept m h c _ (by decide), args_kept m h c _ (by decide),
     args_kept m h c _ (by decide), args_kept m h c _ (by decide), args_kept m h c _ (by decide), args_kept m h c _ (by decide)⟩,
    sem_eq_zero_of_no_sems (by decide) r.2⟩) (run m g)

end Cert.Proof.Ref

end
-- ==== Proof.First.lean ====
/-
  The first place of the greatest of 65536 values, found in two ways.

  The reference folds over (value, place) pairs, keeping the better of two: the greater value, and of equal values the earlier
  place. The kernel lays the values out in 256 rows of 256, takes the greatest value by rows and then over the rows, replaces every
  value by its place where it equals the greatest and by 2^30 elsewhere, and takes the least. Both give the first place.
-/
module

public import proofs.«01_k».proof.ReferenceIdeal
public import Idealize.ShloMosaic.Lib.SortNet.Extract
public import Idealize.ShloMosaic.Lib.Routing.Words
public import Idealize.ShloMosaic.Lib.Pointwise

@[expose] public section

noncomputable section

namespace Cert.Proof

open Idealize.ShloMosaic

/-- `n` is a place of `f`'s greatest value, and no earlier place holds it. -/
def IsFirst (f : Fin 65536 → EReal) (n : ℕ) : Prop :=
  ∃ h : n < 65536, (∀ k, f k ≤ f ⟨n, h⟩) ∧ ∀ k : Fin 65536, f k = f ⟨n, h⟩ → n ≤ k

/-- The first place of the greatest value. -/
def first (f : Fin 65536 → EReal) : ℕ := sInf {n | ∃ h : n < 65536, ∀ k, f k ≤ f ⟨n, h⟩}

theorem IsFirst.eq {f : Fin 65536 → EReal} {n : ℕ} (h : IsFirst f n) : n = first f := by
  obtain ⟨hn, hmax, hmin⟩ := h
  apply le_antisymm
  · obtain ⟨hb, hall⟩ := Nat.sInf_mem (s := {n | ∃ h : n < 65536, ∀ k, f k ≤ f ⟨n, h⟩}) ⟨n, hn, hmax⟩
    exact hmin ⟨_, hb⟩ (le_antisymm (hmax _) (hall ⟨n, hn⟩))
  · exact Nat.sInf_le ⟨hn, hmax⟩

theorem first_lt (f : Fin 65536 → EReal) : first f < 65536 := by
  obtain ⟨i, hi⟩ := Finite.exists_max f
  exact lt_of_le_of_lt (Nat.sInf_le ⟨i.isLt, hi⟩) i.isLt

/-! ## The reference's fold -/

/-- `p` is at least as good as `q`: a greater value, or the same one no later. -/
def Beats (p q : EReal × BitVec 32) : Prop := q.1 < p.1 ∨ q.1 = p.1 ∧ p.2.toInt ≤ q.2.toInt

theorem Beats.refl (p : EReal × BitVec 32) : Beats p p := .inr ⟨rfl, le_rfl⟩

theorem Beats.trans {p q r : EReal × BitVec 32} (h : Beats p q) (h' : Beats q r) : Beats p r := by
  rcases h with h | ⟨h, i⟩ <;> rcases h' with h' | ⟨h', i'⟩
  · exact .inl (h'.trans h)
  · exact .inl (h' ▸ h)
  · exact .inl (h ▸ h')
  · exact .inr ⟨h'.trans h, i.trans i'⟩

theorem select_ofBool {α : Type} (b : Bool) (x y : α) : Scalar.select (BitVec.ofBool b) x y = if b then x else y := by
  cases b <;> rfl

/-- The reducer keeps one of its two pairs, and that one beats both. -/
theorem reducer_spec (a b : EReal × BitVec 32) :
    let r : EReal × BitVec 32 := Cert.ReferenceIdeal.reducer_argmax_f32_i32 (F := Ideal) a b
    (r = a ∨ r = b) ∧ Beats r a ∧ Beats r b := by
  obtain ⟨x, i⟩ := a
  obtain ⟨y, j⟩ := b
  have e : (Cert.ReferenceIdeal.reducer_argmax_f32_i32 (F := Ideal) (x, i) (y, j) : EReal × BitVec 32)
      = if y < x ∨ x = y ∧ i.toInt < j.toInt then (x, i) else (y, j) := by
    simp only [Cert.ReferenceIdeal.reducer_argmax_f32_i32, Ideal.cmpf_def, Ideal.cmp, IntOp.cmpi, IntOp.ori, IntOp.andi]
    rcases lt_trichotomy y x with h | h | h
    · simp [h, h.ne', Scalar.select]
    · subst h
      by_cases hij : i.toInt < j.toInt <;> simp [hij, Scalar.select, BitVec.slt]
    · simp [h.not_gt, h.ne, Scalar.select]
  rw [e]
  dsimp only
  split
  · rename_i h
    refine ⟨.inl rfl, .refl _, ?_⟩
    rcases h with h | ⟨h, h'⟩
    · exact .inl h
    · exact .inr ⟨h.symm, h'.le⟩
  · rename_i h
    refine ⟨.inr rfl, ?_, .refl _⟩
    push Not at h
    rcases lt_or_eq_of_le h.1 with h1 | h1
    · exact .inl h1
    · exact .inr ⟨h1, h.2 h1⟩

/-- So the fold keeps one of the pairs it saw, and that one beats them all. -/
theorem foldl_spec (l : List (EReal × BitVec 32)) (p : EReal × BitVec 32) :
    let r : EReal × BitVec 32 := l.foldl (Cert.ReferenceIdeal.reducer_argmax_f32_i32 (F := Ideal)) p
    r ∈ p :: l ∧ ∀ q ∈ p :: l, Beats r q := by
  induction l generalizing p with
  | nil => exact ⟨by simp, by simpa using Beats.refl p⟩
  | cons x l ih =>
    obtain ⟨hm, hb⟩ := ih (Cert.ReferenceIdeal.reducer_argmax_f32_i32 (F := Ideal) p x)
    obtain ⟨hs, h1, h2⟩ := reducer_spec p x
    refine ⟨?_, ?_⟩
    · rcases List.mem_cons.1 hm with h | h
      · rcases hs with hs | hs
        · exact List.mem_cons.2 (.inl (h.trans hs))
        · exact List.mem_cons.2 (.inr (List.mem_cons.2 (.inl (h.trans hs))))
      · exact List.mem_cons.2 (.inr (List.mem_cons.2 (.inr h)))
    · intro q hq
      rcases List.mem_cons.1 hq with h | h
      · exact (hb _ (List.mem_cons.2 (.inl rfl))).trans (h ▸ h1)
      · rcases List.mem_cons.1 h with h | h
        · exact (hb _ (List.mem_cons.2 (.inl rfl))).trans (h ▸ h2)
        · exact hb _ (List.mem_cons.2 (.inr h))

/-- A small number's word, read signed. -/
theorem toInt_word {n : ℕ} (h : n < 2 ^ 31) : (BitVec.ofNat 32 n).toInt = n := by
  rw [BitVec.toInt_ofNat']
  exact Int.bmod_eq_of_le (by omega) (by omega)

/-- Over a list of pairs that holds exactly the values of `f` with the words of their places, started from the least value at
    place zero, the fold's place is the word of the first place. -/
theorem foldl_first (f : Fin 65536 → EReal) (l : List (EReal × BitVec 32))
    (hl : ∀ q, q ∈ l ↔ ∃ k : Fin 65536, q = (f k, BitVec.ofNat 32 k.val)) :
    (l.foldl (Cert.ReferenceIdeal.reducer_argmax_f32_i32 (F := Ideal)) ((⊥ : EReal), 0#32)).2 = BitVec.ofNat 32 (first f) := by
  obtain ⟨hm, hb⟩ := foldl_spec l (⊥, 0#32)
  generalize l.foldl (Cert.ReferenceIdeal.reducer_argmax_f32_i32 (F := Ideal)) ((⊥ : EReal), 0#32) = r at hm hb
  have hk : ∀ k : Fin 65536, Beats r (f k, BitVec.ofNat 32 k.val) := fun k =>
    hb _ (List.mem_cons.2 (.inr ((hl _).2 ⟨k, rfl⟩)))
  obtain ⟨k, rfl⟩ : ∃ k : Fin 65536, r = (f k, BitVec.ofNat 32 k.val) := by
    rcases List.mem_cons.1 hm with h | h
    · refine ⟨⟨0, by decide⟩, ?_⟩
      rcases hk ⟨0, by decide⟩ with h0 | ⟨h0, -⟩
      · rw [h] at h0; exact absurd h0 not_lt_bot
      · rw [h]; exact Prod.ext (by rw [h0, h]) rfl
    · exact (hl _).1 h
  have : IsFirst f k.val := by
    refine ⟨k.isLt, fun j => ?_, fun j hj => ?_⟩
    · rcases hk j with h | ⟨h, -⟩
      · exact h.le
      · exact h.le
    · rcases hk j with h | ⟨-, h⟩
      · exact absurd hj h.ne
      · have h1 := toInt_word (n := k.val) (by omega)
        have h2 := toInt_word (n := j.val) (by omega)
        simp only at h
        omega
  rw [← this.eq]

/-! ## The kernel's least place -/

theorem fold_minsi {ι : Type} [DecidableEq ι] (s : Finset ι) (b : BitVec 32) (g : ι → BitVec 32) :
    (∀ k ∈ s, (s.fold IntOp.minsi b g).toInt ≤ (g k).toInt) ∧ (s.fold IntOp.minsi b g = b ∨ ∃ k ∈ s, s.fold IntOp.minsi b g = g k) := by
  induction s using Finset.induction_on with
  | empty => simp
  | insert a s ha ih =>
    rw [Finset.fold_insert ha]
    obtain ⟨h1, h2⟩ := ih
    refine ⟨?_, ?_⟩
    · intro k hk
      rw [SortNet.toInt_minsi]
      rcases Finset.mem_insert.1 hk with rfl | hk
      · exact min_le_left _ _
      · exact (min_le_right _ _).trans (h1 k hk)
    · unfold IntOp.minsi
      split
      · exact .inr ⟨a, by simp, rfl⟩
      · rcases h2 with h2 | ⟨k, hk, h2⟩
        · exact .inl h2
        · exact .inr ⟨k, by simp [hk], h2⟩

/-- The greatest of a rectangle's values, by rows. -/
def peak (f : Fin 256 → Fin 256 → EReal) : EReal :=
  Finset.univ.fold max ⊥ fun h => Finset.univ.fold max ⊥ fun w => f h w

theorem le_peak (f : Fin 256 → Fin 256 → EReal) (h w : Fin 256) : f h w ≤ peak f :=
  Finset.le_fold_max _ |>.2 (.inr ⟨h, Finset.mem_univ _, Finset.le_fold_max _ |>.2 (.inr ⟨w, Finset.mem_univ _, le_rfl⟩)⟩)

theorem peak_le {f : Fin 256 → Fin 256 → EReal} {c : EReal} (hc : ∀ h w, f h w ≤ c) : peak f ≤ c :=
  Finset.fold_max_le _ |>.2 ⟨bot_le, fun h _ => Finset.fold_max_le _ |>.2 ⟨bot_le, fun w _ => hc h w⟩⟩

theorem exists_peak (f : Fin 256 → Fin 256 → EReal) : ∃ h w, f h w = peak f := by
  obtain ⟨p, hp⟩ := Finite.exists_max fun p : Fin 256 × Fin 256 => f p.1 p.2
  exact ⟨p.1, p.2, le_antisymm (le_peak f _ _) (peak_le fun h w => hp (h, w))⟩

/-- A cell's place. -/
theorem place_word (h w : Fin 256) :
    IntOp.addi (IntOp.muli (BitVec.ofNat 32 h.val) 256#32) (BitVec.ofNat 32 w.val) = BitVec.ofNat 32 (h.val * 256 + w.val) := by
  apply BitVec.eq_of_toNat_eq
  simp [IntOp.addi, IntOp.muli]

/-- The kernel's rectangle, laid out as a row. -/
def flat (f : Fin 256 → Fin 256 → EReal) : Fin 65536 → EReal := fun n => f ⟨n.val / 256, by omega⟩ ⟨n.val % 256, by omega⟩

theorem least_first (f : Fin 256 → Fin 256 → EReal) :
    (Finset.univ.fold IntOp.minsi 2147483647#32 fun h => Finset.univ.fold IntOp.minsi 2147483647#32 fun w =>
      if f h w = peak f then IntOp.addi (IntOp.muli (BitVec.ofNat 32 h.val) 256#32) (BitVec.ofNat 32 w.val) else 1073741824#32)
      = BitVec.ofNat 32 (first (flat f)) := by
  simp only [place_word]
  set g : Fin 256 → Fin 256 → BitVec 32 := fun h w => if f h w = peak f then BitVec.ofNat 32 (h.val * 256 + w.val) else 1073741824#32
  have inner := fun h => fold_minsi Finset.univ 2147483647#32 (g h)
  obtain ⟨o1, o2⟩ := fold_minsi Finset.univ 2147483647#32 fun h => Finset.univ.fold IntOp.minsi 2147483647#32 (g h)
  generalize hc : (Finset.univ.fold IntOp.minsi 2147483647#32 fun h => Finset.univ.fold IntOp.minsi 2147483647#32 (g h)) = c at o1 o2
  have low : ∀ h w, c.toInt ≤ (g h w).toInt := fun h w =>
    (o1 h (Finset.mem_univ _)).trans ((inner h).1 w (Finset.mem_univ _))
  obtain ⟨h0, w0, e0⟩ := exists_peak f
  have g0 : (g h0 w0).toInt = ((h0.val * 256 + w0.val : ℕ) : ℤ) := by
    simp only [g, if_pos e0]; exact toInt_word (by omega)
  have small : c.toInt < 65536 := by have := low h0 w0; omega
  have hit : ∃ h w, c = g h w := by
    rcases o2 with h | ⟨h, -, e⟩
    · rw [h] at small; exact absurd small (by decide)
    · rcases (inner h).2 with e' | ⟨w, -, e'⟩
      · rw [e, e'] at small; exact absurd small (by decide)
      · exact ⟨h, w, e.trans e'⟩
  obtain ⟨h, w, e⟩ := hit
  have hp : f h w = peak f := by
    by_contra hn
    rw [e] at small
    simp only [g, if_neg hn] at small
    exact absurd small (by decide)
  rw [e]
  simp only [g, if_pos hp] at e ⊢
  have at_ : ∀ n (hn : n < 65536), flat f ⟨n, hn⟩ = f ⟨n / 256, by omega⟩ ⟨n % 256, by omega⟩ := fun _ _ => rfl
  have here : flat f ⟨h.val * 256 + w.val, by omega⟩ = peak f := by
    have eh : (⟨(h.val * 256 + w.val) / 256, by omega⟩ : Fin 256) = h := Fin.ext (by show (h.val * 256 + w.val) / 256 = h.val; omega)
    have ew : (⟨(h.val * 256 + w.val) % 256, by omega⟩ : Fin 256) = w := Fin.ext (by show (h.val * 256 + w.val) % 256 = w.val; omega)
    rw [at_, eh, ew, hp]
  have : IsFirst (flat f) (h.val * 256 + w.val) := by
    refine ⟨by omega, fun k => here ▸ le_peak f _ _, fun k hk => ?_⟩
    rw [here] at hk
    have hk' : f ⟨k.val / 256, by omega⟩ ⟨k.val % 256, by omega⟩ = peak f := hk
    have l := low ⟨k.val / 256, by omega⟩ ⟨k.val % 256, by omega⟩
    simp only [g, if_pos hk', e] at l
    rw [toInt_word (by omega), toInt_word (by omega)] at l
    omega
  rw [this.eq]

end Cert.Proof

end
-- ==== Proof.Spec.lean ====
/-
  The slot update, value by value, in the numbers' own terms: what one image and one slot give.
-/
module

public import proofs.«01_k».proof.Proof.First

@[expose] public section

noncomputable section

namespace Cert.Proof.Spec

open Idealize.ShloMosaic

/-- One where the slot's mask somewhere exceeds the threshold, else zero. -/
def flag (m : EReal) : EReal := if Ideal.ofBits .f32 0x3F4CCCCD#32 < m then 1 else 0

/-- A row or a column number, brought to the range from -1 to 1. -/
def coord (n : ℕ) : EReal := ((n : ℝ) : EReal) * ((1 / 128 : ℝ) : EReal) - 1

/-- What a slot that has no object takes for its position, when it samples place `n`: column, row, depth and spread. -/
def fresh (n : ℕ) (z s : EReal) : Fin 4 → EReal := ![coord (n % 256), coord (n / 256), z, s]

/-- Kept where the flag is one, replaced where it is zero. -/
def blend (old new bm : EReal) : EReal := old * bm + new * (1 - bm)

theorem bot_bits : Ideal.ofBits .f32 0xFF800000#32 = ⊥ := by simp [Ideal.ofBits, Ideal.ieee]

theorem per_128_bits : Ideal.ofBits .f32 0x3C000000#32 = ((1 / 128 : ℝ) : EReal) := by
  simp [Ideal.ofBits, Ideal.ieee, -EReal.coe_mul]; norm_num

theorem bits_128 : Ideal.ofBits .f32 0x43000000#32 = ((128 : ℝ) : EReal) := by
  simp [Ideal.ofBits, Ideal.ieee, -EReal.coe_mul]; norm_num

/-- A comparison's bit, read as a number. -/
theorem bit_word (b : Prop) [Decidable b] :
    ((((BitVec.setWidth 32 (BitVec.ofBool (decide b))).toInt : ℤ) : ℝ) : EReal) = if b then 1 else 0 := by
  by_cases h : b <;> simp [h]

theorem bit_nat (b : Prop) [Decidable b] : ((((BitVec.ofBool (decide b)).toNat : ℕ) : ℝ) : EReal) = if b then 1 else 0 := by
  by_cases h : b <;> simp [h]

/-- A small number's word as a number. -/
theorem word_real {n : ℕ} (h : n < 65536) : ((((BitVec.ofNat 32 n).toInt : ℤ) : ℝ) : EReal) = ((n : ℝ) : EReal) := by
  rw [toInt_word (by omega)]; norm_cast

/-- The kernel multiplies by 1/128 … -/
theorem coord_mul {n : ℕ} (h : n < 65536) :
    ((((BitVec.ofNat 32 n).toInt : ℤ) : ℝ) : EReal) * Ideal.ofBits .f32 0x3C000000#32 - 1 = coord n := by
  rw [word_real h, per_128_bits, coord]

/-- … and the reference divides by 128. -/
theorem coord_div {n : ℕ} (h : n < 65536) :
    Ideal.div ((((BitVec.ofNat 32 n).toInt : ℤ) : ℝ) : EReal) (Ideal.ofBits .f32 0x43000000#32) - 1 = coord n := by
  rw [word_real h, bits_128, coord, Ideal.div, if_neg (by norm_num)]
  congr 2
  rw [← EReal.coe_inv]; norm_num

end Cert.Proof.Spec

end
-- ==== Proof.Block.lean ====
/-
  What the kernel's body computes from the blocks of one image, slot by slot.
-/
module

public import proofs.«01_k».proof.Proof.Spec
public import proofs.«01_k».proof.Proof.Gen.KernelIdeal.Skeleton

@[expose] public section

noncomputable section

namespace Cert.Proof.Kernel

open Idealize.ShloMosaic Idealize.SL.Sem Cert.KernelIdeal Cert.KernelIdeal.Gen Cert.Proof.Spec

/-- The slot's flag, from the greatest value of its mask. -/
theorem flag_eq (x : Vec Ideal S1x16x256x256 .f32) (o : Fin 16) (a : Fin 1) :
    k0_pay3 x (ix2 o a) = flag (peak fun h w => x (ix4 0 o h w)) := by
  pointwise [k0_pay3, bot_bits]
  exact bit_word _

/-- The slot's sample: the first place where its noise plus the image's logits is greatest. -/
def sample (x : Vec Ideal S1x16x256x256 .f32) (y : Vec Ideal S1x1x256x256 .f32) (o : Fin 16) : ℕ :=
  first (flat fun h w => x (ix4 0 o h w) + y (ix4 0 0 h w))

theorem sample_lt (x : Vec Ideal S1x16x256x256 .f32) (y : Vec Ideal S1x1x256x256 .f32) (o : Fin 16) : sample x y o < 65536 :=
  first_lt _

theorem sample_eq (x : Vec Ideal S1x16x256x256 .f32) (y : Vec Ideal S1x1x256x256 .f32) (o : Fin 16) (a : Fin 1) :
    k0_pay4 x y (ix2 o a) = BitVec.ofNat 32 (sample x y o) := by
  pointwise [k0_pay4, bot_bits]
  exact least_first fun h w => x (ix4 0 o h w) + y (ix4 0 0 h w)

/-- The kernel's quotient by 256, rounded down, of a word that is not negative. -/
theorem row_eq (x : Vec Ideal S1x16x256x256 .f32) (y : Vec Ideal S1x1x256x256 .f32) (o : Fin 16) (a : Fin 1) :
    k0_pay7 (k0_pay4 x y) 256#32 (k0_pay5 x y) (k0_pay6 x y) (ix2 o a) = BitVec.ofNat 32 (sample x y o / 256) := by
  have hn := sample_lt x y o
  have h4 := sample_eq x y o a
  generalize sample x y o = n at hn h4
  pointwise [k0_pay7, k0_pay5, k0_pay6]
  rw [h4]
  have e : (256#32 : BitVec 32) = BitVec.ofNat 32 256 := rfl
  rw [e, Routing.divsi_word .vector (by omega) (by decide) (by decide), Routing.remsi_word .vector (by omega) (by decide) (by decide)]
  rcases Nat.eq_zero_or_pos n with rfl | h
  · rfl
  · have p : IntOp.cmpi .sgt (BitVec.ofNat 32 n) 0#32 = 1#1 := by
      simp only [IntOp.cmpi, BitVec.slt, toInt_word (n := n) (by omega)]
      have : (0 : ℕ) < n := h
      simp [this]
    have q : IntOp.cmpi .slt (BitVec.ofNat 32 n) 0#32 = 0#1 := by
      simp only [IntOp.cmpi, BitVec.slt, toInt_word (n := n) (by omega)]
      have : ¬ ((n : ℤ) < 0) := by omega
      simp [this]
    rw [p, q]
    have r : IntOp.cmpi .ne (IntOp.subi (BitVec.setWidth 32 1#1) (BitVec.setWidth 32 0#1))
        (Scalar.subi (Scalar.extui (Scalar.cmpi .sgt (BitVec.ofNat 32 256) 0#32)) (Scalar.extui (Scalar.cmpi .slt (BitVec.ofNat 32 256) 0#32))) = 0#1 := by
      decide
    rw [r]
    simp [IntOp.andi, Scalar.select]

theorem y_eq (x : Vec Ideal S1x16x256x256 .f32) (y : Vec Ideal S1x1x256x256 .f32) (o : Fin 16) (a : Fin 1) :
    k0_pay8 (F := Ideal) (k0_pay4 x y) 256#32 (k0_pay5 x y) (k0_pay6 x y) (ix2 o a) = coord (sample x y o / 256) := by
  pointwise [k0_pay8]
  rw [row_eq]
  exact coord_mul (by have := sample_lt x y o; omega)

theorem x_eq (x : Vec Ideal S1x16x256x256 .f32) (y : Vec Ideal S1x1x256x256 .f32) (o : Fin 16) (a : Fin 1) :
    k0_pay9 (F := Ideal) (k0_pay4 x y) 256#32 (k0_pay5 x y) (k0_pay6 x y) (ix2 o a) = coord (sample x y o % 256) := by
  have hn := sample_lt x y o
  pointwise [k0_pay9]
  rw [row_eq, sample_eq]
  have e : IntOp.subi (BitVec.ofNat 32 (sample x y o)) (IntOp.muli (BitVec.ofNat 32 (sample x y o / 256)) 256#32)
      = BitVec.ofNat 32 (sample x y o % 256) := by
    apply BitVec.eq_of_toNat_eq
    simp [IntOp.subi, IntOp.muli]
    omega
  rw [e]
  exact coord_mul (by omega)

/-- The position's block. -/
theorem pos_eq (m : Vec Ideal S1x16x256x256 .f32) (x : Vec Ideal S1x16x256x256 .f32) (y : Vec Ideal S1x1x256x256 .f32)
    (z s : EReal) (p : Vec Ideal S1x16x4 .f32) (a : Fin 1) (o : Fin 16) (l : Fin 4) :
    k0_pay16 (k0_pay3 m) (k0_pay8 (k0_pay4 x y) 256#32 (k0_pay5 x y) (k0_pay6 x y))
        (k0_pay9 (k0_pay4 x y) 256#32 (k0_pay5 x y) (k0_pay6 x y)) z s k0_pay12 k0_pay13 k0_pay14 p (ix3 a o l)
      = blend (p (ix3 0 o l)) (fresh (sample x y o) z s l) (flag (peak fun h w => m (ix4 0 o h w))) := by
  pointwise [k0_pay16, k0_pay15, k0_pay12, k0_pay13, k0_pay14]
  rw [x_eq, y_eq, flag_eq, blend]
  congr 2
  fin_cases l <;> rfl

/-- The gestalt's block: kept where the flag is one, zero where it is zero. -/
theorem ges_eq (m : Vec Ideal S1x16x256x256 .f32) (g : Vec Ideal S1x16x256 .f32) (a : Fin 1) (o : Fin 16) (l : Fin 256) :
    k0_pay17 (k0_pay3 m) g (ix3 a o l) = blend (g (ix3 0 o l)) 0 (flag (peak fun h w => m (ix4 0 o h w))) := by
  pointwise [k0_pay17]
  rw [flag_eq, blend, zero_mul, add_zero]

/-- The priority's block. -/
theorem pri_eq (m : Vec Ideal S1x16x256x256 .f32) (p q : Vec Ideal S1x16x1 .f32) (a : Fin 1) (o : Fin 16) (l : Fin 1) :
    k0_pay1 (k0_pay18 (k0_pay3 m) p q) (ix3 a o l)
      = blend (p (ix3 0 o 0)) (q (ix3 0 o 0)) (flag (peak fun h w => m (ix4 0 o h w))) := by
  pointwise [k0_pay1, k0_pay18, k0_pay15]
  rw [flag_eq, blend]

/-- The flags' block. -/
theorem bm_eq (m : Vec Ideal S1x16x256x256 .f32) (a : Fin 1) (o : Fin 16) (l : Fin 1) :
    k0_pay2 (k0_pay3 m) (ix3 a o l) = flag (peak fun h w => m (ix4 0 o h w)) := by
  pointwise [k0_pay2]
  rw [flag_eq]

end Cert.Proof.Kernel

end
-- ==== Proof.Stored.lean ====
/-
  What the body leaves in the four result blocks of one image: one store of each, the whole block.
-/
module

public import proofs.«01_k».proof.Proof.Block
public import proofs.«01_k».proof.Proof.Gen.KernelIdeal.Frame

@[expose] public section

noncomputable section

namespace Cert.Proof.Kernel

open Idealize.ShloMosaic Idealize.ShloMosaic.TcCoe Idealize.SL.Sem Cert.KernelIdeal Cert.KernelIdeal.Gen Cert.Proof.Spec

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The load of all of a buffer that holds `x`. -/
abbrev all {s : Shape} {e : EltTy} {M : Memref sig .tc .vmem s e} (h : M.IsWhole) (r : Rect s) (x : Vec Ideal s e) :=
  View.readAt (Elt Ideal) M.view r.toLoadRect (h.unread x)

theorem all_eq {s : Shape} {e : EltTy} {M : Memref sig .tc .vmem s e} (h : M.IsWhole) {z : Fin s.rank → Nat} (hz : z = fun _ => 0)
    (inb) (x : Vec Ideal s e) : all h (Rect.unit (s := s) z s.size inb) x = x := by
  show View.readAt _ _ _ _ = _
  rw [View.readAt_eq_ld, h.read_unread, View.ld_unit_zero hz]

variable (m : (ℓ : Loc nD τ sig) → Buf (Elt Ideal) ℓ)

theorem stored_pos (c : Dev nD) (t : Fin cfg0.N) : (outsAt0 m c t).1
    = k0_pay16 (k0_pay3 (X0_0 m c t))
        (k0_pay8 (k0_pay4 (iblk m c 1 t) (iblk m c 2 t)) 256#32 (k0_pay5 (iblk m c 1 t) (iblk m c 2 t)) (k0_pay6 (iblk m c 1 t) (iblk m c 2 t)))
        (k0_pay9 (k0_pay4 (iblk m c 1 t) (iblk m c 2 t)) 256#32 (k0_pay5 (iblk m c 1 t) (iblk m c 2 t)) (k0_pay6 (iblk m c 1 t) (iblk m c 2 t)))
        (k0_pay10 (iblk m c 8 t)) (k0_pay11 (iblk m c 7 t)) k0_pay12 k0_pay13 k0_pay14 (iblk m c 3 t) := by
  dsimp only [outsAt0]
  unfold out0_A_9
  rw [View.read_writes_junk_eq_canon]
  let g := all (hs0_1 t) (Rect.unit (s := S1x16x256x256) ![0, 0, 0, 0] S1x16x256x256.size inb_S1x16x256x256_S1x16x256x256_0_0_0_0) (iblk m c 1 t)
  let l := all (hs0_2 t) (Rect.unit (s := S1x1x256x256) ![0, 0, 0, 0] S1x1x256x256.size inb_S1x1x256x256_S1x1x256x256_0_0_0_0) (iblk m c 2 t)
  show View.canon ([⟨Rect.unit (s := S1x16x4) ![0, 0, 0] S1x16x4.size inb_S1x16x4_S1x16x4_0_0_0,
      k0_pay16
        (k0_pay3 (all (hs0_0 t) (Rect.unit (s := S1x16x256x256) ![0, 0, 0, 0] S1x16x256x256.size inb_S1x16x256x256_S1x16x256x256_0_0_0_0) (X0_0 m c t)))
        (k0_pay8 (k0_pay4 g l) 256#32 (k0_pay5 g l) (k0_pay6 g l)) (k0_pay9 (k0_pay4 g l) 256#32 (k0_pay5 g l) (k0_pay6 g l))
        (k0_pay10 (all (hs0_8 t) (Rect.unit (s := S1x1) ![0, 0] S1x1.size inb_S1x1_S1x1_0_0) (iblk m c 8 t)))
        (k0_pay11 (all (hs0_7 t) (Rect.unit (s := S1x1) ![0, 0] S1x1.size inb_S1x1_S1x1_0_0) (iblk m c 7 t)))
        k0_pay12 k0_pay13 k0_pay14
        (all (hs0_3 t) (Rect.unit (s := S1x16x4) ![0, 0, 0] S1x16x4.size inb_S1x16x4_S1x16x4_0_0_0) (iblk m c 3 t))⟩] :
      List (View.Piece (Elt Ideal) S1x16x4 .f32)) = _
  rw [View.canon_unit_zero zero3]
  have eg : g = iblk m c 1 t := all_eq _ zero4 _ _
  have el : l = iblk m c 2 t := all_eq _ zero4 _ _
  rw [eg, el, all_eq _ zero4, all_eq _ zero2, all_eq _ zero2, all_eq _ zero3]

theorem stored_ges (c : Dev nD) (t : Fin cfg0.N) :
    (outsAt0 m c t).2.1 = k0_pay17 (k0_pay3 (X0_0 m c t)) (iblk m c 4 t) := by
  dsimp only [outsAt0]
  unfold out0_A_10
  rw [View.read_writes_junk_eq_canon]
  show View.canon ([⟨Rect.unit (s := S1x16x256) ![0, 0, 0] S1x16x256.size inb_S1x16x256_S1x16x256_0_0_0,
      k0_pay17
        (k0_pay3 (all (hs0_0 t) (Rect.unit (s := S1x16x256x256) ![0, 0, 0, 0] S1x16x256x256.size inb_S1x16x256x256_S1x16x256x256_0_0_0_0) (X0_0 m c t)))
        (all (hs0_4 t) (Rect.unit (s := S1x16x256) ![0, 0, 0] S1x16x256.size inb_S1x16x256_S1x16x256_0_0_0) (iblk m c 4 t))⟩] :
      List (View.Piece (Elt Ideal) S1x16x256 .f32)) = _
  rw [View.canon_unit_zero zero3, all_eq _ zero4, all_eq _ zero3]

theorem stored_pri (c : Dev nD) (t : Fin cfg0.N) :
    (outsAt0 m c t).2.2.1 = k0_pay1 (k0_pay18 (k0_pay3 (X0_0 m c t)) (iblk m c 5 t) (iblk m c 6 t)) := by
  dsimp only [outsAt0]
  unfold out0_A_11
  rw [View.read_writes_junk_eq_canon]
  show View.canon ([⟨Rect.unit (s := S1x16x1) ![0, 0, 0] S1x16x1.size inb_S1x16x1_S1x16x1_0_0_0,
      k0_pay1 (k0_pay18
        (k0_pay3 (all (hs0_0 t) (Rect.unit (s := S1x16x256x256) ![0, 0, 0, 0] S1x16x256x256.size inb_S1x16x256x256_S1x16x256x256_0_0_0_0) (X0_0 m c t)))
        (all (hs0_5 t) (Rect.unit (s := S1x16x1) ![0, 0, 0] S1x16x1.size inb_S1x16x1_S1x16x1_0_0_0) (iblk m c 5 t))
        (all (hs0_6 t) (Rect.unit (s := S1x16x1) ![0, 0, 0] S1x16x1.size inb_S1x16x1_S1x16x1_0_0_0) (iblk m c 6 t)))⟩] :
      List (View.Piece (Elt Ideal) S1x16x1 .f32)) = _
  rw [View.canon_unit_zero zero3, all_eq _ zero4, all_eq _ zero3, all_eq _ zero3]

theorem stored_bm (c : Dev nD) (t : Fin cfg0.N) :
    (outsAt0 m c t).2.2.2 = k0_pay2 (k0_pay3 (X0_0 m c t)) := by
  dsimp only [outsAt0]
  unfold out0_A_12
  rw [View.read_writes_junk_eq_canon]
  show View.canon ([⟨Rect.unit (s := S1x16x1) ![0, 0, 0] S1x16x1.size inb_S1x16x1_S1x16x1_0_0_0,
      k0_pay2
        (k0_pay3 (all (hs0_0 t) (Rect.unit (s := S1x16x256x256) ![0, 0, 0, 0] S1x16x256x256.size inb_S1x16x256x256_S1x16x256x256_0_0_0_0) (X0_0 m c t)))⟩] :
      List (View.Piece (Elt Ideal) S1x16x1 .f32)) = _
  rw [View.canon_unit_zero zero3, all_eq _ zero4]

end Cert.Proof.Kernel

end
-- ==== Proof.Logits.lean ====
/-
  The logits that every slot of an image samples from: the logarithm of the image's error map, or of noise where the error is
  nowhere above its threshold, scaled to sum to one. The reference and the kernel's host code compute them by the same operations.
-/
module

public import proofs.«01_k».proof.Proof.Gen.KernelIdeal.Launch

@[expose] public section

noncomputable section

namespace Cert.Proof

open Idealize.ShloMosaic Cert.KernelIdeal Cert.KernelIdeal.Gen

variable {F : FTy → Type} [FloatOps F]

/-- Per image, one where the error map somewhere exceeds 0.1, else zero. -/
def wrong (E : FVec F S32x1x256x256 .f32) : FVec F S32x1x1x1 .f32 :=
  uitofp .f32 (cmpf .ogt
    (broadcastInDim S32x1x1x1 ![0, 1] bcast_S32x1_S32x1x1x1_0_1
      (Host.reduce FloatOps.maximumf E (constant S_ .f32 0xFF800000#32) reducesTo_S32x1x256x256_S32x1_d2_3 h_S_))
    (broadcastInDim S32x1x1x1 ![] bcast_S_S32x1x1x1 (constant S_ .f32 0x3DCCCCCD#32)))

/-- The error map `E`, or the noise `N` where the image is nowhere wrong. -/
def chosen (E : FVec F S32x1x256x256 .f32) (e : FVec F S32x1x1x1 .f32) (N : FVec F S32x1x256x256 .f32) : FVec F S32x1x256x256 .f32 :=
  addf (mulf E (broadcastInDim S32x1x256x256 ![0, 1, 2, 3] bcast_S32x1x1x1_S32x1x256x256_0_1_2_3 e))
    (mulf N (broadcastInDim S32x1x256x256 ![0, 1, 2, 3] bcast_S32x1x1x1_S32x1x256x256_0_1_2_3
      (subf (broadcastInDim S32x1x1x1 ![] bcast_S_S32x1x1x1 (constant S_ .f32 0x3F800000#32)) e)))

/-- The logits of a map, cells in one row. -/
def logits (X : FVec F S32x1x256x256 .f32) : FVec F S32x65536 .f32 :=
  Host.log (addf
    (shapeCast S32x65536
      (Host.divf X (broadcastInDim S32x1x256x256 ![0, 1, 2, 3] bcast_S32x1x1x1_S32x1x256x256_0_1_2_3
        (broadcastInDim S32x1x1x1 ![0] bcast_S32_S32x1x1x1_0
          (Host.reduceAdd X (constant S_ .f32 0x00000000#32) reducesTo_S32x1x256x256_S32_d1_2_3 h_S_))))
      shapeCasts_S32x1x256x256_S32x65536)
    (broadcastInDim S32x65536 ![] bcast_S_S32x65536 (constant S_ .f32 0x1E3CE508#32)))

end Cert.Proof

end
-- ==== Proof.Answer.lean ====
/-
  The four results, as functions of the arguments and of the two arrays of random numbers: the common ground of the two programs.
-/
module

public import proofs.«01_k».proof.Proof.Logits
public import proofs.«01_k».proof.Proof.Spec

@[expose] public section

noncomputable section

namespace Cert.Proof

open Idealize.ShloMosaic Cert.KernelIdeal Cert.Proof.Spec

/-- The slot, and the place inside the slot, of a column of a result that holds `k` numbers per slot. -/
abbrev slot (k : ℕ) (q : Fin (16 * k)) : Fin 16 := ⟨q.val / k, Nat.div_lt_of_lt_mul (Nat.mul_comm 16 k ▸ q.isLt)⟩
abbrev spot (k : ℕ) (hk : 0 < k) (q : Fin (16 * k)) : Fin k := ⟨q.val % k, Nat.mod_lt _ hk⟩

/-- Whether slot `o` of image `b` is seen: one or zero. -/
def seen (A : Vec Ideal S32x17x256x256 .f32) (b : Fin 32) (o : Fin 16) : EReal :=
  flag (peak fun h w => A (ix4 b (o.castLE (by decide)) h w))

/-- The cell that slot `o` of image `b` samples: the first where its Gumbel noise plus the image's logits is greatest. -/
def cell (G : Vec Ideal S16x32x65536 .f32) (L : Vec Ideal S32x65536 .f32) (b : Fin 32) (o : Fin 16) : ℕ :=
  first fun n => G (ix3 o b n) + L (ix2 b n)

/-- The positions. -/
def ansPos (A : Vec Ideal S32x17x256x256 .f32) (G : Vec Ideal S16x32x65536 .f32) (L : Vec Ideal S32x65536 .f32)
    (P : Vec Ideal S32x64 .f32) (s z : Vec Ideal S1 .f32) : Vec Ideal S32x64 .f32 := fun i =>
  blend (P i) (fresh (cell G L (i 0) (slot 4 (i 1))) (z (ix1 0)) (s (ix1 0)) (spot 4 (by decide) (i 1))) (seen A (i 0) (slot 4 (i 1)))

/-- The gestalts. -/
def ansGes (A : Vec Ideal S32x17x256x256 .f32) (P : Vec Ideal S32x4096 .f32) : Vec Ideal S32x4096 .f32 := fun i =>
  blend (P i) 0 (seen A (i 0) (slot 256 (i 1)))

/-- The priorities. -/
def ansPri (A : Vec Ideal S32x17x256x256 .f32) (P : Vec Ideal S32x16 .f32) (Q : Vec Ideal S16 .f32) : Vec Ideal S32x16 .f32 := fun i =>
  blend (P i) (Q (ix1 (i 1))) (seen A (i 0) (i 1))

/-- The flags. -/
def ansBm (A : Vec Ideal S32x17x256x256 .f32) : Vec Ideal S32x16 .f32 := fun i => seen A (i 0) (i 1)

end Cert.Proof

end
-- ==== Proof.Arrays.lean ====
/-
  The arrays that the kernel's pipeline leaves, as functions of the arrays that it reads: each image's block in its place.
-/
module

public import proofs.«01_k».proof.Proof.Stored
public import proofs.«01_k».proof.Proof.Answer
public import Idealize.ShloMosaic.Lib.Pipeline.ValueKit.Geometry

@[expose] public section

noncomputable section

namespace Cert.Proof.Kernel

open Idealize.ShloMosaic Idealize.ShloMosaic.TcCoe Idealize.SL.Sem Cert.KernelIdeal Cert.KernelIdeal.Gen Cert.Proof.Spec

/-- The image that a grid point works on. -/
def img (t : Fin cfg0.N) : Fin 32 := ⟨t.val, t.isLt⟩

theorem at0 : ∀ t : Fin cfg0.N, win0_0.index t = ![t.val, 0, 0, 0] := (by decide +kernel : ∀ t : Fin grid0.N, _)
theorem at1 : ∀ t : Fin cfg0.N, win0_1.index t = ![t.val, 0, 0, 0] := (by decide +kernel : ∀ t : Fin grid0.N, _)
theorem at2 : ∀ t : Fin cfg0.N, win0_2.index t = ![t.val, 0, 0, 0] := (by decide +kernel : ∀ t : Fin grid0.N, _)
theorem at3 : ∀ t : Fin cfg0.N, win0_3.index t = ![t.val, 0, 0] := (by decide +kernel : ∀ t : Fin grid0.N, _)
theorem at4 : ∀ t : Fin cfg0.N, win0_4.index t = ![t.val, 0, 0] := (by decide +kernel : ∀ t : Fin grid0.N, _)
theorem at5 : ∀ t : Fin cfg0.N, win0_5.index t = ![t.val, 0, 0] := (by decide +kernel : ∀ t : Fin grid0.N, _)
theorem at6 : ∀ t : Fin cfg0.N, win0_6.index t = ![0, 0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![t.val, 0, 0] := (by decide +kernel : ∀ t : Fin grid0.N, _)
theorem at10 : ∀ t : Fin cfg0.N, win0_10.index t = ![t.val, 0, 0] := (by decide +kernel : ∀ t : Fin grid0.N, _)
theorem at11 : ∀ t : Fin cfg0.N, win0_11.index t = ![t.val, 0, 0] := (by decide +kernel : ∀ t : Fin grid0.N, _)
theorem at12 : ∀ t : Fin cfg0.N, win0_12.index t = ![t.val, 0, 0] := (by decide +kernel : ∀ t : Fin grid0.N, _)

/-! A window's block of an array, at an index: the array at the image's place. -/

theorem read1 (t : Fin cfg0.N) (A : Vec Ideal S32x16x256x256 .f32) (a : Fin 1) (o : Fin 16) (h w : Fin 256) :
    ((cfg0.win 1).blk t).view.read (Elt Ideal) A (ix4 a o h w : S1x16x256x256.Idx) = A (ix4 (img t) o h w) := by
  blk_simp
  congr 1
  blk_ext [at1 t, img]

theorem read2 (t : Fin cfg0.N) (A : Vec Ideal S32x1x256x256 .f32) (a b : Fin 1) (h w : Fin 256) :
    ((cfg0.win 2).blk t).view.read (Elt Ideal) A (ix4 a b h w : S1x1x256x256.Idx) = A (ix4 (img t) 0 h w) := by
  blk_simp
  congr 1
  blk_ext [at2 t, img]

theorem read3 (t : Fin cfg0.N) (A : Vec Ideal S32x16x4 .f32) (a : Fin 1) (o : Fin 16) (l : Fin 4) :
    ((cfg0.win 3).blk t).view.read (Elt Ideal) A (ix3 a o l : S1x16x4.Idx) = A (ix3 (img t) o l) := by
  blk_simp
  congr 1
  blk_ext [at3 t, img]

theorem read4 (t : Fin cfg0.N) (A : Vec Ideal S32x16x256 .f32) (a : Fin 1) (o : Fin 16) (l : Fin 256) :
    ((cfg0.win 4).blk t).view.read (Elt Ideal) A (ix3 a o l : S1x16x256.Idx) = A (ix3 (img t) o l) := by
  blk_simp
  congr 1
  blk_ext [at4 t, img]

theorem read5 (t : Fin cfg0.N) (A : Vec Ideal S32x16x1 .f32) (a : Fin 1) (o : Fin 16) (l : Fin 1) :
    ((cfg0.win 5).blk t).view.read (Elt Ideal) A (ix3 a o l : S1x16x1.Idx) = A (ix3 (img t) o 0) := by
  blk_simp
  congr 1
  blk_ext [at5 t, img]

theorem read6 (t : Fin cfg0.N) (A : Vec Ideal S1x16x1 .f32) (a : Fin 1) (o : Fin 16) (l : Fin 1) :
    ((cfg0.win 6).blk t).view.read (Elt Ideal) A (ix3 a o l : S1x16x1.Idx) = A (ix3 0 o 0) := by
  blk_simp
  congr 1
  blk_ext [at6 t, img]

theorem read7 (t : Fin cfg0.N) (A : Vec Ideal S1x1 .f32) (a b : Fin 1) :
    ((cfg0.win 7).blk t).view.read (Elt Ideal) A (ix2 a b : S1x1.Idx) = A (ix2 0 0) := by
  blk_simp
  congr 1
  blk_ext [at7 t, img]

theorem read8 (t : Fin cfg0.N) (A : Vec Ideal S1x1 .f32) (a b : Fin 1) :
    ((cfg0.win 8).blk t).view.read (Elt Ideal) A (ix2 a b : S1x1.Idx) = A (ix2 0 0) := by
  blk_simp
  congr 1
  blk_ext [at8 t, img]

/-- The mask's block holds the first 16 of the array's 17 slots. -/
theorem read0 (t : Fin cfg0.N) (A : Vec Ideal S32x17x256x256 .f32) (a : Fin 1) (o : Fin 16) (h w : Fin 256) :
    (cfg0.win 0).fill (cfg0.grid.coords t) dflt0_0 (((cfg0.win 0).blk t).view.read (Elt Ideal) A) (ix4 a o h w : S1x16x256x256.Idx)
      = A (ix4 (img t) (o.castLE (by decide)) h w) := by
  unfold Pipeline.Window.fill
  rw [dif_pos (moved0_0 t _)]
  show A (((cfg0.win 0).blk t).view.emb _) = _
  congr 1
  have e := at0 t
  funext k; apply Fin.ext
  match k with
  | ⟨0, _⟩ => show win0_0.index t (0 : Fin 4) * 1 + 1 * a.val = t.val; rw [e]; show t.val * 1 + 1 * a.val = t.val; omega
  | ⟨1, _⟩ => show win0_0.index t (1 : Fin 4) * 16 + 1 * o.val = o.val; rw [e]; show 0 * 16 + 1 * o.val = o.val; omega
  | ⟨2, _⟩ => show win0_0.index t (2 : Fin 4) * 256 + 1 * h.val = h.val; rw [e]; show 0 * 256 + 1 * h.val = h.val; omega
  | ⟨3, _⟩ => show win0_0.index t (3 : Fin 4) * 256 + 1 * w.val = w.val; rw [e]; show 0 * 256 + 1 * w.val = w.val; omega

/-! A result window's block lies at the image's place. -/

theorem place9 (t : Fin cfg0.N) (a : Fin 1) (o : Fin 16) (l : Fin 4) :
    ((cfg0.win 9).blk t).view.emb (ix3 a o l : S1x16x4.Idx) = (ix3 (img t) o l : S32x16x4.Idx) := by
  blk_ext [at9 t, img]

theorem place10 (t : Fin cfg0.N) (a : Fin 1) (o : Fin 16) (l : Fin 256) :
    ((cfg0.win 10).blk t).view.emb (ix3 a o l : S1x16x256.Idx) = (ix3 (img t) o l : S32x16x256.Idx) := by
  blk_ext [at10 t, img]

theorem place11 (t : Fin cfg0.N) (a : Fin 1) (o : Fin 16) (l : Fin 1) :
    ((cfg0.win 11).blk t).view.emb (ix3 a o l : S1x16x1.Idx) = (ix3 (img t) o l : S32x16x1.Idx) := by
  blk_ext [at11 t, img]

theorem place12 (t : Fin cfg0.N) (a : Fin 1) (o : Fin 16) (l : Fin 1) :
    ((cfg0.win 12).blk t).view.emb (ix3 a o l : S1x16x1.Idx) = (ix3 (img t) o l : S32x16x1.Idx) := by
  blk_ext [at12 t, img]

/-! The result arrays, as functions of the arrays that the windows read. -/

/-- The place that slot `o` of image `b` samples. -/
def place (G : Vec Ideal S32x16x256x256 .f32) (L : Vec Ideal S32x1x256x256 .f32) (b : Fin 32) (o : Fin 16) : ℕ :=
  first (flat fun h w => G (ix4 b o h w) + L (ix4 b 0 h w))

def posArr (A : Vec Ideal S32x17x256x256 .f32) (G : Vec Ideal S32x16x256x256 .f32) (L : Vec Ideal S32x1x256x256 .f32)
    (P : Vec Ideal S32x16x4 .f32) (s z : Vec Ideal S1x1 .f32) : Vec Ideal S32x16x4 .f32 := fun i =>
  blend (P i) (fresh (place G L (i 0) (i 1)) (z (ix2 0 0)) (s (ix2 0 0)) (i 2)) (seen A (i 0) (i 1))

def gesArr (A : Vec Ideal S32x17x256x256 .f32) (P : Vec Ideal S32x16x256 .f32) : Vec Ideal S32x16x256 .f32 := fun i =>
  blend (P i) 0 (seen A (i 0) (i 1))

def priArr (A : Vec Ideal S32x17x256x256 .f32) (P : Vec Ideal S32x16x1 .f32) (Q : Vec Ideal S1x16x1 .f32) :
    Vec Ideal S32x16x1 .f32 := fun i =>
  blend (P (ix3 (i 0) (i 1) 0)) (Q (ix3 0 (i 1) 0)) (seen A (i 0) (i 1))

def bmArr (A : Vec Ideal S32x17x256x256 .f32) : Vec Ideal S32x16x1 .f32 := fun i => seen A (i 0) (i 1)

variable (m : (ℓ : Loc nD τ sig) → Buf (Elt Ideal) ℓ)

/-! The windows' blocks, of the arrays as the pipeline finds them. -/

theorem block0 (c : Dev nD) (t : Fin cfg0.N) (a : Fin 1) (o : Fin 16) (h w : Fin 256) :
    X0_0 m c t (ix4 a o h w : S1x16x256x256.Idx) = V m c main_arg1 (ix4 (img t) (o.castLE (by decide)) h w) := by
  unfold X0_0 iblk
  exact read0 t (V m c main_arg1) a o h w

theorem block1 (c : Dev nD) (t : Fin cfg0.N) (a : Fin 1) (o : Fin 16) (h w : Fin 256) :
    iblk m c 1 t (ix4 a o h w : S1x16x256x256.Idx) = V m c main_v17 (ix4 (img t) o h w) := by
  unfold iblk
  exact read1 t (V m c main_v17) a o h w

theorem block2 (c : Dev nD) (t : Fin cfg0.N) (a b : Fin 1) (h w : Fin 256) :
    iblk m c 2 t (ix4 a b h w : S1x1x256x256.Idx) = V m c main_v38 (ix4 (img t) 0 h w) := by
  unfold iblk
  exact read2 t (V m c main_v38) a b h w

theorem block3 (c : Dev nD) (t : Fin cfg0.N) (a : Fin 1) (o : Fin 16) (l : Fin 4) :
    iblk m c 3 t (ix3 a o l : S1x16x4.Idx) = V m c main_v39 (ix3 (img t) o l) := by
  unfold iblk
  exact read3 t (V m c main_v39) a o l

theorem block4 (c : Dev nD) (t : Fin cfg0.N) (a : Fin 1) (o : Fin 16) (l : Fin 256) :
    iblk m c 4 t (ix3 a o l : S1x16x256.Idx) = V m c main_v40 (ix3 (img t) o l) := by
  unfold iblk
  exact read4 t (V m c main_v40) a o l

theorem block5 (c : Dev nD) (t : Fin cfg0.N) (a : Fin 1) (o : Fin 16) (l : Fin 1) :
    iblk m c 5 t (ix3 a o l : S1x16x1.Idx) = V m c main_v41 (ix3 (img t) o 0) := by
  unfold iblk
  exact read5 t (V m c main_v41) a o l

theorem block6 (c : Dev nD) (t : Fin cfg0.N) (a : Fin 1) (o : Fin 16) (l : Fin 1) :
    iblk m c 6 t (ix3 a o l : S1x16x1.Idx) = V m c main_v42 (ix3 0 o 0) := by
  unfold iblk
  exact read6 t (V m c main_v42) a o l

theorem block7 (c : Dev nD) (t : Fin cfg0.N) (a b : Fin 1) :
    iblk m c 7 t (ix2 a b : S1x1.Idx) = V m c main_v43 (ix2 0 0) := by
  unfold iblk
  exact read7 t (V m c main_v43) a b

theorem block8 (c : Dev nD) (t : Fin cfg0.N) (a b : Fin 1) :
    iblk m c 8 t (ix2 a b : S1x1.Idx) = V m c main_v44 (ix2 0 0) := by
  unfold iblk
  exact read8 t (V m c main_v44) a b

theorem seen_block (c : Dev nD) (t : Fin cfg0.N) (o : Fin 16) :
    flag (peak fun h w => X0_0 m c t (ix4 0 o h w : S1x16x256x256.Idx)) = seen (V m c main_arg1) (img t) o := by
  unfold seen
  simp only [block0]

theorem sample_block (c : Dev nD) (t : Fin cfg0.N) (o : Fin 16) :
    sample (iblk m c 1 t) (iblk m c 2 t) o = place (V m c main_v17) (V m c main_v38) (img t) o := by
  unfold sample place
  simp only [block1, block2]

theorem depth_word (x : Vec Ideal S1x1 .f32) : k0_pay10 x = x (ix2 0 0) :=
  congrArg x (funext fun a => by match a with | ⟨0, _⟩ => rfl | ⟨1, _⟩ => rfl)

theorem spread_word (x : Vec Ideal S1x1 .f32) : k0_pay11 x = x (ix2 0 0) :=
  congrArg x (funext fun a => by match a with | ⟨0, _⟩ => rfl | ⟨1, _⟩ => rfl)

theorem final_pos (c : Dev nD) : (dats m 0 c).arrAt 9 cfg0.N
    = posArr (V m c main_arg1) (V m c main_v17) (V m c main_v38) (V m c main_v39) (V m c main_v43) (V m c main_v44) := by
  refine (dats m 0 c).arrAt_eq_of_covers 9 _ (by decide +kernel) fun t hf y => ?_
  obtain ⟨a, o, l, rfl⟩ : ∃ (a : Fin 1) (o : Fin 16) (l : Fin 4), y = (ix3 a o l : S1x16x4.Idx) := ⟨y 0, y 1, y 2, eq_ix3 y⟩
  rw [place9]
  show (dats m 0 c).after 9 t (ix3 a o l : S1x16x4.Idx) = _
  rw [after0_9, stored_pos, pos_eq, seen_block, sample_block, block3, depth_word, spread_word, block7, block8]
  rfl

theorem final_ges (c : Dev nD) : (dats m 0 c).arrAt 10 cfg0.N = gesArr (V m c main_arg1) (V m c main_v40) := by
  refine (dats m 0 c).arrAt_eq_of_covers 10 _ (by decide +kernel) fun t hf y => ?_
  obtain ⟨a, o, l, rfl⟩ : ∃ (a : Fin 1) (o : Fin 16) (l : Fin 256), y = (ix3 a o l : S1x16x256.Idx) := ⟨y 0, y 1, y 2, eq_ix3 y⟩
  rw [place10]
  show (dats m 0 c).after 10 t (ix3 a o l : S1x16x256.Idx) = _
  rw [after0_10, stored_ges, ges_eq, seen_block, block4]
  rfl

theorem final_pri (c : Dev nD) : (dats m 0 c).arrAt 11 cfg0.N
    = priArr (V m c main_arg1) (V m c main_v41) (V m c main_v42) := by
  refine (dats m 0 c).arrAt_eq_of_covers 11 _ (by decide +kernel) fun t hf y => ?_
  obtain ⟨a, o, l, rfl⟩ : ∃ (a : Fin 1) (o : Fin 16) (l : Fin 1), y = (ix3 a o l : S1x16x1.Idx) := ⟨y 0, y 1, y 2, eq_ix3 y⟩
  rw [place11]
  show (dats m 0 c).after 11 t (ix3 a o l : S1x16x1.Idx) = _
  rw [after0_11, stored_pri, pri_eq, seen_block, block5, block6]
  rfl

theorem final_bm (c : Dev nD) : (dats m 0 c).arrAt 12 cfg0.N = bmArr (V m c main_arg1) := by
  refine (dats m 0 c).arrAt_eq_of_covers 12 _ (by decide +kernel) fun t hf y => ?_
  obtain ⟨a, o, l, rfl⟩ : ∃ (a : Fin 1) (o : Fin 16) (l : Fin 1), y = (ix3 a o l : S1x16x1.Idx) := ⟨y 0, y 1, y 2, eq_ix3 y⟩
  rw [place12]
  show (dats m 0 c).after 12 t (ix3 a o l : S1x16x1.Idx) = _
  rw [after0_12, stored_bm, bm_eq, seen_block]
  rfl

end Cert.Proof.Kernel

end
-- ==== Proof.KernelHost.lean ====
/-
  The kernel's host code before the pipeline: what the pipeline finds in the arrays that its windows read.
-/
module

public import proofs.«01_k».proof.Proof.Logits
public import proofs.«01_k».proof.Proof.Shift
public import proofs.«01_k».proof.Proof.Gen.KernelIdeal.Frame.Runs
public import Idealize.ShloMosaic.Lib.StableHlo.RunRead

@[expose] public section

set_option maxHeartbeats 4000000
set_option maxRecDepth 8192

noncomputable section

namespace Cert.Proof.Kernel

open Idealize.ShloMosaic Idealize.ShloMosaic.TcCoe Idealize.ShloMosaic.StableHlo Idealize.SL.Sem Cert.KernelIdeal Cert.KernelIdeal.Gen

variable {F : FTy → Type} [FloatOps F]

/-- The contents after the noise's key; after the noise; after the Gumbel noise's key; after the Gumbel noise. -/
def K1 (V : Valuation τ sig (Elt F)) : Valuation τ sig (Elt F) := after hostOps0 V
def K2 (V : Valuation τ sig (Elt F)) : Valuation τ sig (Elt F) := after hostOps0_1 (K1 V)
def K3 (V : Valuation τ sig (Elt F)) : Valuation τ sig (Elt F) := after hostOps0_2 (K2 V)
def K4 (V : Valuation τ sig (Elt F)) : Valuation τ sig (Elt F) := after hostOps0_3 (K3 V)

theorem host_cut (V : Valuation τ sig (Elt F)) :
    after (List.flatten [hostOps0, hostOps0_1, hostOps0_2, hostOps0_3, hostOps0_4]) V = after hostOps0_4 (K4 V) := by
  simp only [List.flatten_cons, List.flatten_nil, List.append_nil, after_app]
  rfl

theorem keepK2 (V : Valuation τ sig (Elt F)) (r : Ref sig .tc) (h : r.space = .hbm → r.idx.val < 20 ∨ 292 ≤ r.idx.val) :
    K2 V (Proc.devRef .tc r) = K1 V (Proc.devRef .tc r) := (shifted_uniform (F := F)).2.1 _ r h
theorem keepK4 (V : Valuation τ sig (Elt F)) (r : Ref sig .tc) (h : r.space = .hbm → r.idx.val < 302 ∨ 574 ≤ r.idx.val) :
    K4 V (Proc.devRef .tc r) = K3 V (Proc.devRef .tc r) := (shifted_gumbel (F := F)).2.1 _ r h

def args : List (Ref sig .tc) := [main_arg0, main_arg1, main_arg2, main_arg3, main_arg4, main_arg5, main_arg6, main_arg7]

theorem args_low : ∀ r ∈ args, r.idx.val < 8 := by decide

theorem kept_key (V : Valuation τ sig (Elt F)) : ∀ r ∈ args, K1 V (Proc.devRef .tc r) = V (Proc.devRef .tc r) := by
  simp only [args, List.forall_mem_cons, List.not_mem_nil, false_imp_iff, implies_true, and_true, K1]
  refine ⟨?_, ?_, ?_, ?_, ?_, ?_, ?_, ?_⟩ <;> after_reads_simp [hostOps0]
theorem kept_key2 (V : Valuation τ sig (Elt F)) : ∀ r ∈ args, K3 V (Proc.devRef .tc r) = K2 V (Proc.devRef .tc r) := by
  simp only [args, List.forall_mem_cons, List.not_mem_nil, false_imp_iff, implies_true, and_true, K3]
  refine ⟨?_, ?_, ?_, ?_, ?_, ?_, ?_, ?_⟩ <;> after_reads_simp [hostOps0_2]

theorem keptK4 (V : Valuation τ sig (Elt F)) (r) (h : r ∈ args) : K4 V (Proc.devRef .tc r) = V (Proc.devRef .tc r) := by
  have l := args_low r h
  rw [keepK4 V r fun _ => .inl (l.trans (by decide)), kept_key2 V r h, keepK2 V r fun _ => .inl (l.trans (by decide)), kept_key V r h]

/-! The arrays that the windows read. -/

theorem read_gumbel (V : Valuation τ sig (Elt F)) :
    after hostOps0_4 V (Proc.devRef .tc main_v17)
      = transpose S32x16x256x256 [1, 0, 2, 3] (shapeCast S16x32x256x256 (V (Proc.devRef .tc main_v15) : Vec F S16x32x65536 .f32)
          shapeCasts_S16x32x65536_S16x32x256x256) transposes_S16x32x256x256_S32x16x256x256_1_0_2_3 := by
  after_reads_simp [hostOps0_4]
  rfl

theorem read_logits (V : Valuation τ sig (Elt F)) :
    after hostOps0_4 V (Proc.devRef .tc main_v38)
      = shapeCast S32x1x256x256 (logits (chosen (V (Proc.devRef .tc main_arg0)) (wrong (V (Proc.devRef .tc main_arg0))) (V (Proc.devRef .tc main_v7))))
          shapeCasts_S32x65536_S32x1x256x256 := by
  after_reads_simp [hostOps0_4]
  rfl

theorem read_pos (V : Valuation τ sig (Elt F)) :
    after hostOps0_4 V (Proc.devRef .tc main_v39)
      = shapeCast S32x16x4 (V (Proc.devRef .tc main_arg2) : Vec F S32x64 .f32) shapeCasts_S32x64_S32x16x4 := by
  after_reads_simp [hostOps0_4]
  rfl

theorem read_ges (V : Valuation τ sig (Elt F)) :
    after hostOps0_4 V (Proc.devRef .tc main_v40)
      = shapeCast S32x16x256 (V (Proc.devRef .tc main_arg3) : Vec F S32x4096 .f32) shapeCasts_S32x4096_S32x16x256 := by
  after_reads_simp [hostOps0_4]
  rfl

theorem read_pri (V : Valuation τ sig (Elt F)) :
    after hostOps0_4 V (Proc.devRef .tc main_v41)
      = shapeCast S32x16x1 (V (Proc.devRef .tc main_arg4) : Vec F S32x16 .f32) shapeCasts_S32x16_S32x16x1 := by
  after_reads_simp [hostOps0_4]
  rfl

theorem read_pbuf (V : Valuation τ sig (Elt F)) :
    after hostOps0_4 V (Proc.devRef .tc main_v42)
      = shapeCast S1x16x1 (V (Proc.devRef .tc main_arg7) : Vec F S16 .f32) shapeCasts_S16_S1x16x1 := by
  after_reads_simp [hostOps0_4]
  rfl

theorem read_std (V : Valuation τ sig (Elt F)) :
    after hostOps0_4 V (Proc.devRef .tc main_v43)
      = shapeCast S1x1 (V (Proc.devRef .tc main_arg5) : Vec F S1 .f32) shapeCasts_S1_S1x1 := by
  after_reads_simp [hostOps0_4]
  rfl

theorem read_depth (V : Valuation τ sig (Elt F)) :
    after hostOps0_4 V (Proc.devRef .tc main_v44)
      = shapeCast S1x1 (V (Proc.devRef .tc main_arg6) : Vec F S1 .f32) shapeCasts_S1_S1x1 := by
  after_reads_simp [hostOps0_4]
  rfl

end Cert.Proof.Kernel

end
-- ==== Proof.KernelRun.lean ====
/-
  The kernel's results after a run, as functions of the arguments and of the random numbers that its host code draws.
-/
module

public import proofs.«01_k».proof.Proof.Arrays
public import proofs.«01_k».proof.Proof.KernelHost

@[expose] public section

set_option maxRecDepth 8192

noncomputable section

namespace Cert.Proof.Kernel

open Idealize.ShloMosaic Idealize.ShloMosaic.TcCoe Idealize.ShloMosaic.StableHlo Idealize.SL.Sem Cert.KernelIdeal Cert.KernelIdeal.Gen
open Cert.Proof.Spec

/-! The trailing reshapes, and the arrays that the windows read, in the answer's terms. -/

theorem place_eq (G : Vec Ideal S16x32x65536 .f32) (L : Vec Ideal S32x65536 .f32) (b : Fin 32) (o : Fin 16) :
    place (transpose S32x16x256x256 [1, 0, 2, 3] (shapeCast S16x32x256x256 G shapeCasts_S16x32x65536_S16x32x256x256)
        transposes_S16x32x256x256_S32x16x256x256_1_0_2_3)
      (shapeCast S32x1x256x256 L shapeCasts_S32x65536_S32x1x256x256) b o = cell G L b o := by
  unfold place cell
  congr 1
  funext n
  unfold flat
  pointwise

theorem pos_answer (A : Vec Ideal S32x17x256x256 .f32) (G : Vec Ideal S16x32x65536 .f32) (L : Vec Ideal S32x65536 .f32)
    (P : Vec Ideal S32x64 .f32) (s z : Vec Ideal S1 .f32) :
    shapeCast S32x64 (posArr A
        (transpose S32x16x256x256 [1, 0, 2, 3] (shapeCast S16x32x256x256 G shapeCasts_S16x32x65536_S16x32x256x256)
          transposes_S16x32x256x256_S32x16x256x256_1_0_2_3)
        (shapeCast S32x1x256x256 L shapeCasts_S32x65536_S32x1x256x256) (shapeCast S32x16x4 P shapeCasts_S32x64_S32x16x4)
        (shapeCast S1x1 s shapeCasts_S1_S1x1) (shapeCast S1x1 z shapeCasts_S1_S1x1)) shapeCasts_S32x16x4_S32x64
      = ansPos A G L P s z := by
  funext i
  idx_vars i
  pointwise [posArr, ansPos]
  rw [place_eq]

theorem ges_answer (A : Vec Ideal S32x17x256x256 .f32) (P : Vec Ideal S32x4096 .f32) :
    shapeCast S32x4096 (gesArr A (shapeCast S32x16x256 P shapeCasts_S32x4096_S32x16x256)) shapeCasts_S32x16x256_S32x4096
      = ansGes A P := by
  funext i
  idx_vars i
  pointwise [gesArr, ansGes]

theorem pri_answer (A : Vec Ideal S32x17x256x256 .f32) (P : Vec Ideal S32x16 .f32) (Q : Vec Ideal S16 .f32) :
    shapeCast S32x16 (priArr A (shapeCast S32x16x1 P shapeCasts_S32x16_S32x16x1) (shapeCast S1x16x1 Q shapeCasts_S16_S1x16x1))
      shapeCasts_S32x16x1_S32x16 = ansPri A P Q := by
  funext i
  idx_vars i
  pointwise [priArr, ansPri]

theorem bm_answer (A : Vec Ideal S32x17x256x256 .f32) :
    shapeCast S32x16 (bmArr A) shapeCasts_S32x16x1_S32x16 = ansBm A := by
  funext i
  idx_vars i
  pointwise [bmArr, ansBm]

theorem tail_read_pos (W : Valuation τ sig (Elt Ideal)) : after (List.flatten [hostOps1]) W (Proc.devRef .tc main_v46)
    = shapeCast S32x64 (W (Proc.devRef .tc main_v45_0) : Vec Ideal S32x16x4 .f32) shapeCasts_S32x16x4_S32x64 := by
  after_reads_simp [hostOps1]
  rfl

theorem tail_read_ges (W : Valuation τ sig (Elt Ideal)) : after (List.flatten [hostOps1]) W (Proc.devRef .tc main_v47)
    = shapeCast S32x4096 (W (Proc.devRef .tc main_v45_1) : Vec Ideal S32x16x256 .f32) shapeCasts_S32x16x256_S32x4096 := by
  after_reads_simp [hostOps1]
  rfl

theorem tail_read_pri (W : Valuation τ sig (Elt Ideal)) : after (List.flatten [hostOps1]) W (Proc.devRef .tc main_v48)
    = shapeCast S32x16 (W (Proc.devRef .tc main_v45_2) : Vec Ideal S32x16x1 .f32) shapeCasts_S32x16x1_S32x16 := by
  after_reads_simp [hostOps1]
  rfl

theorem tail_read_bm (W : Valuation τ sig (Elt Ideal)) : after (List.flatten [hostOps1]) W (Proc.devRef .tc main_v49)
    = shapeCast S32x16 (W (Proc.devRef .tc main_v45_3) : Vec Ideal S32x16x1 .f32) shapeCasts_S32x16x1_S32x16 := by
  after_reads_simp [hostOps1]
  rfl

variable (m : (ℓ : Loc nD τ sig) → Buf (Elt Ideal) ℓ)

theorem inj0 : Function.Injective (Pipeline.arrRef spec0) := by decide

theorem tail_pos (c : Dev nD) : Pipeline.afterTail₀ cfgs (dats m) 0 (V0 m) [hostOps1] c main_v46
    = shapeCast S32x64 ((dats m 0 c).arrAt 9 cfg0.N : Vec Ideal S32x16x4 .f32) shapeCasts_S32x16x4_S32x64 := by
  rw [← Pipeline.withArrays_arr spec0 inj0 c (V0 m c) (fun w => (dats m 0 c).arrAt w cfg0.N) 9]
  exact tail_read_pos _

theorem tail_ges (c : Dev nD) : Pipeline.afterTail₀ cfgs (dats m) 0 (V0 m) [hostOps1] c main_v47
    = shapeCast S32x4096 ((dats m 0 c).arrAt 10 cfg0.N : Vec Ideal S32x16x256 .f32) shapeCasts_S32x16x256_S32x4096 := by
  rw [← Pipeline.withArrays_arr spec0 inj0 c (V0 m c) (fun w => (dats m 0 c).arrAt w cfg0.N) 10]
  exact tail_read_ges _

theorem tail_pri (c : Dev nD) : Pipeline.afterTail₀ cfgs (dats m) 0 (V0 m) [hostOps1] c main_v48
    = shapeCast S32x16 ((dats m 0 c).arrAt 11 cfg0.N : Vec Ideal S32x16x1 .f32) shapeCasts_S32x16x1_S32x16 := by
  rw [← Pipeline.withArrays_arr spec0 inj0 c (V0 m c) (fun w => (dats m 0 c).arrAt w cfg0.N) 11]
  exact tail_read_pri _

theorem tail_bm (c : Dev nD) : Pipeline.afterTail₀ cfgs (dats m) 0 (V0 m) [hostOps1] c main_v49
    = shapeCast S32x16 ((dats m 0 c).arrAt 12 cfg0.N : Vec Ideal S32x16x1 .f32) shapeCasts_S32x16x1_S32x16 := by
  rw [← Pipeline.withArrays_arr spec0 inj0 c (V0 m c) (fun w => (dats m 0 c).arrAt w cfg0.N) 12]
  exact tail_read_bm _

/-! The random numbers, and the logits that they leave. -/

/-- The contents at the launch. -/
def start (c : Dev nD) : Valuation τ sig (Elt Ideal) := fun b => m (c, b)

def noise (c : Dev nD) : Vec Ideal S32x1x256x256 .f32 := K4 (start m c) (Proc.devRef .tc main_v7)
def gumbels (c : Dev nD) : Vec Ideal S16x32x65536 .f32 := K4 (start m c) (Proc.devRef .tc main_v15)

/-- The logits, of the errors as launched and the noise. -/
def logit (c : Dev nD) : Vec Ideal S32x65536 .f32 :=
  logits (F := Ideal) (chosen (m ((c.tc : Thread nD τ).loc main_arg0)) (wrong (m ((c.tc : Thread nD τ).loc main_arg0))) (noise m c))

theorem arg_of (c : Dev nD) (r : Ref sig .tc) (h : r ∈ args) : K4 (start m c) (Proc.devRef .tc r) = m ((c.tc : Thread nD τ).loc r) :=
  keptK4 _ r h

theorem found (c : Dev nD) (r : Ref sig .tc) : V m c r = after hostOps0_4 (K4 (start m c)) (Proc.devRef .tc r) :=
  congrFun (host_cut (start m c)) _

theorem found_mask (c : Dev nD) : V m c main_arg1 = m ((c.tc : Thread nD τ).loc main_arg1) := V_main_arg1 m c

theorem found_gumbel (c : Dev nD) : V m c main_v17
    = transpose S32x16x256x256 [1, 0, 2, 3] (shapeCast S16x32x256x256 (gumbels m c) shapeCasts_S16x32x65536_S16x32x256x256)
        transposes_S16x32x256x256_S32x16x256x256_1_0_2_3 := by
  rw [found, read_gumbel]; rfl

theorem found_logits (c : Dev nD) : V m c main_v38 = shapeCast S32x1x256x256 (logit m c) shapeCasts_S32x65536_S32x1x256x256 := by
  rw [found, read_logits, arg_of m c main_arg0 (by decide)]; rfl

theorem found_pos (c : Dev nD) : V m c main_v39
    = shapeCast S32x16x4 (m ((c.tc : Thread nD τ).loc main_arg2) : Vec Ideal S32x64 .f32) shapeCasts_S32x64_S32x16x4 := by
  rw [found, read_pos, arg_of m c main_arg2 (by decide)]

theorem found_ges (c : Dev nD) : V m c main_v40
    = shapeCast S32x16x256 (m ((c.tc : Thread nD τ).loc main_arg3) : Vec Ideal S32x4096 .f32) shapeCasts_S32x4096_S32x16x256 := by
  rw [found, read_ges, arg_of m c main_arg3 (by decide)]

theorem found_pri (c : Dev nD) : V m c main_v41
    = shapeCast S32x16x1 (m ((c.tc : Thread nD τ).loc main_arg4) : Vec Ideal S32x16 .f32) shapeCasts_S32x16_S32x16x1 := by
  rw [found, read_pri, arg_of m c main_arg4 (by decide)]

theorem found_pbuf (c : Dev nD) : V m c main_v42
    = shapeCast S1x16x1 (m ((c.tc : Thread nD τ).loc main_arg7) : Vec Ideal S16 .f32) shapeCasts_S16_S1x16x1 := by
  rw [found, read_pbuf, arg_of m c main_arg7 (by decide)]

theorem found_std (c : Dev nD) : V m c main_v43
    = shapeCast S1x1 (m ((c.tc : Thread nD τ).loc main_arg5) : Vec Ideal S1 .f32) shapeCasts_S1_S1x1 := by
  rw [found, read_std, arg_of m c main_arg5 (by decide)]

theorem found_depth (c : Dev nD) : V m c main_v44
    = shapeCast S1x1 (m ((c.tc : Thread nD τ).loc main_arg6) : Vec Ideal S1 .f32) shapeCasts_S1_S1x1 := by
  rw [found, read_depth, arg_of m c main_arg6 (by decide)]

/-! The results. -/

theorem rest46 : main_v46 ∈ Pipeline.restRefs sig spec0 := by decide
theorem rest47 : main_v47 ∈ Pipeline.restRefs sig spec0 := by decide
theorem rest48 : main_v48 ∈ Pipeline.restRefs sig spec0 := by decide
theorem rest49 : main_v49 ∈ Pipeline.restRefs sig spec0 := by decide

theorem result_pos (c : Dev nD) : Pipeline.afterTail₀ cfgs (dats m) 0 (V0 m) [hostOps1] c main_v46
    = ansPos (m ((c.tc : Thread nD τ).loc main_arg1)) (gumbels m c) (logit m c) (m ((c.tc : Thread nD τ).loc main_arg2))
        (m ((c.tc : Thread nD τ).loc main_arg5)) (m ((c.tc : Thread nD τ).loc main_arg6)) := by
  rw [tail_pos, final_pos, found_mask, found_gumbel, found_logits, found_pos, found_std, found_depth, pos_answer]

theorem result_ges (c : Dev nD) : Pipeline.afterTail₀ cfgs (dats m) 0 (V0 m) [hostOps1] c main_v47
    = ansGes (m ((c.tc : Thread nD τ).loc main_arg1)) (m ((c.tc : Thread nD τ).loc main_arg3)) := by
  rw [tail_ges, final_ges, found_mask, found_ges, ges_answer]

theorem result_pri (c : Dev nD) : Pipeline.afterTail₀ cfgs (dats m) 0 (V0 m) [hostOps1] c main_v48
    = ansPri (m ((c.tc : Thread nD τ).loc main_arg1)) (m ((c.tc : Thread nD τ).loc main_arg4)) (m ((c.tc : Thread nD τ).loc main_arg7)) := by
  rw [tail_pri, final_pri, found_mask, found_pri, found_pbuf, pri_answer]

theorem result_bm (c : Dev nD) : Pipeline.afterTail₀ cfgs (dats m) 0 (V0 m) [hostOps1] c main_v49
    = ansBm (m ((c.tc : Thread nD τ).loc main_arg1)) := by
  rw [tail_bm, final_bm, found_mask, bm_answer]

variable (ρ : Dev nD → PrngReg)

/-- The kernel's results after a run. -/
theorem run : θ_run defs (onTc (τ := τ) (main (F := Ideal))) ⟨m, fun _ => 0, ρ⟩ (fun r => ∀ c : Dev nD,
      r.2.mem ((c.tc : Thread nD τ).loc main_v46)
        = ansPos (m ((c.tc : Thread nD τ).loc main_arg1)) (gumbels m c) (logit m c) (m ((c.tc : Thread nD τ).loc main_arg2))
            (m ((c.tc : Thread nD τ).loc main_arg5)) (m ((c.tc : Thread nD τ).loc main_arg6))
      ∧ r.2.mem ((c.tc : Thread nD τ).loc main_v47)
        = ansGes (m ((c.tc : Thread nD τ).loc main_arg1)) (m ((c.tc : Thread nD τ).loc main_arg3))
      ∧ r.2.mem ((c.tc : Thread nD τ).loc main_v48)
        = ansPri (m ((c.tc : Thread nD τ).loc main_arg1)) (m ((c.tc : Thread nD τ).loc main_arg4)) (m ((c.tc : Thread nD τ).loc main_arg7))
      ∧ r.2.mem ((c.tc : Thread nD τ).loc main_v49) = ansBm (m ((c.tc : Thread nD τ).loc main_arg1))) :=
  (θ_run defs _ _).mono (fun _ h c =>
    ⟨((h c).2 main_v46 rest46).trans (result_pos m c), ((h c).2 main_v47 rest47).trans (result_ges m c),
      ((h c).2 main_v48 rest48).trans (result_pri m c), ((h c).2 main_v49 rest49).trans (result_bm m c)⟩) (run_main m ρ)

end Cert.Proof.Kernel

end
-- ==== Proof.Argmax.lean ====
/-
  The reference's argmax over the cells, and its division of a cell into a row and a column.
-/
module

public import proofs.«01_k».proof.Proof.Answer
public import Idealize.ShloMosaic.Lib.Tactic.CleanTypes

@[expose] public section

noncomputable section

namespace Cert.Proof.Ref

open Idealize.ShloMosaic Cert.ReferenceIdeal Cert.Proof.Spec

/-- The greatest over all pairs of a row and a column is the greatest by rows. -/
theorem pair_peak (f : Fin 256 → Fin 256 → EReal) :
    (Finset.univ : Finset (Fin 256 × Fin 256)).fold max ⊥ (fun x => f x.1 x.2) = peak f :=
  le_antisymm (Finset.fold_max_le _ |>.2 ⟨bot_le, fun p _ => le_peak f p.1 p.2⟩)
    (peak_le fun h w => Finset.le_fold_max _ |>.2 (.inr ⟨(h, w), Finset.mem_univ _, le_rfl⟩))

/-- The cells of a slot and an image are the places of the array at that slot and that image. -/
theorem drop_iff (h : S16x32x65536.ReducesTo [2] S16x32) (i : S16x32x65536.Idx) (o : Fin 16) (b : Fin 32) :
    h.drop i = ix2 o b ↔ ∃ k : Fin 65536, i = ix3 o b k := by
  have h0 : (h.drop i 0 : Nat) = i 0 := Shape.ReducesTo.drop_apply_val h i 0
  have h1 : (h.drop i 1 : Nat) = i 1 := Shape.ReducesTo.drop_apply_val h i 1
  constructor
  · intro e
    rw [e] at h0 h1
    refine ⟨i 2, ?_⟩
    funext a
    match a with
    | ⟨0, _⟩ => exact Fin.ext h0.symm
    | ⟨1, _⟩ => exact Fin.ext h1.symm
    | ⟨2, _⟩ => rfl
  · rintro ⟨k, rfl⟩
    funext a
    match a with
    | ⟨0, _⟩ => exact Fin.ext h0
    | ⟨1, _⟩ => exact Fin.ext h1

/-- The reference's argmax gives the first place of the greatest value. -/
theorem argmax_eq (x : Vec Ideal S16x32x65536 .f32) (h : S16x32x65536.ReducesTo [2] S16x32) (hu : 0 < S_.numel)
    (o : Fin 16) (b : Fin 32) :
    (Host.argReduce (reducer_argmax_f32_i32 (F := Ideal)) x (iotaInDim S16x32x65536 32 2) (constant S_ .f32 0xFF800000#32)
      (constantI S_ 32 0#32) h hu (ix2 o b)).2 = BitVec.ofNat 32 (first fun n => x (ix3 o b n)) := by
  rw [Ideal.argReduce_eq_reduce2, Host.reduce2_eq_foldl_fiber]
  have hb : (constant (F := Ideal) S_ .f32 0xFF800000#32 (Shape.Idx.first hu), constantI S_ 32 0#32 (Shape.Idx.first hu))
      = ((⊥ : EReal), 0#32) := Prod.ext bot_bits rfl
  rw [hb]
  apply foldl_first (fun n => x (ix3 o b n))
  intro q
  simp only [Host.argReduceFiber, List.mem_map, List.mem_filter, List.mem_finRange, true_and, decide_eq_true_eq]
  constructor
  · rintro ⟨n, hn, rfl⟩
    obtain ⟨k, hk⟩ := (drop_iff h _ o b).1 hn
    exact ⟨k, by rw [hk]; rfl⟩
  · rintro ⟨k, rfl⟩
    refine ⟨S16x32x65536.rowMajor (ix3 o b k), ?_, ?_⟩
    · rw [Equiv.symm_apply_apply]; exact (drop_iff h _ o b).2 ⟨k, rfl⟩
    · rw [Equiv.symm_apply_apply]; rfl

/-! ## The row and the column of a cell -/

theorem quotient {n : ℕ} (h : n < 65536) : IntOp.divsi .host (BitVec.ofNat 32 n) 256#32 = BitVec.ofNat 32 (n / 256) :=
  Routing.divsi_word .host (by omega) (by decide) (by decide)

theorem rest {n : ℕ} (h : n < 65536) : IntOp.remsi .host (BitVec.ofNat 32 n) 256#32 = BitVec.ofNat 32 (n % 256) :=
  Routing.remsi_word .host (by omega) (by decide) (by decide)

/-- The sign of a cell's word: zero or one. -/
theorem sign_word {n : ℕ} (h : n < 65536) :
    (if BitVec.ofNat 32 n = 0 then (0 : BitVec 32) else if (BitVec.ofNat 32 n).msb = true then -1 else 1) = if n = 0 then 0 else 1 := by
  have h0 : BitVec.ofNat 32 n = 0 ↔ n = 0 := by
    rw [← BitVec.toNat_inj]; simp; omega
  have hm : (BitVec.ofNat 32 n).msb = false := by rw [BitVec.msb_eq_decide]; simp; omega
  simp only [h0, hm]
  rfl

/-- Rounding the quotient towards minus infinity changes nothing, since no cell is negative. -/
theorem floor_word {n : ℕ} (h : n < 65536) :
    Scalar.select
      (IntOp.andi
        (IntOp.cmpi .ne
          (if BitVec.ofNat 32 n = 0 then 0 else if (BitVec.ofNat 32 n).msb = true then -1 else 1)
          (if (256#32 : BitVec 32) = 0 then 0 else if (256#32).msb = true then -1 else 1 : BitVec 32))
        (IntOp.cmpi .ne (IntOp.remsi .host (BitVec.ofNat 32 n) 256#32) 0#32))
      (IntOp.subi (IntOp.divsi .host (BitVec.ofNat 32 n) 256#32) 1#32) (IntOp.divsi .host (BitVec.ofNat 32 n) 256#32)
      = BitVec.ofNat 32 (n / 256) := by
  rw [sign_word h, quotient h, rest h]
  by_cases h0 : n = 0
  · subst h0; rfl
  · have : IntOp.cmpi .ne (if n = 0 then 0 else 1 : BitVec 32)
        (if (256#32 : BitVec 32) = 0 then 0 else if (256#32).msb = true then -1 else 1 : BitVec 32) = 0#1 := by
      rw [if_neg h0]; rfl
    rw [this, IntOp.andi, BitVec.zero_and]
    rfl

/-- Nor does making the remainder's sign the divisor's. -/
theorem mod_word {n : ℕ} (h : n < 65536) :
    Scalar.select
      (IntOp.andi
        (IntOp.cmpi .ne (IntOp.cmpi .slt (IntOp.remsi .host (BitVec.ofNat 32 n) 256#32) 0#32) (IntOp.cmpi .slt 256#32 0#32))
        (IntOp.cmpi .ne (IntOp.remsi .host (BitVec.ofNat 32 n) 256#32) 0#32))
      (IntOp.addi (IntOp.remsi .host (BitVec.ofNat 32 n) 256#32) 256#32) (IntOp.remsi .host (BitVec.ofNat 32 n) 256#32)
      = BitVec.ofNat 32 (n % 256) := by
  rw [rest h]
  have : IntOp.cmpi .slt (BitVec.ofNat 32 (n % 256)) 0#32 = 0#1 := by
    have hs : (BitVec.ofNat 32 (n % 256)).slt 0#32 = false := by
      rw [BitVec.slt, toInt_word (by omega)]; simp; omega
    simp only [IntOp.cmpi, hs]; rfl
  rw [this]
  have e : IntOp.cmpi .ne 0#1 (IntOp.cmpi .slt 256#32 0#32) = 0#1 := by decide
  rw [e, IntOp.andi, BitVec.zero_and]
  rfl

end Cert.Proof.Ref

end
-- ==== Proof.RefValue.lean ====
/-
  The reference's results, as functions of the arguments and of the random numbers that it draws.
-/
module

public import proofs.«01_k».proof.Proof.RefSplit
public import proofs.«01_k».proof.Proof.Argmax
public import Idealize.ShloMosaic.Lib.StableHlo.ReadAt
public import Idealize.ShloMosaic.Lib.Tactic.CleanTypes

@[expose] public section

set_option maxHeartbeats 4000000
set_option maxRecDepth 8192

noncomputable section

namespace Cert.Proof.Ref

open Idealize.ShloMosaic Idealize.ShloMosaic.TcCoe Idealize.ShloMosaic.StableHlo Idealize.SL.Sem Cert.ReferenceIdeal Cert.Proof.Spec

variable (d : Dev nD) (V : Valuation τ sig (Elt Ideal))

/-- The image and the slot of one of the 512 rows. -/
abbrev img (p : Fin 512) : Fin 32 := ⟨p.val / 16, by omega⟩
abbrev obj (p : Fin 512) : Fin 16 := ⟨p.val % 16, by omega⟩

/-- The flags, one row per slot of an image. -/
theorem pre_bm (p : Fin 512) (a : Fin 1) : (after (pre d) V (Proc.devRef .tc main_v5) : Vec Ideal S512x1 .f32) (ix2 p a)
    = seen (V (Proc.devRef .tc main_arg1)) (img p) (obj p) := by
  after_reads_at
  refine (bit_nat _).trans ?_
  unfold seen flag
  rw [bot_bits]
  rw [pair_peak (fun h w => (V (Proc.devRef .tc main_arg1) : Vec Ideal S32x17x256x256 .f32) (ix4 (img p) ⟨p.val % 16, by omega⟩ h w))]
  rfl

theorem pre_ges (p : Fin 512) (l : Fin 256) : (after (pre d) V (Proc.devRef .tc main_v14) : Vec Ideal S512x256 .f32) (ix2 p l)
    = blend ((V (Proc.devRef .tc main_arg3) : Vec Ideal S32x4096 .f32) (ix2 (img p) ⟨p.val % 16 * 256 + l.val, by omega⟩)) 0
      (seen (V (Proc.devRef .tc main_arg1)) (img p) (obj p)) := by
  rw [← pre_bm d V p 0]
  after_reads_at
  rfl

theorem pre_pri (p : Fin 512) (a : Fin 1) : (after (pre d) V (Proc.devRef .tc main_v25) : Vec Ideal S512x1 .f32) (ix2 p a)
    = blend ((V (Proc.devRef .tc main_arg4) : Vec Ideal S32x16 .f32) (ix2 (img p) (obj p)))
      ((V (Proc.devRef .tc main_arg7) : Vec Ideal S16 .f32) (ix1 (obj p)))
      (seen (V (Proc.devRef .tc main_arg1)) (img p) (obj p)) := by
  rw [← pre_bm d V p 0]
  after_reads_at
  rfl

/-! ## After the Gumbel noise -/

/-- What the reference does after the Gumbel noise: it samples the cells, makes the four columns of the new positions from them,
    and mixes the new values with the old. -/
def sample : List (HloOp τ sig (Elt Ideal)) := (post d).take 8
def place : List (HloOp τ sig (Elt Ideal)) := ((post d).drop 8).take 65
def mix : List (HloOp τ sig (Elt Ideal)) := ((post d).drop 8).drop 65

theorem post_cut : after (post d) V = after (mix d) (after (place d) (after (sample d) V)) := by
  rw [← after_app, ← after_app]
  refine congrArg (fun l => after l V) ?_
  rw [place, mix, List.take_append_drop, sample, List.take_append_drop]

/-- The sampled cells. -/
theorem sampled (o : Fin 16) (b : Fin 32) :
    (after (sample d) V (Proc.devRef .tc main_v65) : Vec Ideal S16x32 .i32) (ix2 o b)
      = BitVec.ofNat 32 (cell (V (Proc.devRef .tc main_v61)) (V (Proc.devRef .tc main_v53)) b o) := by
  after_reads_at
  refine (argmax_eq _ _ _ o b).trans ?_
  unfold cell
  congr 2
  funext n
  pointwise

theorem constant_here : id (constantI S_ 32 256#32) ix0 = 256#32 := rfl

/-- The columns: the cell's column and row, … -/
theorem place_x (p : Fin 512) (a : Fin 1) {n : ℕ} (hn : n < 65536)
    (h : (V (Proc.devRef .tc main_v65) : Vec Ideal S16x32 .i32) (ix2 (obj p) (img p)) = BitVec.ofNat 32 n) :
    (after (place d) V (Proc.devRef .tc main_v79) : Vec Ideal S512x1 .f32) (ix2 p a) = coord (n % 256) := by
  after_reads_at
  have one : Scalar.select (IntOp.cmpi .eq (256#32) 0#32) (1#32) 256#32 = 256#32 := rfl
  rw [h, constant_here, one]
  refine Eq.trans ?_ (coord_div (n := n % 256) (by omega))
  rw [← mod_word hn]
  rfl

theorem place_y (p : Fin 512) (a : Fin 1) {n : ℕ} (hn : n < 65536)
    (h : (V (Proc.devRef .tc main_v65) : Vec Ideal S16x32 .i32) (ix2 (obj p) (img p)) = BitVec.ofNat 32 n) :
    (after (place d) V (Proc.devRef .tc main_v80) : Vec Ideal S512x1 .f32) (ix2 p a) = coord (n / 256) := by
  after_reads_at
  rw [h, constant_here]
  refine Eq.trans ?_ (coord_div (n := n / 256) (by omega))
  rw [← floor_word hn]
  rfl

/-- … the depth and the spread. -/
theorem place_z (p : Fin 512) (a : Fin 1) : (after (place d) V (Proc.devRef .tc main_v88) : Vec Ideal S512x1 .f32) (ix2 p a)
    = (V (Proc.devRef .tc main_arg6) : Vec Ideal S1 .f32) (ix1 0) := by
  after_reads_at

theorem place_s (p : Fin 512) (a : Fin 1) : (after (place d) V (Proc.devRef .tc main_v84) : Vec Ideal S512x1 .f32) (ix2 p a)
    = (V (Proc.devRef .tc main_arg5) : Vec Ideal S1 .f32) (ix1 0) := by
  after_reads_at

/-- The mixing, from what the columns and the flags hold. -/
theorem mixed (b : Fin 32) (q : Fin 64) (n : ℕ) (z s bm : EReal)
    (hx : ∀ a : Fin 1, (V (Proc.devRef .tc main_v79) : Vec Ideal S512x1 .f32) (ix2 ⟨b.val * 16 + q.val / 4, by omega⟩ a) = coord (n % 256))
    (hy : ∀ a : Fin 1, (V (Proc.devRef .tc main_v80) : Vec Ideal S512x1 .f32) (ix2 ⟨b.val * 16 + q.val / 4, by omega⟩ a) = coord (n / 256))
    (hz : ∀ a : Fin 1, (V (Proc.devRef .tc main_v88) : Vec Ideal S512x1 .f32) (ix2 ⟨b.val * 16 + q.val / 4, by omega⟩ a) = z)
    (hs : ∀ a : Fin 1, (V (Proc.devRef .tc main_v84) : Vec Ideal S512x1 .f32) (ix2 ⟨b.val * 16 + q.val / 4, by omega⟩ a) = s)
    (hb : ∀ a : Fin 1, (V (Proc.devRef .tc main_v5) : Vec Ideal S512x1 .f32) (ix2 ⟨b.val * 16 + q.val / 4, by omega⟩ a) = bm) :
    (after (mix d) V (Proc.devRef .tc main_v98) : Vec Ideal S32x64 .f32) (ix2 b q)
      = blend ((V (Proc.devRef .tc main_arg2) : Vec Ideal S32x64 .f32) (ix2 b q)) (fresh n z s (spot 4 (by decide) q)) bm := by
  have he : (ix2 (⟨(b.val * 16 + q.val / 4) / 16, by omega⟩ : Fin 32) (⟨(b.val * 16 + q.val / 4) % 16 * 4 + q.val % 4, by omega⟩ : Fin 64))
      = ix2 b q := by
    congr 1 <;> exact Fin.ext (by dsimp only; omega)
  after_reads_at
  rw [he, hb, upto_zero]
  simp only [hx, hy, hz, hs]
  have hq : q.val % 4 = 0 ∨ q.val % 4 = 1 ∨ q.val % 4 = 2 ∨ q.val % 4 = 3 := by omega
  unfold blend
  congr 2
  rcases hq with h | h | h | h
  · have e : spot 4 (by decide) q = 0 := Fin.ext h
    rw [e, dif_pos (by omega)]; rfl
  · have e : spot 4 (by decide) q = 1 := Fin.ext h
    rw [e, dif_neg (by omega), dif_pos (by omega)]; rfl
  · have e : spot 4 (by decide) q = 2 := Fin.ext h
    rw [e, dif_neg (by omega), dif_neg (by omega), dif_pos (by omega)]; rfl
  · have e : spot 4 (by decide) q = 3 := Fin.ext h
    rw [e, dif_neg (by omega), dif_neg (by omega), dif_neg (by omega)]; rfl

theorem mixed_ges (b : Fin 32) (q : Fin 4096) : (after (mix d) V (Proc.devRef .tc main_v99) : Vec Ideal S32x4096 .f32) (ix2 b q)
    = (V (Proc.devRef .tc main_v14) : Vec Ideal S512x256 .f32) (ix2 ⟨b.val * 16 + q.val / 256, by omega⟩ ⟨q.val % 256, by omega⟩) := by
  after_reads_at

theorem mixed_pri (b : Fin 32) (o : Fin 16) : (after (mix d) V (Proc.devRef .tc main_v100) : Vec Ideal S32x16 .f32) (ix2 b o)
    = (V (Proc.devRef .tc main_v25) : Vec Ideal S512x1 .f32) (ix2 ⟨b.val * 16 + o.val, by omega⟩ 0) := by
  after_reads_at

theorem mixed_bm (b : Fin 32) (o : Fin 16) : (after (mix d) V (Proc.devRef .tc main_v101) : Vec Ideal S32x16 .f32) (ix2 b o)
    = (V (Proc.devRef .tc main_v5) : Vec Ideal S512x1 .f32) (ix2 ⟨b.val * 16 + o.val, by omega⟩ 0) := by
  after_reads_at

/-- What neither the sampling nor the columns write. -/
theorem place_keeps : ∀ r ∈ [main_v5, main_v14, main_v25, main_arg2],
    after (place d) V (Proc.devRef .tc r) = V (Proc.devRef .tc r) := by
  simp only [List.forall_mem_cons, List.not_mem_nil, false_imp_iff, implies_true, and_true]
  refine ⟨?_, ?_, ?_, ?_⟩ <;> after_reads_simp

theorem sample_keeps : ∀ r ∈ [main_v5, main_v14, main_v25, main_arg2, main_arg5, main_arg6],
    after (sample d) V (Proc.devRef .tc r) = V (Proc.devRef .tc r) := by
  simp only [List.forall_mem_cons, List.not_mem_nil, false_imp_iff, implies_true, and_true]
  refine ⟨?_, ?_, ?_, ?_, ?_, ?_⟩ <;> after_reads_simp

end Cert.Proof.Ref

end
-- ==== Proof.RefAnswer.lean ====
/-
  The reference's four results, whole: the answers, of its own two arrays of random numbers.
-/
module

public import proofs.«01_k».proof.Proof.RefValue

@[expose] public section

set_option maxHeartbeats 4000000
set_option maxRecDepth 8192

noncomputable section

namespace Cert.Proof.Ref

open Idealize.ShloMosaic Idealize.ShloMosaic.TcCoe Idealize.ShloMosaic.StableHlo Idealize.SL.Sem Cert.ReferenceIdeal Cert.Proof.Spec

variable (d : Dev nD) (V : Valuation τ sig (Elt Ideal))

/-! The rows and columns of the results and of the arrays of 512 rows. -/

theorem img_row (b : Fin 32) {n : ℕ} (h : n < 16) (l : b.val * 16 + n < 512) : img ⟨b.val * 16 + n, l⟩ = b :=
  Fin.ext (by show (b.val * 16 + n) / 16 = b.val; omega)

theorem obj_row (b : Fin 32) {n : ℕ} (h : n < 16) (l : b.val * 16 + n < 512) : obj ⟨b.val * 16 + n, l⟩ = ⟨n, h⟩ :=
  Fin.ext (by show (b.val * 16 + n) % 16 = n; omega)

/-! From the contents after the Gumbel noise to the results. -/

theorem pos_of (A : Vec Ideal S32x17x256x256 .f32)
    (hb : ∀ p a, (V (Proc.devRef .tc main_v5) : Vec Ideal S512x1 .f32) (ix2 p a) = seen A (img p) (obj p)) :
    after (post d) V (Proc.devRef .tc main_v98) = ansPos A (V (Proc.devRef .tc main_v61)) (V (Proc.devRef .tc main_v53))
      (V (Proc.devRef .tc main_arg2)) (V (Proc.devRef .tc main_arg5)) (V (Proc.devRef .tc main_arg6)) := by
  funext i
  obtain ⟨b, q, rfl⟩ : ∃ b q, i = ix2 b q := ⟨i 0, i 1, by funext a; match a with | ⟨0, _⟩ => rfl | ⟨1, _⟩ => rfl⟩
  rw [post_cut]
  have hq : q.val / 4 < 16 := by omega
  have hc : (after (sample d) V (Proc.devRef .tc main_v65) : Vec Ideal S16x32 .i32)
      (ix2 (obj ⟨b.val * 16 + q.val / 4, by omega⟩) (img ⟨b.val * 16 + q.val / 4, by omega⟩))
      = BitVec.ofNat 32 (cell (V (Proc.devRef .tc main_v61)) (V (Proc.devRef .tc main_v53)) b (slot 4 q)) := by
    rw [img_row b hq, obj_row b hq]; exact sampled d V _ b
  have hn : cell (V (Proc.devRef .tc main_v61)) (V (Proc.devRef .tc main_v53)) b (slot 4 q) < 65536 := first_lt _
  refine (mixed d _ b q _ _ _ (seen A b (slot 4 q)) (fun a => place_x d _ _ a hn hc) (fun a => place_y d _ _ a hn hc) (fun a => place_z d _ _ a)
    (fun a => place_s d _ _ a) (fun a => ?_)).trans ?_
  · rw [place_keeps d _ main_v5 (by decide), sample_keeps d _ main_v5 (by decide), hb, img_row b hq, obj_row b hq]
  · rw [place_keeps d _ main_arg2 (by decide), sample_keeps d _ main_arg2 (by decide), sample_keeps d _ main_arg5 (by decide),
      sample_keeps d _ main_arg6 (by decide)]
    rfl

theorem ges_of (A : Vec Ideal S32x17x256x256 .f32) (P : Vec Ideal S32x4096 .f32)
    (h : ∀ p l, (V (Proc.devRef .tc main_v14) : Vec Ideal S512x256 .f32) (ix2 p l)
      = blend (P (ix2 (img p) ⟨p.val % 16 * 256 + l.val, by omega⟩)) 0 (seen A (img p) (obj p))) :
    after (post d) V (Proc.devRef .tc main_v99) = ansGes A P := by
  funext i
  obtain ⟨b, q, rfl⟩ : ∃ b q, i = ix2 b q := ⟨i 0, i 1, by funext a; match a with | ⟨0, _⟩ => rfl | ⟨1, _⟩ => rfl⟩
  have hq : q.val / 256 < 16 := by omega
  have he : (⟨(b.val * 16 + q.val / 256) % 16 * 256 + q.val % 256, by omega⟩ : Fin 4096) = q := Fin.ext (by dsimp only; omega)
  rw [post_cut]
  refine (mixed_ges d _ b q).trans ?_
  rw [place_keeps d _ main_v14 (by decide), sample_keeps d _ main_v14 (by decide), h, img_row b hq, obj_row b hq, he]
  rfl

theorem pri_of (A : Vec Ideal S32x17x256x256 .f32) (P : Vec Ideal S32x16 .f32) (Q : Vec Ideal S16 .f32)
    (h : ∀ p a, (V (Proc.devRef .tc main_v25) : Vec Ideal S512x1 .f32) (ix2 p a)
      = blend (P (ix2 (img p) (obj p))) (Q (ix1 (obj p))) (seen A (img p) (obj p))) :
    after (post d) V (Proc.devRef .tc main_v100) = ansPri A P Q := by
  funext i
  obtain ⟨b, o, rfl⟩ : ∃ b o, i = ix2 b o := ⟨i 0, i 1, by funext a; match a with | ⟨0, _⟩ => rfl | ⟨1, _⟩ => rfl⟩
  rw [post_cut]
  refine (mixed_pri d _ b o).trans ?_
  rw [place_keeps d _ main_v25 (by decide), sample_keeps d _ main_v25 (by decide), h, img_row b o.isLt, obj_row b o.isLt]
  rfl

theorem bm_of (A : Vec Ideal S32x17x256x256 .f32)
    (hb : ∀ p a, (V (Proc.devRef .tc main_v5) : Vec Ideal S512x1 .f32) (ix2 p a) = seen A (img p) (obj p)) :
    after (post d) V (Proc.devRef .tc main_v101) = ansBm A := by
  funext i
  obtain ⟨b, o, rfl⟩ : ∃ b o, i = ix2 b o := ⟨i 0, i 1, by funext a; match a with | ⟨0, _⟩ => rfl | ⟨1, _⟩ => rfl⟩
  rw [post_cut]
  refine (mixed_bm d _ b o).trans ?_
  rw [place_keeps d _ main_v5 (by decide), sample_keeps d _ main_v5 (by decide), hb, img_row b o.isLt, obj_row b o.isLt]
  rfl

/-! What the contents after the Gumbel noise hold. -/

theorem mid_keeps : ∀ r ∈ [main_v5, main_v14, main_v25], after (mid d) V (Proc.devRef .tc r) = V (Proc.devRef .tc r) := by
  simp only [List.forall_mem_cons, List.not_mem_nil, false_imp_iff, implies_true, and_true]
  refine ⟨?_, ?_, ?_⟩ <;> after_reads_simp

theorem early : ∀ r ∈ [main_v5, main_v14, main_v25], r.idx.val < 58 := by decide

theorem early_keeps (r : Ref sig .tc) (h : r ∈ [main_v5, main_v14, main_v25]) :
    V4 d V (Proc.devRef .tc r) = after (pre d) V (Proc.devRef .tc r) := by
  have l := early r h
  rw [keep4 d V r fun _ => .inl (l.trans (by decide))]
  exact (mid_keeps d _ r h).trans (keep2 d V r fun _ => .inl l)

theorem pre_wrong : after (pre d) V (Proc.devRef .tc main_v30) = wrong (F := Ideal) (V (Proc.devRef .tc main_arg0)) := by
  after_reads_simp
  rfl

theorem mid_logits : after (mid d) V (Proc.devRef .tc main_v53)
    = logits (F := Ideal) (chosen (V (Proc.devRef .tc main_arg0)) (V (Proc.devRef .tc main_v30)) (V (Proc.devRef .tc main_v38))) := by
  after_reads_simp
  rfl

theorem logits_here : V4 d V (Proc.devRef .tc main_v53)
    = logits (F := Ideal) (chosen (V (Proc.devRef .tc main_arg0)) (wrong (F := Ideal) (V (Proc.devRef .tc main_arg0))) (V2 d V (Proc.devRef .tc main_v38))) := by
  rw [keep4 d V main_v53 fun _ => .inl (by decide)]
  refine (mid_logits d _).trans ?_
  rw [kept2 d V main_arg0 (by decide), keep2 d V main_v30 fun _ => .inl (by decide)]
  rw [show V1 d V (Proc.devRef .tc main_v30) = wrong (F := Ideal) (V (Proc.devRef .tc main_arg0)) from pre_wrong d V]

/-! The results. -/

theorem result_pos : after (line d).ops V (Proc.devRef .tc main_v98)
    = ansPos (V (Proc.devRef .tc main_arg1)) (V4 d V (Proc.devRef .tc main_v61))
        (logits (F := Ideal) (chosen (V (Proc.devRef .tc main_arg0)) (wrong (F := Ideal) (V (Proc.devRef .tc main_arg0))) (V2 d V (Proc.devRef .tc main_v38))))
        (V (Proc.devRef .tc main_arg2)) (V (Proc.devRef .tc main_arg5)) (V (Proc.devRef .tc main_arg6)) := by
  rw [after_line]
  refine (pos_of d _ (V (Proc.devRef .tc main_arg1)) fun p a => ?_).trans ?_
  · rw [early_keeps d V main_v5 (by decide)]; exact pre_bm d V p a
  · rw [logits_here, kept4 d V main_arg2 (by decide), kept4 d V main_arg5 (by decide), kept4 d V main_arg6 (by decide)]

theorem result_ges : after (line d).ops V (Proc.devRef .tc main_v99)
    = ansGes (V (Proc.devRef .tc main_arg1)) (V (Proc.devRef .tc main_arg3)) := by
  rw [after_line]
  refine ges_of d _ _ _ fun p l => ?_
  rw [early_keeps d V main_v14 (by decide)]; exact pre_ges d V p l

theorem result_pri : after (line d).ops V (Proc.devRef .tc main_v100)
    = ansPri (V (Proc.devRef .tc main_arg1)) (V (Proc.devRef .tc main_arg4)) (V (Proc.devRef .tc main_arg7)) := by
  rw [after_line]
  refine pri_of d _ _ _ _ fun p a => ?_
  rw [early_keeps d V main_v25 (by decide)]; exact pre_pri d V p a

theorem result_bm : after (line d).ops V (Proc.devRef .tc main_v101) = ansBm (V (Proc.devRef .tc main_arg1)) := by
  rw [after_line]
  refine bm_of d _ _ fun p a => ?_
  rw [early_keeps d V main_v5 (by decide)]; exact pre_bm d V p a

end Cert.Proof.Ref

end
-- ==== Proof.Draws.lean ====
/-
  The two programs draw the same random numbers: their generators start from the same keys and run the same operations.
-/
module

public import proofs.«01_k».proof.Proof.KernelHost
public import proofs.«01_k».proof.Proof.RefSplit

@[expose] public section

set_option maxHeartbeats 4000000
set_option maxRecDepth 8192

noncomputable section

namespace Cert.Proof

open Idealize.ShloMosaic Idealize.ShloMosaic.TcCoe Idealize.ShloMosaic.StableHlo Idealize.SL.Sem Cert.KernelIdeal.Gen

variable {F : FTy → Type} [FloatOps F]
variable (V : Valuation Cert.KernelIdeal.τ Cert.KernelIdeal.sig (Elt F))
variable (d : Dev Cert.ReferenceIdeal.nD) (V' : Valuation Cert.ReferenceIdeal.τ Cert.ReferenceIdeal.sig (Elt F))

/-! The generators' arguments. -/

theorem key_noise : (after hostOps0 V (Proc.devRef .tc Cert.KernelIdeal.main_v6) : Vec F Cert.KernelIdeal.S2 .i32)
    = after (Ref.pre d) V' (Proc.devRef .tc Cert.ReferenceIdeal.main_v37) := by
  after_reads_simp [hostOps0]
  rfl

theorem low_noise : (after hostOps0 V (Proc.devRef .tc Cert.KernelIdeal.main_cst) : Vec F Cert.KernelIdeal.S_ .f32)
    = after (Ref.pre d) V' (Proc.devRef .tc Cert.ReferenceIdeal.main_cst_8) := by
  after_reads_simp [hostOps0]

theorem high_noise : (after hostOps0 V (Proc.devRef .tc Cert.KernelIdeal.main_cst_2) : Vec F Cert.KernelIdeal.S_ .f32)
    = after (Ref.pre d) V' (Proc.devRef .tc Cert.ReferenceIdeal.main_cst_9) := by
  after_reads_simp [hostOps0]

theorem key_gumbel : (after hostOps0_2 V (Proc.devRef .tc Cert.KernelIdeal.main_v14) : Vec F Cert.KernelIdeal.S2 .i32)
    = after (Ref.mid d) V' (Proc.devRef .tc Cert.ReferenceIdeal.main_v60) := by
  after_reads_simp [hostOps0_2]
  rfl

/-! Their results. -/

theorem keeps_self {τ : Topo} {sig : RefSig} {Val : EltTy → Type} (n n' : ℕ) (W : Valuation τ sig Val) : Keeps n n' W W :=
  fun _ _ => rfl

theorem agree_noise : Agree 17 38 20 (Kernel.K1 V) (Ref.V1 d V') :=
  (((Agree.start 17 38 (Kernel.K1 V) (Ref.V1 d V')).push (keeps_self _ _ _) (keeps_self _ _ _)
    (T := Cert.KernelIdeal.main_v6.ty) ⟨Cert.KernelIdeal.main_v6, rfl, by decide, rfl⟩ ⟨Cert.ReferenceIdeal.main_v37, rfl, by decide, rfl⟩ ⟨rfl, rfl⟩ ⟨rfl, rfl⟩ (key_noise V d V')).push
    (keeps_self _ _ _) (keeps_self _ _ _)
    (T := Cert.KernelIdeal.main_cst.ty) ⟨Cert.KernelIdeal.main_cst, rfl, by decide, rfl⟩ ⟨Cert.ReferenceIdeal.main_cst_8, rfl, by decide, rfl⟩ ⟨rfl, rfl⟩ ⟨rfl, rfl⟩ (low_noise V d V')).push
    (keeps_self _ _ _) (keeps_self _ _ _)
    (T := Cert.KernelIdeal.main_cst_2.ty) ⟨Cert.KernelIdeal.main_cst_2, rfl, by decide, rfl⟩ ⟨Cert.ReferenceIdeal.main_cst_9, rfl, by decide, rfl⟩ ⟨rfl, rfl⟩ ⟨rfl, rfl⟩ (high_noise V d V')

theorem agree_gumbel : Agree 301 56 302 (Kernel.K3 V) (Ref.V3 d V') :=
  (Agree.start 301 56 (Kernel.K3 V) (Ref.V3 d V')).push (keeps_self _ _ _) (keeps_self _ _ _)
    (T := Cert.KernelIdeal.main_v14.ty) ⟨Cert.KernelIdeal.main_v14, rfl, by decide, rfl⟩ ⟨Cert.ReferenceIdeal.main_v60, rfl, by decide, rfl⟩ ⟨rfl, rfl⟩ ⟨rfl, rfl⟩ (key_gumbel _ d _)

theorem noise_kept : after hostOps0_2 V (Proc.devRef .tc Cert.KernelIdeal.main_v7) = V (Proc.devRef .tc Cert.KernelIdeal.main_v7) := by
  after_reads_simp [hostOps0_2]

/-- The noise. -/
theorem same_noise : (Kernel.K4 V (Proc.devRef .tc Cert.KernelIdeal.main_v7) : Vec F Cert.KernelIdeal.S32x1x256x256 .f32)
    = Ref.V2 d V' (Proc.devRef .tc Cert.ReferenceIdeal.main_v38) := by
  rw [Kernel.keepK4 V Cert.KernelIdeal.main_v7 fun _ => .inl (by decide)]
  refine (noise_kept _).trans ?_
  exact (shifted_uniform (F := F)).2.2.2 (Kernel.K1 V) (Ref.V1 d V') (agree_noise V d V') _ (.of Cert.KernelIdeal.main_v7)
    (.of Cert.ReferenceIdeal.main_v38) rfl rfl (by decide) (by decide) rfl

/-- The Gumbel noise. -/
theorem same_gumbel : (Kernel.K4 V (Proc.devRef .tc Cert.KernelIdeal.main_v15) : Vec F Cert.KernelIdeal.S16x32x65536 .f32)
    = Ref.V4 d V' (Proc.devRef .tc Cert.ReferenceIdeal.main_v61) := by
  exact (shifted_gumbel (F := F)).2.2.2 (Kernel.K3 V) (Ref.V3 d V') (agree_gumbel V d V') _ (.of Cert.KernelIdeal.main_v15)
    (.of Cert.ReferenceIdeal.main_v61) rfl rfl (by decide) (by decide) rfl

end Cert.Proof

end
-- ==== Proof.Equal.lean ====
/-
  The equation: from equal arguments the kernel and the reference end with equal results.
-/
module

public import proofs.«01_k».proof.Defs
public import proofs.«01_k».proof.Proof.KernelRun
public import proofs.«01_k».proof.Proof.RefAnswer
public import proofs.«01_k».proof.Proof.RefFrame
public import proofs.«01_k».proof.Proof.Draws
public import Idealize.ShloMosaic.Lib.Claim

@[expose] public section

noncomputable section

namespace Cert.Proof

open Idealize.ShloMosaic Idealize.ShloMosaic.TcCoe Idealize.ShloMosaic.StableHlo Idealize.SL.Sem

/-- The reference's results, of the arguments that it was launched with and the numbers that it drew. -/
structure RefResults (A0 : Vec Ideal Cert.KernelIdeal.S32x1x256x256 .f32) (A1 : Vec Ideal Cert.KernelIdeal.S32x17x256x256 .f32)
    (A2 : Vec Ideal Cert.KernelIdeal.S32x64 .f32) (A3 : Vec Ideal Cert.KernelIdeal.S32x4096 .f32)
    (A4 : Vec Ideal Cert.KernelIdeal.S32x16 .f32) (A5 A6 : Vec Ideal Cert.KernelIdeal.S1 .f32) (A7 : Vec Ideal Cert.KernelIdeal.S16 .f32)
    (N : Vec Ideal Cert.KernelIdeal.S32x1x256x256 .f32) (G : Vec Ideal Cert.KernelIdeal.S16x32x65536 .f32)
    (r0 : Vec Ideal Cert.KernelIdeal.S32x64 .f32) (r1 : Vec Ideal Cert.KernelIdeal.S32x4096 .f32)
    (r2 r3 : Vec Ideal Cert.KernelIdeal.S32x16 .f32) : Prop where
  pos : r0 = ansPos A1 G (logits (F := Ideal) (chosen A0 (wrong (F := Ideal) A0) N)) A2 A5 A6
  ges : r1 = ansGes A1 A3
  pri : r2 = ansPri A1 A4 A7
  bm : r3 = ansBm A1

theorem RefResults.of_eq {A0 B0 A1 B1 A2 B2 A3 B3 A4 B4 A5 B5 A6 B6 A7 B7 N G r0 r1 r2 r3}
    (h : RefResults A0 A1 A2 A3 A4 A5 A6 A7 N G r0 r1 r2 r3) (e0 : A0 = B0) (e1 : A1 = B1) (e2 : A2 = B2) (e3 : A3 = B3)
    (e4 : A4 = B4) (e5 : A5 = B5) (e6 : A6 = B6) (e7 : A7 = B7) : RefResults B0 B1 B2 B3 B4 B5 B6 B7 N G r0 r1 r2 r3 := by
  subst e0 e1 e2 e3 e4 e5 e6 e7
  exact h

theorem ref_results (d : Dev Cert.ReferenceIdeal.nD)
    (V : Valuation Cert.ReferenceIdeal.τ Cert.ReferenceIdeal.sig (Elt Ideal))
    (K : Valuation Cert.KernelIdeal.τ Cert.KernelIdeal.sig (Elt Ideal)) :
    RefResults (V (Proc.devRef .tc Cert.ReferenceIdeal.main_arg0)) (V (Proc.devRef .tc Cert.ReferenceIdeal.main_arg1))
      (V (Proc.devRef .tc Cert.ReferenceIdeal.main_arg2)) (V (Proc.devRef .tc Cert.ReferenceIdeal.main_arg3))
      (V (Proc.devRef .tc Cert.ReferenceIdeal.main_arg4)) (V (Proc.devRef .tc Cert.ReferenceIdeal.main_arg5))
      (V (Proc.devRef .tc Cert.ReferenceIdeal.main_arg6)) (V (Proc.devRef .tc Cert.ReferenceIdeal.main_arg7))
      (Kernel.K4 K (Proc.devRef .tc Cert.KernelIdeal.main_v7)) (Kernel.K4 K (Proc.devRef .tc Cert.KernelIdeal.main_v15))
      (after (Ref.line d).ops V (Proc.devRef .tc Cert.ReferenceIdeal.main_v98))
      (after (Ref.line d).ops V (Proc.devRef .tc Cert.ReferenceIdeal.main_v99))
      (after (Ref.line d).ops V (Proc.devRef .tc Cert.ReferenceIdeal.main_v100))
      (after (Ref.line d).ops V (Proc.devRef .tc Cert.ReferenceIdeal.main_v101)) := by
  rw [same_noise K d V, same_gumbel K d V]
  exact ⟨Ref.result_pos d V, Ref.result_ges d V, Ref.result_pri d V, Ref.result_bm d V⟩

theorem algebraic : Cert.algebraic_KernelIdeal_ReferenceIdeal := fun m g m' g' _ hm => by
  refine ⟨
    fun c => ansPos (m ((c.tc : Thread Cert.KernelIdeal.nD Cert.KernelIdeal.τ).loc Cert.KernelIdeal.main_arg1)) (Kernel.gumbels m c)
      (Kernel.logit m c) (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => ansGes (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => ansPri (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg7)),
    fun c => ansBm (m ((c.tc : Thread Cert.KernelIdeal.nD Cert.KernelIdeal.τ).loc Cert.KernelIdeal.main_arg1)),
    (θ_run _ _ _).mono (fun r h c => ?_) (θ_run_and (Kernel.run m g) (Cert.KernelIdeal.Gen.unchanged m g)),
    (θ_run _ _ _).mono (fun r h c => ?_) (Ref.run m' g')⟩
  · obtain ⟨h1, h2⟩ := h
    obtain ⟨p0, p1, p2, p3⟩ := h1 c
    exact ⟨p0, p1, p2, p3, h2 c⟩
  · obtain ⟨e0, e1, e2, e3, e4, e5, e6, e7⟩ := hm c
    have e := (ref_results c (launchContents m' c) (Kernel.start m c)).of_eq e0 e1 e2 e3 e4 e5 e6 e7
    have k := fun r hr => Ref.args_kept m' h c r hr
    refine ⟨?_, ?_, ?_, ?_, k _ (by decide), k _ (by decide), k _ (by decide), k _ (by decide), k _ (by decide), k _ (by decide),
      k _ (by decide), k _ (by decide)⟩
    · exact (h c _).trans e.pos
    · exact (h c _).trans e.ges
    · exact (h c _).trans e.pri
    · exact (h c _).trans e.bm

end Cert.Proof

end
-- ==== Proof.lean ====
/-
  The certificate's claim, put together from the frames of the three programs and from the equation of the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Ref.frame, trivial, algebraic⟩

end Cert.Proof

end
